-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_keys_finite_ones_row [hPre_queries_keys_finite_ones_row : Cert.Pre_queries_keys_finite_ones_row.Facts] (m : (ℓ : Loc Cert.KernelIdeal.nD Cert.KernelIdeal.τ Cert.KernelIdeal.sig) → Buf (Elt Ideal) ℓ) : Prop :=
  ∀ c : Dev Cert.KernelIdeal.nD,
    (Cert.Pre_queries_keys_finite_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_queries_keys_finite_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_keys_finite_ones_row [hPre_queries_keys_finite_ones_row : Cert.Pre_queries_keys_finite_ones_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_keys_finite_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_queries_keys_finite_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpIdeal_squares_up [hPre_squares_up : Cert.Pre_squares_up.Facts] (m : (ℓ : Loc Cert.MlpUpIdeal.nD Cert.MlpUpIdeal.τ Cert.MlpUpIdeal.sig) → Buf (Elt Ideal) ℓ) : Prop :=
  ∀ c : Dev Cert.MlpUpIdeal.nD,
    (Cert.Pre_squares_up.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3))) = (fun _ => 1#1)

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpUpReferenceIdeal_squares_up [hPre_squares_up : Cert.Pre_squares_up.Facts] (m : (ℓ : Loc Cert.MlpUpReferenceIdeal.nD Cert.MlpUpReferenceIdeal.τ Cert.MlpUpReferenceIdeal.sig) → Buf (Elt Ideal) ℓ) : Prop :=
  ∀ c : Dev Cert.MlpUpReferenceIdeal.nD,
    (Cert.Pre_squares_up.fn (F := Ideal) (m ((c.tc : Thread Cert.MlpUpReferenceIdeal.nD Cert.MlpUpReferenceIdeal.τ).loc Cert.MlpUpReferenceIdeal.main_arg0)) (m ((c.tc : Thread Cert.MlpUpReferenceIdeal.nD Cert.MlpUpReferenceIdeal.τ).loc Cert.MlpUpReferenceIdeal.main_arg1)) (m ((c.tc : Thread Cert.MlpUpReferenceIdeal.nD Cert.MlpUpReferenceIdeal.τ).loc Cert.MlpUpReferenceIdeal.main_arg2)) (m ((c.tc : Thread Cert.MlpUpReferenceIdeal.nD Cert.MlpUpReferenceIdeal.τ).loc Cert.MlpUpReferenceIdeal.main_arg3))) = (fun _ => 1#1)

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_squares_in [hPre_squares_in : Cert.Pre_squares_in.Facts] (m : (ℓ : Loc Cert.InProjIdeal.nD Cert.InProjIdeal.τ Cert.InProjIdeal.sig) → Buf (Elt Ideal) ℓ) : Prop :=
  ∀ c : Dev Cert.InProjIdeal.nD,
    (Cert.Pre_squares_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_squares_in [hPre_squares_in : Cert.Pre_squares_in.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_squares_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateIdeal_squares_gate [hPre_squares_gate : Cert.Pre_squares_gate.Facts] (m : (ℓ : Loc Cert.PleGateIdeal.nD Cert.PleGateIdeal.τ Cert.PleGateIdeal.sig) → Buf (Elt Ideal) ℓ) : Prop :=
  ∀ c : Dev Cert.PleGateIdeal.nD,
    (Cert.Pre_squares_gate.fn (F := Ideal) (m ((c.tc : Thread Cert.PleGateIdeal.nD Cert.PleGateIdeal.τ).loc Cert.PleGateIdeal.main_arg0)) (m ((c.tc : Thread Cert.PleGateIdeal.nD Cert.PleGateIdeal.τ).loc Cert.PleGateIdeal.main_arg1)) (m ((c.tc : Thread Cert.PleGateIdeal.nD Cert.PleGateIdeal.τ).loc Cert.PleGateIdeal.main_arg2)) (m ((c.tc : Thread Cert.PleGateIdeal.nD Cert.PleGateIdeal.τ).loc Cert.PleGateIdeal.main_arg3)) (m ((c.tc : Thread Cert.PleGateIdeal.nD Cert.PleGateIdeal.τ).loc Cert.PleGateIdeal.main_arg4))) = (fun _ => 1#1)

def Pre_PleGateReferenceIdeal (m : (ℓ : Loc Cert.PleGateReferenceIdeal.nD Cert.PleGateReferenceIdeal.τ Cert.PleGateReferenceIdeal.sig) → Buf (Elt Ideal) ℓ) : Prop :=
  True

def Pre_PleGateReferenceIdeal_squares_gate [hPre_squares_gate : Cert.Pre_squares_gate.Facts] (m : (ℓ : Loc Cert.PleGateReferenceIdeal.nD Cert.PleGateReferenceIdeal.τ Cert.PleGateReferenceIdeal.sig) → Buf (Elt Ideal) ℓ) : Prop :=
  ∀ c : Dev Cert.PleGateReferenceIdeal.nD,
    (Cert.Pre_squares_gate.fn (F := Ideal) (m ((c.tc : Thread Cert.PleGateReferenceIdeal.nD Cert.PleGateReferenceIdeal.τ).loc Cert.PleGateReferenceIdeal.main_arg0)) (m ((c.tc : Thread Cert.PleGateReferenceIdeal.nD Cert.PleGateReferenceIdeal.τ).loc Cert.PleGateReferenceIdeal.main_arg1)) (m ((c.tc : Thread Cert.PleGateReferenceIdeal.nD Cert.PleGateReferenceIdeal.τ).loc Cert.PleGateReferenceIdeal.main_arg2)) (m ((c.tc : Thread Cert.PleGateReferenceIdeal.nD Cert.PleGateReferenceIdeal.τ).loc Cert.PleGateReferenceIdeal.main_arg3)) (m ((c.tc : Thread Cert.PleGateReferenceIdeal.nD Cert.PleGateReferenceIdeal.τ).loc Cert.PleGateReferenceIdeal.main_arg4))) = (fun _ => 1#1)

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_queries_keys_finite_ones_row [hKernelIdeal : Cert.KernelIdeal.Facts] [hPre_queries_keys_finite_ones_row : Cert.Pre_queries_keys_finite_ones_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_keys_finite_ones_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_queries_keys_finite_ones_row [hReferenceIdeal : Cert.ReferenceIdeal.Facts] [hPre_queries_keys_finite_ones_row : Cert.Pre_queries_keys_finite_ones_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_keys_finite_ones_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2)
      ∧ r.2.mem ((c.tc : Thread Cert.MlpUp.nD Cert.MlpUp.τ).loc Cert.MlpUp.main_arg3) = m ((c.tc : Thread Cert.MlpUp.nD Cert.MlpUp.τ).loc Cert.MlpUp.main_arg3))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3))
      ∧ r.2.sem = fun _ => 0)

def quiescent_MlpUpIdeal_pre_squares_up [hMlpUpIdeal : Cert.MlpUpIdeal.Facts] [hPre_squares_up : Cert.Pre_squares_up.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal_squares_up m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1)
      ∧ r.2.mem ((c.tc : Thread Cert.MlpUpReferenceIdeal.nD Cert.MlpUpReferenceIdeal.τ).loc Cert.MlpUpReferenceIdeal.main_arg2) = m ((c.tc : Thread Cert.MlpUpReferenceIdeal.nD Cert.MlpUpReferenceIdeal.τ).loc Cert.MlpUpReferenceIdeal.main_arg2)
      ∧ r.2.mem ((c.tc : Thread Cert.MlpUpReferenceIdeal.nD Cert.MlpUpReferenceIdeal.τ).loc Cert.MlpUpReferenceIdeal.main_arg3) = m ((c.tc : Thread Cert.MlpUpReferenceIdeal.nD Cert.MlpUpReferenceIdeal.τ).loc Cert.MlpUpReferenceIdeal.main_arg3))
      ∧ r.2.sem = fun _ => 0)

def quiescent_MlpUpReferenceIdeal_pre_squares_up [hMlpUpReferenceIdeal : Cert.MlpUpReferenceIdeal.Facts] [hPre_squares_up : Cert.Pre_squares_up.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal_squares_up m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1)
      ∧ r.2.mem ((c.tc : Thread Cert.MlpUpReferenceIdeal.nD Cert.MlpUpReferenceIdeal.τ).loc Cert.MlpUpReferenceIdeal.main_arg2) = m ((c.tc : Thread Cert.MlpUpReferenceIdeal.nD Cert.MlpUpReferenceIdeal.τ).loc Cert.MlpUpReferenceIdeal.main_arg2)
      ∧ r.2.mem ((c.tc : Thread Cert.MlpUpReferenceIdeal.nD Cert.MlpUpReferenceIdeal.τ).loc Cert.MlpUpReferenceIdeal.main_arg3) = m ((c.tc : Thread Cert.MlpUpReferenceIdeal.nD Cert.MlpUpReferenceIdeal.τ).loc Cert.MlpUpReferenceIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2)
      ∧ r.2.mem ((c.tc : Thread Cert.MlpDownReferenceIdeal.nD Cert.MlpDownReferenceIdeal.τ).loc Cert.MlpDownReferenceIdeal.main_arg3) = m ((c.tc : Thread Cert.MlpDownReferenceIdeal.nD Cert.MlpDownReferenceIdeal.τ).loc Cert.MlpDownReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjIdeal_pre_squares_in [hInProjIdeal : Cert.InProjIdeal.Facts] [hPre_squares_in : Cert.Pre_squares_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_squares_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_InProjReferenceIdeal_pre_squares_in [hInProjReferenceIdeal : Cert.InProjReferenceIdeal.Facts] [hPre_squares_in : Cert.Pre_squares_in.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_squares_in m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2)
      ∧ r.2.mem ((c.tc : Thread Cert.PleGate.nD Cert.PleGate.τ).loc Cert.PleGate.main_arg3) = m ((c.tc : Thread Cert.PleGate.nD Cert.PleGate.τ).loc Cert.PleGate.main_arg3)
      ∧ r.2.mem ((c.tc : Thread Cert.PleGate.nD Cert.PleGate.τ).loc Cert.PleGate.main_arg4) = m ((c.tc : Thread Cert.PleGate.nD Cert.PleGate.τ).loc Cert.PleGate.main_arg4))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
      ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3)
      ∧ r.2.mem ((c.tc : Thread Cert.PleGateIdeal.nD Cert.PleGateIdeal.τ).loc Cert.PleGateIdeal.main_arg4) = m ((c.tc : Thread Cert.PleGateIdeal.nD Cert.PleGateIdeal.τ).loc Cert.PleGateIdeal.main_arg4))
      ∧ r.2.sem = fun _ => 0)

def quiescent_PleGateIdeal_pre_squares_gate [hPleGateIdeal : Cert.PleGateIdeal.Facts] [hPre_squares_gate : Cert.Pre_squares_gate.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal_squares_gate m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
      ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3)
      ∧ r.2.mem ((c.tc : Thread Cert.PleGateIdeal.nD Cert.PleGateIdeal.τ).loc Cert.PleGateIdeal.main_arg4) = m ((c.tc : Thread Cert.PleGateIdeal.nD Cert.PleGateIdeal.τ).loc Cert.PleGateIdeal.main_arg4))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1)
      ∧ r.2.mem ((c.tc : Thread Cert.PleGateReferenceIdeal.nD Cert.PleGateReferenceIdeal.τ).loc Cert.PleGateReferenceIdeal.main_arg2) = m ((c.tc : Thread Cert.PleGateReferenceIdeal.nD Cert.PleGateReferenceIdeal.τ).loc Cert.PleGateReferenceIdeal.main_arg2)
      ∧ r.2.mem ((c.tc : Thread Cert.PleGateReferenceIdeal.nD Cert.PleGateReferenceIdeal.τ).loc Cert.PleGateReferenceIdeal.main_arg3) = m ((c.tc : Thread Cert.PleGateReferenceIdeal.nD Cert.PleGateReferenceIdeal.τ).loc Cert.PleGateReferenceIdeal.main_arg3)
      ∧ r.2.mem ((c.tc : Thread Cert.PleGateReferenceIdeal.nD Cert.PleGateReferenceIdeal.τ).loc Cert.PleGateReferenceIdeal.main_arg4) = m ((c.tc : Thread Cert.PleGateReferenceIdeal.nD Cert.PleGateReferenceIdeal.τ).loc Cert.PleGateReferenceIdeal.main_arg4))
      ∧ r.2.sem = fun _ => 0)

def quiescent_PleGateReferenceIdeal_pre_squares_gate [hPleGateReferenceIdeal : Cert.PleGateReferenceIdeal.Facts] [hPre_squares_gate : Cert.Pre_squares_gate.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal_squares_gate m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1)
      ∧ r.2.mem ((c.tc : Thread Cert.PleGateReferenceIdeal.nD Cert.PleGateReferenceIdeal.τ).loc Cert.PleGateReferenceIdeal.main_arg2) = m ((c.tc : Thread Cert.PleGateReferenceIdeal.nD Cert.PleGateReferenceIdeal.τ).loc Cert.PleGateReferenceIdeal.main_arg2)
      ∧ r.2.mem ((c.tc : Thread Cert.PleGateReferenceIdeal.nD Cert.PleGateReferenceIdeal.τ).loc Cert.PleGateReferenceIdeal.main_arg3) = m ((c.tc : Thread Cert.PleGateReferenceIdeal.nD Cert.PleGateReferenceIdeal.τ).loc Cert.PleGateReferenceIdeal.main_arg3)
      ∧ r.2.mem ((c.tc : Thread Cert.PleGateReferenceIdeal.nD Cert.PleGateReferenceIdeal.τ).loc Cert.PleGateReferenceIdeal.main_arg4) = m ((c.tc : Thread Cert.PleGateReferenceIdeal.nD Cert.PleGateReferenceIdeal.τ).loc Cert.PleGateReferenceIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def preserves_Kernel_KernelIdeal : Prop :=
  True

def algebraic_KernelIdeal_ReferenceIdeal_pre_queries_keys_finite_ones_row [hKernelIdeal : Cert.KernelIdeal.Facts] [hReferenceIdeal : Cert.ReferenceIdeal.Facts] [hPre_queries_keys_finite_ones_row : Cert.Pre_queries_keys_finite_ones_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_keys_finite_ones_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MlpUp_MlpUpIdeal : Prop :=
  True

def algebraic_MlpUpIdeal_MlpUpReferenceIdeal_pre_squares_up [hMlpUpIdeal : Cert.MlpUpIdeal.Facts] [hMlpUpReferenceIdeal : Cert.MlpUpReferenceIdeal.Facts] [hPre_squares_up : Cert.Pre_squares_up.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal_squares_up m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)
      ∧ m' ((c.tc : Thread Cert.MlpUpReferenceIdeal.nD Cert.MlpUpReferenceIdeal.τ).loc Cert.MlpUpReferenceIdeal.main_arg2) = m ((c.tc : Thread Cert.MlpUpIdeal.nD Cert.MlpUpIdeal.τ).loc Cert.MlpUpIdeal.main_arg2)
      ∧ m' ((c.tc : Thread Cert.MlpUpReferenceIdeal.nD Cert.MlpUpReferenceIdeal.τ).loc Cert.MlpUpReferenceIdeal.main_arg3) = m ((c.tc : Thread Cert.MlpUpIdeal.nD Cert.MlpUpIdeal.τ).loc Cert.MlpUpIdeal.main_arg3)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
          ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v14) = v0 c
          ∧ r.2.mem ((c.tc : Thread Cert.MlpUpReferenceIdeal.nD Cert.MlpUpReferenceIdeal.τ).loc Cert.MlpUpReferenceIdeal.main_v15) = v1 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1)
          ∧ r.2.mem ((c.tc : Thread Cert.MlpUpReferenceIdeal.nD Cert.MlpUpReferenceIdeal.τ).loc Cert.MlpUpReferenceIdeal.main_arg2) = m' ((c.tc : Thread Cert.MlpUpReferenceIdeal.nD Cert.MlpUpReferenceIdeal.τ).loc Cert.MlpUpReferenceIdeal.main_arg2)
          ∧ r.2.mem ((c.tc : Thread Cert.MlpUpReferenceIdeal.nD Cert.MlpUpReferenceIdeal.τ).loc Cert.MlpUpReferenceIdeal.main_arg3) = m' ((c.tc : Thread Cert.MlpUpReferenceIdeal.nD Cert.MlpUpReferenceIdeal.τ).loc Cert.MlpUpReferenceIdeal.main_arg3))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)
      ∧ m' ((c.tc : Thread Cert.MlpDownReferenceIdeal.nD Cert.MlpDownReferenceIdeal.τ).loc Cert.MlpDownReferenceIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v1_0)) (v1 : (c : Dev Cert.MlpDownIdeal.nD) → Buf (Elt Ideal) ((c.tc : Thread Cert.MlpDownIdeal.nD Cert.MlpDownIdeal.τ).loc Cert.MlpDownIdeal.main_v1_1)) (v2 : (c : Dev Cert.MlpDownIdeal.nD) → Buf (Elt Ideal) ((c.tc : Thread Cert.MlpDownIdeal.nD Cert.MlpDownIdeal.τ).loc Cert.MlpDownIdeal.main_v1_2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v1_0) = v0 c
          ∧ r.2.mem ((c.tc : Thread Cert.MlpDownIdeal.nD Cert.MlpDownIdeal.τ).loc Cert.MlpDownIdeal.main_v1_1) = v1 c
          ∧ r.2.mem ((c.tc : Thread Cert.MlpDownIdeal.nD Cert.MlpDownIdeal.τ).loc Cert.MlpDownIdeal.main_v1_2) = v2 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v3) = v0 c
          ∧ r.2.mem ((c.tc : Thread Cert.MlpDownReferenceIdeal.nD Cert.MlpDownReferenceIdeal.τ).loc Cert.MlpDownReferenceIdeal.main_v10) = v1 c
          ∧ r.2.mem ((c.tc : Thread Cert.MlpDownReferenceIdeal.nD Cert.MlpDownReferenceIdeal.τ).loc Cert.MlpDownReferenceIdeal.main_v11) = v2 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2)
          ∧ r.2.mem ((c.tc : Thread Cert.MlpDownReferenceIdeal.nD Cert.MlpDownReferenceIdeal.τ).loc Cert.MlpDownReferenceIdeal.main_arg3) = m' ((c.tc : Thread Cert.MlpDownReferenceIdeal.nD Cert.MlpDownReferenceIdeal.τ).loc Cert.MlpDownReferenceIdeal.main_arg3))

def preserves_InProj_InProjIdeal : Prop :=
  True

def algebraic_InProjIdeal_InProjReferenceIdeal_pre_squares_in [hInProjIdeal : Cert.InProjIdeal.Facts] [hInProjReferenceIdeal : Cert.InProjReferenceIdeal.Facts] [hPre_squares_in : Cert.Pre_squares_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_squares_in m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v11) = v0 c
          ∧ r.2.mem ((c.tc : Thread Cert.InProjReferenceIdeal.nD Cert.InProjReferenceIdeal.τ).loc Cert.InProjReferenceIdeal.main_v12) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)) (v2 : (c : Dev Cert.OutProjIdeal.nD) → Buf (Elt Ideal) ((c.tc : Thread Cert.OutProjIdeal.nD Cert.OutProjIdeal.τ).loc Cert.OutProjIdeal.main_v1_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_v1_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_v12) = v1 c
          ∧ r.2.mem ((c.tc : Thread Cert.OutProjReferenceIdeal.nD Cert.OutProjReferenceIdeal.τ).loc Cert.OutProjReferenceIdeal.main_v13) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_PleGate_PleGateIdeal : Prop :=
  True

def algebraic_PleGateIdeal_PleGateReferenceIdeal_pre_squares_gate [hPleGateIdeal : Cert.PleGateIdeal.Facts] [hPleGateReferenceIdeal : Cert.PleGateReferenceIdeal.Facts] [hPre_squares_gate : Cert.Pre_squares_gate.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateIdeal_squares_gate m →
    (∀ c : Dev Cert.PleGateIdeal.nD,
      m' ((c.tc : Thread Cert.PleGateReferenceIdeal.nD Cert.PleGateReferenceIdeal.τ).loc Cert.PleGateReferenceIdeal.main_arg0) = m ((c.tc : Thread Cert.PleGateIdeal.nD Cert.PleGateIdeal.τ).loc Cert.PleGateIdeal.main_arg0)
      ∧ m' ((c.tc : Thread Cert.PleGateReferenceIdeal.nD Cert.PleGateReferenceIdeal.τ).loc Cert.PleGateReferenceIdeal.main_arg1) = m ((c.tc : Thread Cert.PleGateIdeal.nD Cert.PleGateIdeal.τ).loc Cert.PleGateIdeal.main_arg1)
      ∧ m' ((c.tc : Thread Cert.PleGateReferenceIdeal.nD Cert.PleGateReferenceIdeal.τ).loc Cert.PleGateReferenceIdeal.main_arg2) = m ((c.tc : Thread Cert.PleGateIdeal.nD Cert.PleGateIdeal.τ).loc Cert.PleGateIdeal.main_arg2)
      ∧ m' ((c.tc : Thread Cert.PleGateReferenceIdeal.nD Cert.PleGateReferenceIdeal.τ).loc Cert.PleGateReferenceIdeal.main_arg3) = m ((c.tc : Thread Cert.PleGateIdeal.nD Cert.PleGateIdeal.τ).loc Cert.PleGateIdeal.main_arg3)
      ∧ m' ((c.tc : Thread Cert.PleGateReferenceIdeal.nD Cert.PleGateReferenceIdeal.τ).loc Cert.PleGateReferenceIdeal.main_arg4) = m ((c.tc : Thread Cert.PleGateIdeal.nD Cert.PleGateIdeal.τ).loc Cert.PleGateIdeal.main_arg4)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
          ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3)
          ∧ r.2.mem ((c.tc : Thread Cert.PleGateIdeal.nD Cert.PleGateIdeal.τ).loc Cert.PleGateIdeal.main_arg4) = m ((c.tc : Thread Cert.PleGateIdeal.nD Cert.PleGateIdeal.τ).loc Cert.PleGateIdeal.main_arg4))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v18) = v0 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1)
          ∧ r.2.mem ((c.tc : Thread Cert.PleGateReferenceIdeal.nD Cert.PleGateReferenceIdeal.τ).loc Cert.PleGateReferenceIdeal.main_arg2) = m' ((c.tc : Thread Cert.PleGateReferenceIdeal.nD Cert.PleGateReferenceIdeal.τ).loc Cert.PleGateReferenceIdeal.main_arg2)
          ∧ r.2.mem ((c.tc : Thread Cert.PleGateReferenceIdeal.nD Cert.PleGateReferenceIdeal.τ).loc Cert.PleGateReferenceIdeal.main_arg3) = m' ((c.tc : Thread Cert.PleGateReferenceIdeal.nD Cert.PleGateReferenceIdeal.τ).loc Cert.PleGateReferenceIdeal.main_arg3)
          ∧ r.2.mem ((c.tc : Thread Cert.PleGateReferenceIdeal.nD Cert.PleGateReferenceIdeal.τ).loc Cert.PleGateReferenceIdeal.main_arg4) = m' ((c.tc : Thread Cert.PleGateReferenceIdeal.nD Cert.PleGateReferenceIdeal.τ).loc Cert.PleGateReferenceIdeal.main_arg4))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v12) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpReferenceIdeal : Cert.MlpUpReferenceIdeal.Facts) (hMlpDown : Cert.MlpDown.Facts) (hMlpDownIdeal : Cert.MlpDownIdeal.Facts) (hMlpDownReferenceIdeal : Cert.MlpDownReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPleGate : Cert.PleGate.Facts) (hPleGateIdeal : Cert.PleGateIdeal.Facts) (hPleGateReferenceIdeal : Cert.PleGateReferenceIdeal.Facts) (hFinalNorm : Cert.FinalNorm.Facts) (hFinalNormIdeal : Cert.FinalNormIdeal.Facts) (hFinalNormReferenceIdeal : Cert.FinalNormReferenceIdeal.Facts) (hPre_queries_keys_finite_ones_row : Cert.Pre_queries_keys_finite_ones_row.Facts) (hPre_squares_up : Cert.Pre_squares_up.Facts) (hPre_squares_in : Cert.Pre_squares_in.Facts) (hPre_squares_gate : Cert.Pre_squares_gate.Facts),
    quiescent_Kernel (hKernel := hKernel)
    ∧ quiescent_KernelIdeal (hKernelIdeal := hKernelIdeal)
    ∧ quiescent_KernelIdeal_pre_queries_keys_finite_ones_row (hKernelIdeal := hKernelIdeal) (hPre_queries_keys_finite_ones_row := hPre_queries_keys_finite_ones_row)
    ∧ quiescent_ReferenceIdeal (hReferenceIdeal := hReferenceIdeal)
    ∧ quiescent_ReferenceIdeal_pre_queries_keys_finite_ones_row (hReferenceIdeal := hReferenceIdeal) (hPre_queries_keys_finite_ones_row := hPre_queries_keys_finite_ones_row)
    ∧ quiescent_MlpUp (hMlpUp := hMlpUp)
    ∧ quiescent_MlpUpIdeal (hMlpUpIdeal := hMlpUpIdeal)
    ∧ quiescent_MlpUpIdeal_pre_squares_up (hMlpUpIdeal := hMlpUpIdeal) (hPre_squares_up := hPre_squares_up)
    ∧ quiescent_MlpUpReferenceIdeal (hMlpUpReferenceIdeal := hMlpUpReferenceIdeal)
    ∧ quiescent_MlpUpReferenceIdeal_pre_squares_up (hMlpUpReferenceIdeal := hMlpUpReferenceIdeal) (hPre_squares_up := hPre_squares_up)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_InProj (hInProj := hInProj)
    ∧ quiescent_InProjIdeal (hInProjIdeal := hInProjIdeal)
    ∧ quiescent_InProjIdeal_pre_squares_in (hInProjIdeal := hInProjIdeal) (hPre_squares_in := hPre_squares_in)
    ∧ quiescent_InProjReferenceIdeal (hInProjReferenceIdeal := hInProjReferenceIdeal)
    ∧ quiescent_InProjReferenceIdeal_pre_squares_in (hInProjReferenceIdeal := hInProjReferenceIdeal) (hPre_squares_in := hPre_squares_in)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_PleGate (hPleGate := hPleGate)
    ∧ quiescent_PleGateIdeal (hPleGateIdeal := hPleGateIdeal)
    ∧ quiescent_PleGateIdeal_pre_squares_gate (hPleGateIdeal := hPleGateIdeal) (hPre_squares_gate := hPre_squares_gate)
    ∧ quiescent_PleGateReferenceIdeal (hPleGateReferenceIdeal := hPleGateReferenceIdeal)
    ∧ quiescent_PleGateReferenceIdeal_pre_squares_gate (hPleGateReferenceIdeal := hPleGateReferenceIdeal) (hPre_squares_gate := hPre_squares_gate)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ preserves_Kernel_KernelIdeal
    ∧ algebraic_KernelIdeal_ReferenceIdeal_pre_queries_keys_finite_ones_row (hKernelIdeal := hKernelIdeal) (hReferenceIdeal := hReferenceIdeal) (hPre_queries_keys_finite_ones_row := hPre_queries_keys_finite_ones_row)
    ∧ preserves_MlpUp_MlpUpIdeal
    ∧ algebraic_MlpUpIdeal_MlpUpReferenceIdeal_pre_squares_up (hMlpUpIdeal := hMlpUpIdeal) (hMlpUpReferenceIdeal := hMlpUpReferenceIdeal) (hPre_squares_up := hPre_squares_up)
    ∧ preserves_MlpDown_MlpDownIdeal
    ∧ algebraic_MlpDownIdeal_MlpDownReferenceIdeal (hMlpDownIdeal := hMlpDownIdeal) (hMlpDownReferenceIdeal := hMlpDownReferenceIdeal)
    ∧ preserves_InProj_InProjIdeal
    ∧ algebraic_InProjIdeal_InProjReferenceIdeal_pre_squares_in (hInProjIdeal := hInProjIdeal) (hInProjReferenceIdeal := hInProjReferenceIdeal) (hPre_squares_in := hPre_squares_in)
    ∧ preserves_OutProj_OutProjIdeal
    ∧ algebraic_OutProjIdeal_OutProjReferenceIdeal (hOutProjIdeal := hOutProjIdeal) (hOutProjReferenceIdeal := hOutProjReferenceIdeal)
    ∧ preserves_PleGate_PleGateIdeal
    ∧ algebraic_PleGateIdeal_PleGateReferenceIdeal_pre_squares_gate (hPleGateIdeal := hPleGateIdeal) (hPleGateReferenceIdeal := hPleGateReferenceIdeal) (hPre_squares_gate := hPre_squares_gate)
    ∧ preserves_FinalNorm_FinalNormIdeal
    ∧ algebraic_FinalNormIdeal_FinalNormReferenceIdeal (hFinalNormIdeal := hFinalNormIdeal) (hFinalNormReferenceIdeal := hFinalNormReferenceIdeal)
-- ==== Pre_queries_keys_finite_ones_row.lean ====
abbrev S16384x4096 : Shape := ⟨2, ![16384, 4096]⟩
abbrev S2304x16384 : Shape := ⟨2, ![2304, 16384]⟩
abbrev S4096x4096 : Shape := ⟨2, ![4096, 4096]⟩
abbrev S16x144x16384 : Shape := ⟨3, ![16, 144, 16384]⟩
abbrev S16x1x16384 : Shape := ⟨3, ![16, 1, 16384]⟩
abbrev S16x16384 : Shape := ⟨2, ![16, 16384]⟩
abbrev S_ : Shape := ⟨0, ![]⟩

class Facts : Prop where
  bitsLt_bf16_f32 : FTy.bits .bf16 < FTy.bits .f32
  shapeCasts_S2304x16384_S16x144x16384 : S2304x16384.ShapeCasts S16x144x16384
  slices_S16x144x16384_S16x1x16384_0_128_0 : S16x144x16384.Slices ![0, 128, 0] S16x1x16384
  shapeCasts_S16x1x16384_S16x16384 : S16x1x16384.ShapeCasts S16x16384
  bcast_S_S16384x4096 : S_.BroadcastsInDim S16384x4096 (![] : Fin 0 → Fin S16384x4096.rank)
  bcast_S_S16x16384 : S_.BroadcastsInDim S16x16384 (![] : Fin 0 → Fin S16x16384.rank)

variable [Facts]

def fn {F : FTy → Type} [FloatOps F] (main_arg0 : FVec F S16384x4096 .bf16) (main_arg1 : FVec F S16384x4096 .bf16) (main_arg2 : FVec F S2304x16384 .bf16) (main_arg3 : FVec F S4096x4096 .f32) (main_arg4 : FVec F S4096x4096 .f32) : IVec S16384x4096 1 × IVec S16x16384 1 :=
  let main_v0 : FVec F S16384x4096 .f32 := (extf .f32 · bitsLt_bf16_f32) main_arg0
  let main_v1 : FVec F S16384x4096 .f32 := (extf .f32 · bitsLt_bf16_f32) main_arg1
  let main_v2 : FVec F S2304x16384 .f32 := (extf .f32 · bitsLt_bf16_f32) main_arg2
  let main_v3 : FVec F S16x144x16384 .f32 := shapeCast S16x144x16384 main_v2 shapeCasts_S2304x16384_S16x144x16384
  let main_v4 : FVec F S16x1x16384 .f32 := (extractStridedSlice S16x1x16384 ![0, 128, 0] · slices_S16x144x16384_S16x1x16384_0_128_0) main_v3
  let main_v5 : FVec F S16x16384 .f32 := shapeCast S16x16384 main_v4 shapeCasts_S16x1x16384_S16x16384
  let main_cst : FVec F S_ .f32 := constant S_ .f32 0xFF800000#32
  let main_v6 : FVec F S16384x4096 .f32 := broadcastInDim S16384x4096 ![] bcast_S_S16384x4096 main_cst
  let main_v7 : IVec S16384x4096 1 := cmpf .ogt main_v0 main_v6
  let main_cst_0 : FVec F S_ .f32 := constant S_ .f32 0x7F800000#32
  let main_v8 : FVec F S16384x4096 .f32 := broadcastInDim S16384x4096 ![] bcast_S_S16384x4096 main_cst_0
  let main_v9 : IVec S16384x4096 1 := cmpf .olt main_v0 main_v8
  let main_v10 : IVec S16384x4096 1 := andi main_v7 main_v9
  let main_cst_1 : FVec F S_ .f32 := constant S_ .f32 0xFF800000#32
  let main_v11 : FVec F S16384x4096 .f32 := broadcastInDim S16384x4096 ![] bcast_S_S16384x4096 main_cst_1
  let main_v12 : IVec S16384x4096 1 := cmpf .ogt main_v1 main_v11
  let main_v13 : IVec S16384x4096 1 := andi main_v10 main_v12
  let main_cst_2 : FVec F S_ .f32 := constant S_ .f32 0x7F800000#32
  let main_v14 : FVec F S16384x4096 .f32 := broadcastInDim S16384x4096 ![] bcast_S_S16384x4096 main_cst_2
  let main_v15 : IVec S16384x4096 1 := cmpf .olt main_v1 main_v14
  let main_v16 : IVec S16384x4096 1 := andi main_v13 main_v15
  let main_cst_3 : FVec F S_ .f32 := constant S_ .f32 0x3F800000#32
  let main_v17 : FVec F S16x16384 .f32 := broadcastInDim S16x16384 ![] bcast_S_S16x16384 main_cst_3
  let main_v18 : IVec S16x16384 1 := cmpf .oeq main_v5 main_v17
  (main_v16, main_v18)
-- ==== Pre_squares_gate.lean ====
abbrev S16384x4096 : Shape := ⟨2, ![16384, 4096]⟩
abbrev S16384x128 : Shape := ⟨2, ![16384, 128]⟩
abbrev S4096x4096 : Shape := ⟨2, ![4096, 4096]⟩
abbrev S16384x1 : Shape := ⟨2, ![16384, 1]⟩
abbrev S_ : Shape := ⟨0, ![]⟩

class Facts : Prop where
  slices_S16384x128_S16384x1_0_0 : S16384x128.Slices ![0, 0] S16384x1
  bcast_S_S16384x1 : S_.BroadcastsInDim S16384x1 (![] : Fin 0 → Fin S16384x1.rank)

variable [Facts]

def fn {F : FTy → Type} [FloatOps F] (main_arg0 : FVec F S16384x4096 .bf16) (main_arg1 : FVec F S16384x128 .f32) (main_arg2 : FVec F S4096x4096 .bf16) (main_arg3 : FVec F S16384x4096 .f32) (main_arg4 : FVec F S16384x4096 .f32) : IVec S16384x1 1 :=
  let main_v0 : FVec F S16384x1 .f32 := (extractStridedSlice S16384x1 ![0, 0] · slices_S16384x128_S16384x1_0_0) main_arg1
  let main_cst : FVec F S_ .f32 := constant S_ .f32 0x00000000#32
  let main_v1 : FVec F S16384x1 .f32 := broadcastInDim S16384x1 ![] bcast_S_S16384x1 main_cst
  let main_v2 : IVec S16384x1 1 := cmpf .oge main_v0 main_v1
  main_v2
-- ==== Pre_squares_in.lean ====
abbrev S16384x4096 : Shape := ⟨2, ![16384, 4096]⟩
abbrev S16384x128 : Shape := ⟨2, ![16384, 128]⟩
abbrev S8192x4096 : Shape := ⟨2, ![8192, 4096]⟩
abbrev S4096x16384 : Shape := ⟨2, ![4096, 16384]⟩
abbrev S16384x1 : Shape := ⟨2, ![16384, 1]⟩
abbrev S_ : Shape := ⟨0, ![]⟩

class Facts : Prop where
  slices_S16384x128_S16384x1_0_0 : S16384x128.Slices ![0, 0] S16384x1
  bcast_S_S16384x1 : S_.BroadcastsInDim S16384x1 (![] : Fin 0 → Fin S16384x1.rank)

variable [Facts]

def fn {F : FTy → Type} [FloatOps F] (main_arg0 : FVec F S16384x4096 .bf16) (main_arg1 : FVec F S16384x128 .f32) (main_arg2 : FVec F S8192x4096 .bf16) (main_arg3 : FVec F S4096x16384 .f32) : IVec S16384x1 1 :=
  let main_v0 : FVec F S16384x1 .f32 := (extractStridedSlice S16384x1 ![0, 0] · slices_S16384x128_S16384x1_0_0) main_arg1
  let main_cst : FVec F S_ .f32 := constant S_ .f32 0x00000000#32
  let main_v1 : FVec F S16384x1 .f32 := broadcastInDim S16384x1 ![] bcast_S_S16384x1 main_cst
  let main_v2 : IVec S16384x1 1 := cmpf .oge main_v0 main_v1
  main_v2
-- ==== Pre_squares_up.lean ====
abbrev S16384x4096 : Shape := ⟨2, ![16384, 4096]⟩
abbrev S16384x128 : Shape := ⟨2, ![16384, 128]⟩
abbrev S4096x16384 : Shape := ⟨2, ![4096, 16384]⟩
abbrev S16384x1 : Shape := ⟨2, ![16384, 1]⟩
abbrev S_ : Shape := ⟨0, ![]⟩

class Facts : Prop where
  slices_S16384x128_S16384x1_0_0 : S16384x128.Slices ![0, 0] S16384x1
  bcast_S_S16384x1 : S_.BroadcastsInDim S16384x1 (![] : Fin 0 → Fin S16384x1.rank)

variable [Facts]

def fn {F : FTy → Type} [FloatOps F] (main_arg0 : FVec F S16384x4096 .bf16) (main_arg1 : FVec F S16384x128 .f32) (main_arg2 : FVec F S4096x16384 .bf16) (main_arg3 : FVec F S16384x4096 .f32) : IVec S16384x1 1 :=
  let main_v0 : FVec F S16384x1 .f32 := (extractStridedSlice S16384x1 ![0, 0] · slices_S16384x128_S16384x1_0_0) main_arg1
  let main_cst : FVec F S_ .f32 := constant S_ .f32 0x00000000#32
  let main_v1 : FVec F S16384x1 .f32 := broadcastInDim S16384x1 ![] bcast_S_S16384x1 main_cst
  let main_v2 : IVec S16384x1 1 := cmpf .oge main_v0 main_v1
  main_v2
-- ==== Kernel.lean ====
abbrev S16384x4096 : Shape := ⟨2, ![16384, 4096]⟩
abbrev S2304x16384 : Shape := ⟨2, ![2304, 16384]⟩
abbrev S4096x4096 : Shape := ⟨2, ![4096, 4096]⟩
abbrev S16384x2048 : Shape := ⟨2, ![16384, 2048]⟩
abbrev S4096x256 : Shape := ⟨2, ![4096, 256]⟩
abbrev S144x4096 : Shape := ⟨2, ![144, 4096]⟩
abbrev S64x4096 : Shape := ⟨2, ![64, 4096]⟩
abbrev S4096x128 : Shape := ⟨2, ![4096, 128]⟩
abbrev S2x512x1024 : Shape := ⟨3, ![2, 512, 1024]⟩
abbrev S2x1x1024 : Shape := ⟨3, ![2, 1, 1024]⟩
abbrev S1x1024 : Shape := ⟨2, ![1, 1024]⟩
abbrev S144x1024 : Shape := ⟨2, ![144, 1024]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S512x256 : Shape := ⟨2, ![512, 256]⟩
abbrev S1x512x256 : Shape := ⟨3, ![1, 512, 256]⟩
abbrev S144x256 : Shape := ⟨2, ![144, 256]⟩
abbrev S144x512 : Shape := ⟨2, ![144, 512]⟩
abbrev S128x1024 : Shape := ⟨2, ![128, 1024]⟩
abbrev S1024x128 : Shape := ⟨2, ![1024, 128]⟩

abbrev nBuf : Space → Nat
  | .hbm => 8
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S2304x16384, .bf16⟩
  | .hbm, ⟨3, _⟩ => ⟨S4096x4096, .f32⟩
  | .hbm, ⟨4, _⟩ => ⟨S4096x4096, .f32⟩
  | .hbm, ⟨5, _⟩ => ⟨S16384x2048, .bf16⟩
  | .hbm, ⟨6, _⟩ => ⟨S4096x4096, .bf16⟩
  | .hbm, ⟨7, _⟩ => ⟨S4096x4096, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S144x4096, .bf16⟩
  | .local _ .vmem, ⟨5, _⟩ => ⟨S144x4096, .bf16⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S4096x128, .bf16⟩
  | .local _ .vmem, ⟨11, _⟩ => ⟨S4096x128, .bf16⟩
  | .local _ .vmem, ⟨12, _⟩ => ⟨S64x4096, .bf16⟩
  | .local _ .vmem, ⟨13, _⟩ => ⟨S64x4096, .bf16⟩
  | .local _ .vmem, ⟨14, _⟩ => ⟨S64x4096, .bf16⟩
  | .local _ .vmem, ⟨15, _⟩ => ⟨S64x4096, .bf16⟩
  | .local _ .vmem, ⟨16, _⟩ => ⟨S2x512x1024, .f32⟩
  | .local _ .vmem, ⟨17, _⟩ => ⟨S2x1x1024, .f32⟩
  | .local _ .vmem, ⟨18, _⟩ => ⟨S1x1024, .f32⟩
  | .local _ .vmem, ⟨19, _⟩ => ⟨S144x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S144x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x4096 : Shape := ⟨2, ![16384, 4096]⟩
abbrev S2304x16384 : Shape := ⟨2, ![2304, 16384]⟩
abbrev S4096x4096 : Shape := ⟨2, ![4096, 4096]⟩
abbrev S4x4096x16x256 : Shape := ⟨4, ![4, 4096, 16, 256]⟩
abbrev S16x144x4x4096 : Shape := ⟨4, ![16, 144, 4, 4096]⟩
abbrev S16x128x4x4096 : Shape := ⟨4, ![16, 128, 4, 4096]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S4x4096x16x128 : Shape := ⟨4, ![4, 4096, 16, 128]⟩
abbrev S16384x2048 : Shape := ⟨2, ![16384, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S2304x16384, .bf16⟩
  | .hbm, ⟨3, _⟩ => ⟨S4096x4096, .f32⟩
  | .hbm, ⟨4, _⟩ => ⟨S4096x4096, .f32⟩
  | .hbm, ⟨5, _⟩ => ⟨S16384x4096, .f32⟩
  | .hbm, ⟨6, _⟩ => ⟨S4x4096x16x256, .f32⟩
  | .hbm, ⟨7, _⟩ => ⟨S16384x4096, .f32⟩
  | .hbm, ⟨8, _⟩ => ⟨S4x4096x16x256, .f32⟩
  | .hbm, ⟨9, _⟩ => ⟨S2304x16384, .f32⟩
  | .hbm, ⟨10, _⟩ => ⟨S16x144x4x4096, .f32⟩
  | .hbm, ⟨11, _⟩ => ⟨S16x128x4x4096, .f32⟩
  | .hbm, ⟨12, _⟩ => ⟨S4x16x4096x4096, .f32⟩
  | .hbm, ⟨13, _⟩ => ⟨S_, .f32⟩
  | .hbm, ⟨14, _⟩ => ⟨S_, .f32⟩
  | .hbm, ⟨15, _⟩ => ⟨S4x16x4096x4096, .f32⟩
  | .hbm, ⟨16, _⟩ => ⟨S4x16x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x16x4096x4096, .i1⟩
  | .hbm, ⟨26, _⟩ => ⟨S4x16x4096x4096, .f32⟩
  | .hbm, ⟨27, _⟩ => ⟨S4x16x4096x4096, .f32⟩
  | .hbm, ⟨28, _⟩ => ⟨S_, .f32⟩
  | .hbm, ⟨29, _⟩ => ⟨S4x16x4096, .f32⟩
  | .hbm, ⟨30, _⟩ => ⟨S_, .f32⟩
  | .hbm, ⟨31, _⟩ => ⟨S4x16x4096, .f32⟩
  | .hbm, ⟨32, _⟩ => ⟨S4x16x4096, .f32⟩
  | .hbm, ⟨33, _⟩ => ⟨S4x16x4096x1, .f32⟩
  | .hbm, ⟨34, _⟩ => ⟨S4x16x4096x4096, .f32⟩
  | .hbm, ⟨35, _⟩ => ⟨S4x16x4096x4096, .f32⟩
  | .hbm, ⟨36, _⟩ => ⟨S4x16x4096x4096, .f32⟩
  | .hbm, ⟨37, _⟩ => ⟨S_, .f32⟩
  | .hbm, ⟨38, _⟩ => ⟨S4x16x4096, .f32⟩
  | .hbm, ⟨39, _⟩ => ⟨S4x16x4096x1, .f32⟩
  | .hbm, ⟨40, _⟩ => ⟨S4x16x4096x4096, .f32⟩
  | .hbm, ⟨41, _⟩ => ⟨S4x16x4096x4096, .f32⟩
  | .hbm, ⟨42, _⟩ => ⟨S4x16x4096x4096, .bf16⟩
  | .hbm, ⟨43, _⟩ => ⟨S4x16x4096x4096, .f32⟩
  | .hbm, ⟨44, _⟩ => ⟨S4x16x128x4096, .f32⟩
  | .hbm, ⟨45, _⟩ => ⟨S4x4096x16x128, .f32⟩
  | .hbm, ⟨46, _⟩ => ⟨S16384x2048, .f32⟩
  | .hbm, ⟨47, _⟩ => ⟨S16384x2048, .bf16⟩
  | .hbm, ⟨48, _⟩ => ⟨S4096x4096, .bf16⟩
  | .hbm, ⟨49, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== MlpUp.lean ====
abbrev S16384x4096 : Shape := ⟨2, ![16384, 4096]⟩
abbrev S16384x128 : Shape := ⟨2, ![16384, 128]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x128 : Shape := ⟨2, ![1024, 128]⟩
abbrev S64x4096 : Shape := ⟨2, ![64, 4096]⟩
abbrev S1024x1024 : Shape := ⟨2, ![1024, 1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x16384, .bf16⟩
  | .hbm, ⟨3, _⟩ => ⟨S16384x4096, .f32⟩
  | .hbm, ⟨4, _⟩ => ⟨S16384x16384, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S64x4096, .f32⟩
  | .local _ .vmem, ⟨7, _⟩ => ⟨S64x4096, .f32⟩
  | .local _ .vmem, ⟨8, _⟩ => ⟨S1024x1024, .bf16⟩
  | .local _ .vmem, ⟨9, _⟩ => ⟨S1024x1024, .bf16⟩
  | .local _ .vmem, ⟨10, _⟩ => ⟨S64x4096, .bf16⟩
  | .local _ .vmem, ⟨11, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpUpReferenceIdeal.lean ====
abbrev S16384x4096 : Shape := ⟨2, ![16384, 4096]⟩
abbrev S16384x128 : Shape := ⟨2, ![16384, 128]⟩
abbrev S4096x16384 : Shape := ⟨2, ![4096, 16384]⟩
abbrev S16384x1 : Shape := ⟨2, ![16384, 1]⟩
abbrev S_ : Shape := ⟨0, ![]⟩
abbrev S16384x16384 : Shape := ⟨2, ![16384, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x16384, .bf16⟩
  | .hbm, ⟨3, _⟩ => ⟨S16384x4096, .f32⟩
  | .hbm, ⟨4, _⟩ => ⟨S16384x4096, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S4096x16384, .f32⟩
  | .hbm, ⟨16, _⟩ => ⟨S16384x16384, .f32⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S16384x16384, .bf16⟩
  | .hbm, ⟨22, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlpDown.lean ====
abbrev S16384x16384 : Shape := ⟨2, ![16384, 16384]⟩
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .f32⟩
  | .hbm, ⟨6, _⟩ => ⟨S16384x4096, .bf16⟩
  | .hbm, ⟨7, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c0_i32_12 : BitVec 32 := 0#32
  let v17 : BitVec 1 := Scalar.cmpi .eq arg1 c0_i32_12
  let v24 : BitVec 32 := Scalar.extui v17
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== MlpDownReferenceIdeal.lean ====
abbrev S16384x16384 : Shape := ⟨2, ![16384, 16384]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S4096, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .bf16⟩
  | .hbm, ⟨16, _⟩ => ⟨S16384x128, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InProj.lean ====
abbrev S16384x4096 : Shape := ⟨2, ![16384, 4096]⟩
abbrev S16384x128 : Shape := ⟨2, ![16384, 128]⟩
abbrev S8192x4096 : Shape := ⟨2, ![8192, 4096]⟩
abbrev S4096x16384 : Shape := ⟨2, ![4096, 16384]⟩
abbrev S16384x8192 : Shape := ⟨2, ![16384, 8192]⟩
abbrev S1024x4096 : Shape := ⟨2, ![1024, 4096]⟩
abbrev S1024x128 : Shape := ⟨2, ![1024, 128]⟩
abbrev S32x16384 : Shape := ⟨2, ![32, 16384]⟩
abbrev S1024x1024 : Shape := ⟨2, ![1024, 1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S8192x4096, .bf16⟩
  | .hbm, ⟨3, _⟩ => ⟨S4096x16384, .f32⟩
  | .hbm, ⟨4, _⟩ => ⟨S16384x8192, .f32⟩
  | .hbm, ⟨5, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x128, .f32⟩
  | .local _ .vmem, ⟨5, _⟩ => ⟨S1024x128, .f32⟩
  | .local _ .vmem, ⟨6, _⟩ => ⟨S32x16384, .f32⟩
  | .local _ .vmem, ⟨7, _⟩ => ⟨S32x16384, .f32⟩
  | .local _ .vmem, ⟨8, _⟩ => ⟨S1024x1024, .f32⟩
  | .local _ .vmem, ⟨9, _⟩ => ⟨S1024x1024, .f32⟩
  | .local _ .vmem, ⟨10, _⟩ => ⟨S32x16384, .bf16⟩
  | .local _ .vmem, ⟨11, _⟩ => ⟨S32x16384, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjReferenceIdeal.lean ====
abbrev S16384x4096 : Shape := ⟨2, ![16384, 4096]⟩
abbrev S16384x128 : Shape := ⟨2, ![16384, 128]⟩
abbrev S8192x4096 : Shape := ⟨2, ![8192, 4096]⟩
abbrev S4096x16384 : Shape := ⟨2, ![4096, 16384]⟩
abbrev S16384x1 : Shape := ⟨2, ![16384, 1]⟩
abbrev S_ : Shape := ⟨0, ![]⟩
abbrev S4096x8192 : Shape := ⟨2, ![4096, 8192]⟩
abbrev S16384x8192 : Shape := ⟨2, ![16384, 8192]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S8192x4096, .bf16⟩
  | .hbm, ⟨3, _⟩ => ⟨S4096x16384, .f32⟩
  | .hbm, ⟨4, _⟩ => ⟨S16384x4096, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S8192x4096, .f32⟩
  | .hbm, ⟨16, _⟩ => ⟨S4096x8192, .f32⟩
  | .hbm, ⟨17, _⟩ => ⟨S16384x8192, .f32⟩
  | .hbm, ⟨18, _⟩ => ⟨S4096x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩
abbrev S1024x128 : Shape := ⟨2, ![1024, 128]⟩
abbrev S512x2048 : Shape := ⟨2, ![512, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S4096, .f32⟩
  | .hbm, ⟨5, _⟩ => ⟨S1x4096, .f32⟩
  | .hbm, ⟨6, _⟩ => ⟨S16384x4096, .f32⟩
  | .hbm, ⟨7, _⟩ => ⟨S16384x4096, .bf16⟩
  | .hbm, ⟨8, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OutProjReferenceIdeal.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S4096, .f32⟩
  | .hbm, ⟨5, _⟩ => ⟨S16384x2048, .f32⟩
  | .hbm, ⟨6, _⟩ => ⟨S16384x2048, .f32⟩
  | .hbm, ⟨7, _⟩ => ⟨S16384x4096, .f32⟩
  | .hbm, ⟨8, _⟩ => ⟨S4096x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | .hbm, ⟨19, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== PleGate.lean ====
abbrev S16384x4096 : Shape := ⟨2, ![16384, 4096]⟩
abbrev S16384x128 : Shape := ⟨2, ![16384, 128]⟩
abbrev S4096x4096 : Shape := ⟨2, ![4096, 4096]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩
abbrev S512x1 : Shape := ⟨2, ![512, 1]⟩
abbrev S512x4096 : Shape := ⟨2, ![512, 4096]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x4096, .bf16⟩
  | .hbm, ⟨3, _⟩ => ⟨S16384x4096, .f32⟩
  | .hbm, ⟨4, _⟩ => ⟨S16384x4096, .f32⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleGateReferenceIdeal.lean ====
abbrev S16384x4096 : Shape := ⟨2, ![16384, 4096]⟩
abbrev S16384x128 : Shape := ⟨2, ![16384, 128]⟩
abbrev S4096x4096 : Shape := ⟨2, ![4096, 4096]⟩
abbrev S16384x1 : Shape := ⟨2, ![16384, 1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x4096, .bf16⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S4096x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== FinalNorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Flash.lean ====
/-
  The mathematics of the tiled softmax over extended reals: the running maximum and the running weighted sum of one query over
  a growing prefix of the keys, the rescaling that keeps them in step, and the quotient at the end as the plain softmax average.
-/
module

public import Idealize.ShloMosaic.PureOps.Ideal
public import Mathlib.Algebra.BigOperators.Fin
public import Mathlib.Data.EReal.Inv

@[expose] public section

noncomputable section

namespace Cert.Flash

open Idealize.ShloMosaic

/-- The greatest of the first `N` scores. -/
def mx (f : ℕ → EReal) (N : ℕ) : EReal := (Finset.range N).sup f

/-- The first `N` values weighted by two to the score less `m`. -/
def wt (f v : ℕ → EReal) (m : EReal) (N : ℕ) : EReal := ∑ k ∈ Finset.range N, v k * Ideal.exp2 (f k - m)

theorem exp2_nonneg (x : EReal) : 0 ≤ Ideal.exp2 x := by
  induction x with
  | bot => simp
  | top => simp
  | coe r => simp only [Ideal.exp2_coe]; exact_mod_cast (Real.rpow_pos_of_pos two_pos r).le

theorem exp2_rescale (a b : ℝ) (x : EReal) (hx : x ≠ ⊤) :
    Ideal.exp2 ((a : EReal) - b) * Ideal.exp2 (x - a) = Ideal.exp2 (x - b) := by
  induction x with
  | bot => simp
  | top => exact absurd rfl hx
  | coe r =>
    rw [← EReal.coe_sub, ← EReal.coe_sub, ← EReal.coe_sub, Ideal.exp2_coe, Ideal.exp2_coe, Ideal.exp2_coe, ← EReal.coe_mul]
    congr 1
    show (2 : ℝ) ^ (a - b) * (2 : ℝ) ^ (r - a) = (2 : ℝ) ^ (r - b)
    rw [← Real.rpow_add two_pos]; congr 1; ring

theorem coe_mul_sum {ι : Type} (a : ℝ) (ha : 0 ≤ a) (s : Finset ι) (g : ι → EReal) :
    (a : EReal) * ∑ i ∈ s, g i = ∑ i ∈ s, (a : EReal) * g i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- Multiplying a weighted sum by two to the difference of two references moves it from the first reference to the second. -/
theorem wt_rescale (f v : ℕ → EReal) (a b : ℝ) (N : ℕ) (hf : ∀ k, f k ≠ ⊤) :
    Ideal.exp2 ((a : EReal) - b) * wt f v a N = wt f v b N := by
  unfold wt
  rw [← EReal.coe_sub, Ideal.exp2_coe, coe_mul_sum (Real.rpow 2 (a - b)) (Real.rpow_pos_of_pos two_pos _).le]
  refine Finset.sum_congr rfl fun k _ => ?_
  rw [mul_left_comm, ← Ideal.exp2_coe, EReal.coe_sub, exp2_rescale _ _ _ (hf k)]

theorem wt_add (f v : ℕ → EReal) (m : EReal) (N n : ℕ) :
    wt f v m (N + n) = wt f v m N + ∑ i : Fin n, v (N + i.val) * Ideal.exp2 (f (N + i.val) - m) := by
  unfold wt
  rw [Finset.sum_range_add, Finset.sum_range (fun i => v (N + i) * Ideal.exp2 (f (N + i) - m))]

theorem mx_add (f : ℕ → EReal) (N n : ℕ) :
    mx f (N + n) = max (mx f N) ((Finset.univ : Finset (Fin n)).sup fun i => f (N + i.val)) := by
  unfold mx
  refine le_antisymm (Finset.sup_le fun k hk => ?_) (max_le (Finset.sup_mono ?_) (Finset.sup_le fun i _ => ?_))
  · by_cases h : k < N
    · exact le_max_of_le_left (Finset.le_sup (f := f) (Finset.mem_range.2 h))
    · have hk' := Finset.mem_range.1 hk
      refine le_max_of_le_right ?_
      have := Finset.le_sup (f := fun i : Fin n => f (N + i.val)) (Finset.mem_univ ⟨k - N, by omega⟩)
      simpa [show N + (k - N) = k by omega] using this
  · exact Finset.range_mono (Nat.le_add_right _ _)
  · exact Finset.le_sup (f := f) (Finset.mem_range.2 (by have := i.isLt; omega))

/-- The greatest of a non-empty prefix whose first score is real is real. -/
theorem mx_real (f : ℕ → EReal) (N : ℕ) (hN : 0 < N) (hf : ∀ k, f k ≠ ⊤) (h0 : f 0 ≠ ⊥) : ∃ r : ℝ, mx f N = r := by
  have ht : mx f N ≠ ⊤ := by
    unfold mx
    refine ne_of_lt ((Finset.sup_lt_iff (by simp)).2 fun k _ => lt_of_le_of_ne le_top (hf k))
  have hb : mx f N ≠ ⊥ := fun h => h0 (le_bot_iff.1 (h ▸ Finset.le_sup (f := f) (Finset.mem_range.2 hN)))
  exact ⟨(mx f N).toReal, (EReal.coe_toReal ht hb).symm⟩

/-- One step of the tiled softmax: the old sum rescaled to the new maximum plus the tile's own. -/
theorem step (f v : ℕ → EReal) (N n : ℕ) (hN : 0 < N) (hf : ∀ k, f k ≠ ⊤) (h0 : f 0 ≠ ⊥) :
    Ideal.exp2 (mx f N - mx f (N + n)) * wt f v (mx f N) N
        + ∑ i : Fin n, v (N + i.val) * Ideal.exp2 (f (N + i.val) - mx f (N + n))
      = wt f v (mx f (N + n)) (N + n) := by
  obtain ⟨a, ha⟩ := mx_real f N hN hf h0
  obtain ⟨b, hb⟩ := mx_real f (N + n) (by omega) hf h0
  rw [wt_add, ha, hb, wt_rescale f v a b N hf]

/-- Scores beyond the prefix that are minus infinity change neither the maximum … -/
theorem mx_tail (f : ℕ → EReal) (N n : ℕ) (h : ∀ k, N ≤ k → f k = ⊥) : mx f (N + n) = mx f N := by
  rw [mx_add]
  refine max_eq_left (Finset.sup_le fun i _ => ?_)
  rw [h _ (by omega)]; exact bot_le

/-- … nor the weighted sum. -/
theorem wt_tail (f v : ℕ → EReal) (m : EReal) (N n : ℕ) (h : ∀ k, N ≤ k → f k = ⊥) : wt f v m (N + n) = wt f v m N := by
  rw [wt_add, Finset.sum_eq_zero, add_zero]
  intro i _
  rw [h _ (by omega), sub_eq_add_neg, EReal.bot_add, Ideal.exp2_bot, mul_zero]

/-- The weighted sum of ones is a positive real. -/
theorem wt_one_pos (f : ℕ → EReal) (a : ℝ) (N : ℕ) (hN : 0 < N) (hf : ∀ k, f k ≠ ⊤) (h0 : f 0 ≠ ⊥) :
    ∃ r : ℝ, 0 < r ∧ wt f (fun _ => 1) a N = r := by
  have hreal : ∀ k, ∃ r : ℝ, 0 ≤ r ∧ Ideal.exp2 (f k - a) = r := fun k => by
    have hk := hf k
    generalize f k = x at hk
    induction x with
    | bot => exact ⟨0, le_rfl, by simp⟩
    | top => exact absurd rfl hk
    | coe r =>
      refine ⟨Real.rpow 2 (r - a), (Real.rpow_pos_of_pos two_pos _).le, ?_⟩
      show Ideal.exp2 ((r : EReal) - a) = _
      rw [← EReal.coe_sub, Ideal.exp2_coe]
  choose w hw0 hw using hreal
  refine ⟨∑ k ∈ Finset.range N, w k, ?_, ?_⟩
  · refine Finset.sum_pos' (fun k _ => hw0 k) ⟨0, Finset.mem_range.2 hN, ?_⟩
    have h : ∃ r : ℝ, f 0 = r := ⟨(f 0).toReal, (EReal.coe_toReal (hf 0) h0).symm⟩
    obtain ⟨r, hr⟩ := h
    have : ((w 0 : ℝ) : EReal) = (Real.rpow 2 (r - a) : ℝ) := by
      rw [← hw, hr, ← EReal.coe_sub, Ideal.exp2_coe]
    rw [EReal.coe_eq_coe_iff.1 this]
    exact Real.rpow_pos_of_pos two_pos _
  · unfold wt
    rw [Finset.sum_congr rfl fun k _ => by rw [one_mul, hw]]
    exact (map_sum (⟨⟨fun x : ℝ => (x : EReal), rfl⟩, EReal.coe_add⟩ : ℝ →+ EReal) w _).symm

/-- Two to a score less a real is `e` to the same times the logarithm of two. -/
theorem exp2_eq_exp (x : EReal) (a : ℝ) :
    Ideal.exp2 (x - a) = Ideal.exp (x * (Real.log 2 : ℝ) - (a * Real.log 2 : ℝ)) := by
  have hl : 0 < Real.log 2 := Real.log_pos (by norm_num)
  induction x with
  | bot => rw [EReal.bot_mul_coe_of_pos hl]; simp
  | top => rw [EReal.top_mul_coe_of_pos hl, EReal.top_sub_coe, EReal.top_sub_coe]; rfl
  | coe r =>
    rw [← EReal.coe_mul, ← EReal.coe_sub, ← EReal.coe_sub, Ideal.exp2_coe, Ideal.exp_coe]
    congr 1
    show (2 : ℝ) ^ (r - a) = _
    rw [Real.rpow_def_of_pos two_pos]; congr 1; ring

/-- The quotient of the two running sums is the plain softmax average, its exponentials to the base `e`. -/
theorem softmax (f v : ℕ → EReal) (N : ℕ) (hN : 0 < N) (hf : ∀ k, f k ≠ ⊤) (h0 : f 0 ≠ ⊥) :
    Ideal.div (wt f v (mx f N) N) (wt f (fun _ => 1) (mx f N) N)
      = ∑ k : Fin N, v k.val * Ideal.div
          (Ideal.exp (f k.val * (Real.log 2 : ℝ) - (Finset.univ : Finset (Fin N)).sup fun k' => f k'.val * (Real.log 2 : ℝ)))
          (∑ k' : Fin N, Ideal.exp (f k'.val * (Real.log 2 : ℝ)
            - (Finset.univ : Finset (Fin N)).sup fun k' => f k'.val * (Real.log 2 : ℝ))) := by
  have hl : 0 < Real.log 2 := Real.log_pos (by norm_num)
  obtain ⟨a, ha⟩ := mx_real f N hN hf h0
  have hG : ((Finset.univ : Finset (Fin N)).sup fun k' => f k'.val * (Real.log 2 : ℝ)) = (a * Real.log 2 : ℝ) := by
    have h1 := mx_add f 0 N
    rw [zero_add, ha, show mx f 0 = ⊥ from rfl, max_eq_right bot_le] at h1
    simp only [zero_add] at h1
    have := Finset.comp_sup_eq_sup_comp_of_is_total (s := (Finset.univ : Finset (Fin N))) (f := fun i : Fin N => f i.val)
      (fun x : EReal => x * (Real.log 2 : ℝ)) (fun x y h => mul_le_mul_of_nonneg_right h (by exact_mod_cast hl.le))
      (EReal.bot_mul_coe_of_pos hl)
    rw [← h1] at this
    rw [EReal.coe_mul]; exact this.symm
  obtain ⟨d, hd0, hd⟩ := wt_one_pos f a N hN hf h0
  have hs : (∑ k' : Fin N, Ideal.exp (f k'.val * (Real.log 2 : ℝ) - (a * Real.log 2 : ℝ))) = (d : EReal) := by
    rw [← hd]; unfold wt
    rw [Finset.sum_range]
    exact Finset.sum_congr rfl fun k _ => by rw [one_mul, exp2_eq_exp]
  have hdiv : ∀ x : EReal, Ideal.div x (d : EReal) = ((d⁻¹ : ℝ) : EReal) * x := fun x => by
    unfold Ideal.div
    rw [if_neg (by exact_mod_cast hd0.ne'), ← EReal.coe_inv, mul_comm]
  rw [hG, hs, ha, hd, hdiv]
  unfold wt
  rw [coe_mul_sum _ (inv_pos.2 hd0).le, Finset.sum_range]
  exact Finset.sum_congr rfl fun k _ => by rw [hdiv, mul_left_comm, exp2_eq_exp]

end Cert.Flash

end
-- ==== Proof.Payload.lean ====
/-
  What the attention body stores, read at one index at the ideal values: the scores of a block of keys against 256
  queries, their column maxima, the causal mask, the first tile's accumulator and a later tile's.
-/
module

public import proofs.«01_k».proof.Proof.Gen.KernelIdeal.Skeleton
public import proofs.«01_k».proof.Proof.Flash
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Attn

open Cert.KernelIdeal Cert.KernelIdeal.Gen

/-! ## The stored values -/

/-- The causal mask of 256 keys from `ko` on against 256 queries from `qo` on: −∞ where the key is later. -/
def mask256 (ko qo : BitVec 32) (s : FVec Ideal S256x256 .f32) : FVec Ideal S256x256 .f32 :=
  select (cmpi .sle (addi (broadcast S256x256 ko) (iota .tc S256x256 32 [0] iota_S256x256_d0_w32))
    (addi (broadcast S256x256 qo) (iota .tc S256x256 32 [1] iota_S256x256_d1_w32))) s
    (broadcast S256x256 (Scalar.ofBits (F := Ideal) .f32 0xFF800000#32))

def mask512 (ko qo : BitVec 32) (s : FVec Ideal S512x256 .f32) : FVec Ideal S512x256 .f32 :=
  select (cmpi .sle (addi (broadcast S512x256 ko) (iota .tc S512x256 32 [0] iota_S512x256_d0_w32))
    (addi (broadcast S512x256 qo) (iota .tc S512x256 32 [1] iota_S512x256_d1_w32))) s
    (broadcast S512x256 (Scalar.ofBits (F := Ideal) .f32 0xFF800000#32))

/-- The scores of a block of keys (rows) against 256 queries (columns). -/
def dots256 (q k : Vec Ideal S256x256 .bf16) : FVec Ideal S256x256 .f32 :=
  matmul (φ₁ := .bf16) (φ₂ := .bf16) dot_S256x256_S256x256_S256x256_1_1_0_0_n_n none k q (constant S256x256 .f32 0x00000000#32)

def dots512 (q : Vec Ideal S256x256 .bf16) (k : Vec Ideal S512x256 .bf16) : FVec Ideal S512x256 .f32 :=
  matmul (φ₁ := .bf16) (φ₂ := .bf16) dot_S512x256_S256x256_S512x256_1_1_0_0_n_n none k q (constant S512x256 .f32 0x00000000#32)

/-- Each column's maximum. -/
def colmax256 (s : FVec Ideal S256x256 .f32) : FVec Ideal S1x256 .f32 :=
  shapeCast S1x256 (multiReduction .maximumf [0] S256 s 0xFF800000#32 reduces_S256x256_S256 (.inl rfl) rfl) shapeCasts_S256_S1x256

def colmax512 (s : FVec Ideal S512x256 .f32) : FVec Ideal S1x256 .f32 :=
  shapeCast S1x256 (multiReduction .maximumf [0] S256 s 0xFF800000#32 reduces_S512x256_S256 (.inl rfl) rfl) shapeCasts_S256_S1x256

/-- The values weighted by the exponentials of a block of scores. -/
def weigh256 (v : Vec Ideal S144x256 .bf16) (s : FVec Ideal S256x256 .f32) (m : FVec Ideal S1x256 .f32) : FVec Ideal S144x256 .f32 :=
  matmul (φ₁ := .bf16) (φ₂ := .bf16) dot_S144x256_S256x256_S144x256_1_0_0_1_n_n none v
    (truncf .bf16 (exp2 (subf s (broadcastTo S256x256 m broadcasts_S1x256_S256x256))) bitsLt_bf16_f32) (constant S144x256 .f32 0x00000000#32)

def weigh512 (v : Vec Ideal S144x512 .bf16) (s : FVec Ideal S512x256 .f32) (m : FVec Ideal S1x256 .f32) : FVec Ideal S144x256 .f32 :=
  matmul (φ₁ := .bf16) (φ₂ := .bf16) dot_S144x512_S512x256_S144x256_1_0_0_1_n_n none v
    (truncf .bf16 (exp2 (subf s (broadcastTo S512x256 m broadcasts_S1x256_S512x256))) bitsLt_bf16_f32) (constant S144x256 .f32 0x00000000#32)

/-- An accumulator rescaled from the old maximum to the new one, plus a block's weighted values. -/
def next (mo mn : FVec Ideal S1x256 .f32) (acc w : FVec Ideal S144x256 .f32) : FVec Ideal S144x256 .f32 :=
  addf (mulf (broadcastTo S144x256 (exp2 (subf mo mn)) broadcasts_S1x256_S144x256) acc) w

/-! ## Read at an index -/

theorem ofBits_bot : (Scalar.ofBits (F := Ideal) .f32 0xFF800000#32 : EReal) = ⊥ := by
  show Ideal.ofBits .f32 0xFF800000#32 = ⊥
  simp [Ideal.ofBits, Ideal.ieee]

theorem mask_word (ko qo a b : ℕ) (hk : ko ≤ 1024) (hq : qo ≤ 1024) (ha : a < 512) (hb : b < 512) (x : EReal) :
    Scalar.select (IntOp.cmpi CmpIPredicate.sle (IntOp.addi (BitVec.ofNat 32 ko) (BitVec.ofNat 32 a))
      (IntOp.addi (BitVec.ofNat 32 qo) (BitVec.ofNat 32 b))) x (Ideal.ofBits FTy.f32 4286578688#32) = if ko + a ≤ qo + b then x else ⊥ := by
  have h1 : IntOp.addi (BitVec.ofNat 32 ko) (BitVec.ofNat 32 a) = BitVec.ofNat 32 (ko + a) := by
    show BitVec.ofNat 32 ko + BitVec.ofNat 32 a = _
    rw [BitVec.ofNat_add]
  have h2 : IntOp.addi (BitVec.ofNat 32 qo) (BitVec.ofNat 32 b) = BitVec.ofNat 32 (qo + b) := by
    show BitVec.ofNat 32 qo + BitVec.ofNat 32 b = _
    rw [BitVec.ofNat_add]
  have h3 : BitVec.sle (BitVec.ofNat 32 (ko + a)) (BitVec.ofNat 32 (qo + b)) = decide (ko + a ≤ qo + b) := by
    rw [BitVec.sle_eq_decide, BitVec.toInt_eq_toNat_of_lt (by simp only [BitVec.toNat_ofNat]; omega),
      BitVec.toInt_eq_toNat_of_lt (by simp only [BitVec.toNat_ofNat]; omega)]
    simp only [BitVec.toNat_ofNat]
    congr 1
    rw [Nat.mod_eq_of_lt (by omega), Nat.mod_eq_of_lt (by omega)]
    exact propext Int.ofNat_le
  rw [h1, h2]
  simp only [IntOp.cmpi, h3, Scalar.select]
  have hb := ofBits_bot
  by_cases h : ko + a ≤ qo + b <;> simp [h] <;> exact hb

theorem fold_sup {n : ℕ} (g : Fin n → EReal) : Finset.fold max (Ideal.ofBits FTy.f32 4286578688#32) g Finset.univ = Finset.univ.sup g := by
  rw [show Ideal.ofBits FTy.f32 4286578688#32 = (⊥ : EReal) from ofBits_bot]
  rfl

theorem mask256_apply (ko qo : ℕ) (hk : ko ≤ 1024) (hq : qo ≤ 1024) (s : FVec Ideal S256x256 .f32) (i j : Fin 256) :
    mask256 (BitVec.ofNat 32 ko) (BitVec.ofNat 32 qo) s (ix2 i j) = if ko + i.val ≤ qo + j.val then s (ix2 i j) else ⊥ := by
  unfold mask256
  pointwise
  exact mask_word ko qo i j hk hq (by omega) (by omega) _

theorem mask512_apply (ko qo : ℕ) (hk : ko ≤ 1024) (hq : qo ≤ 1024) (s : FVec Ideal S512x256 .f32) (i : Fin 512) (j : Fin 256) :
    mask512 (BitVec.ofNat 32 ko) (BitVec.ofNat 32 qo) s (ix2 i j) = if ko + i.val ≤ qo + j.val then s (ix2 i j) else ⊥ := by
  unfold mask512
  pointwise
  exact mask_word ko qo i j hk hq (by omega) (by omega) _

theorem dots256_apply (q k : Vec Ideal S256x256 .bf16) (i j : Fin 256) :
    dots256 q k (ix2 i j) = ∑ d : Fin 256, (k (ix2 i d) : EReal) * q (ix2 j d) := by
  unfold dots256
  pointwise

theorem dots512_apply (q : Vec Ideal S256x256 .bf16) (k : Vec Ideal S512x256 .bf16) (i : Fin 512) (j : Fin 256) :
    dots512 q k (ix2 i j) = ∑ d : Fin 256, (k (ix2 i d) : EReal) * q (ix2 j d) := by
  unfold dots512
  pointwise

theorem colmax256_apply (s : FVec Ideal S256x256 .f32) (u : Fin 1) (j : Fin 256) :
    colmax256 s (ix2 u j) = Finset.univ.sup fun i : Fin 256 => (s (ix2 i j) : EReal) := by
  unfold colmax256
  pointwise
  exact fold_sup _

theorem colmax512_apply (s : FVec Ideal S512x256 .f32) (u : Fin 1) (j : Fin 256) :
    colmax512 s (ix2 u j) = Finset.univ.sup fun i : Fin 512 => (s (ix2 i j) : EReal) := by
  unfold colmax512
  pointwise
  exact fold_sup _

theorem weigh256_apply (v : Vec Ideal S144x256 .bf16) (s : FVec Ideal S256x256 .f32) (m : FVec Ideal S1x256 .f32) (r : Fin 144) (j : Fin 256) :
    weigh256 v s m (ix2 r j) = ∑ i : Fin 256, (v (ix2 r i) : EReal) * Ideal.exp2 (s (ix2 i j) - m (ix2 0 j)) := by
  unfold weigh256
  pointwise
  rfl

theorem weigh512_apply (v : Vec Ideal S144x512 .bf16) (s : FVec Ideal S512x256 .f32) (m : FVec Ideal S1x256 .f32) (r : Fin 144) (j : Fin 256) :
    weigh512 v s m (ix2 r j) = ∑ i : Fin 512, (v (ix2 r i) : EReal) * Ideal.exp2 (s (ix2 i j) - m (ix2 0 j)) := by
  unfold weigh512
  pointwise
  rfl

theorem next_apply (mo mn : FVec Ideal S1x256 .f32) (acc w : FVec Ideal S144x256 .f32) (r : Fin 144) (j : Fin 256) :
    next mo mn acc w (ix2 r j) = (Ideal.exp2 (mo (ix2 0 j) - mn (ix2 0 j)) * acc (ix2 r j) + w (ix2 r j) : EReal) := by
  unfold next
  pointwise
  rfl

/-! ## The state of a query group -/

/-- One score: key `k` against query `q`. -/
def sc (x0 x1 : Vec Ideal S4096x256 .bf16) (q k : ℕ) : EReal :=
  ∑ d : Fin 256, (x1 (ix2 (Fin.ofNat 4096 k) d) : EReal) * x0 (ix2 (Fin.ofNat 4096 q) d)

/-- The score under the causal mask. -/
def fs (x0 x1 : Vec Ideal S4096x256 .bf16) (q k : ℕ) : EReal := if k ≤ q then sc x0 x1 q k else ⊥

/-- Row `r` of the values at key `k`. -/
def vl (x2 : Vec Ideal S144x4096 .bf16) (r : Fin 144) (k : ℕ) : EReal := x2 (ix2 r (Fin.ofNat 4096 k))

/-- The scores are real numbers. -/
def Finite (x0 x1 : Vec Ideal S4096x256 .bf16) : Prop := ∀ q k, sc x0 x1 q k ≠ ⊥ ∧ sc x0 x1 q k ≠ ⊤

/-- A block of scores: `n` keys from `k0` on against 256 queries from `q0` on. -/
def Scores (x0 x1 : Vec Ideal S4096x256 .bf16) (q0 k0 : ℕ) {n : ℕ} (s : (⟨3, ![1, n, 256]⟩ : Shape).Idx → EReal) : Prop :=
  ∀ (i : Fin n) (j : Fin 256), s (ix3 0 i j) = sc x0 x1 (q0 + j) (k0 + i)

/-- The greatest score of 512 keys from `k0` on, for each of 256 queries from `q0` on. -/
def Maxes (x0 x1 : Vec Ideal S4096x256 .bf16) (q0 k0 : ℕ) (m : S1x1x256.Idx → EReal) : Prop :=
  ∀ j : Fin 256, m (ix3 0 0 j) = Finset.univ.sup fun i : Fin 512 => sc x0 x1 (q0 + j) (k0 + i)

/-- The values of `n` keys from `k0` on. -/
def Vals (x2 : Vec Ideal S144x4096 .bf16) (k0 : ℕ) {n : ℕ} (v : (⟨2, ![144, n]⟩ : Shape).Idx → EReal) : Prop :=
  ∀ (r : Fin 144) (i : Fin n), v (ix2 r i) = vl x2 r (k0 + i)

/-- The 256 queries from `q0` on after the first `N` keys: running maximum and running weighted sums. -/
structure St (x0 x1 : Vec Ideal S4096x256 .bf16) (x2 : Vec Ideal S144x4096 .bf16) (q0 N : ℕ) (m : FVec Ideal S1x256 .f32)
    (acc : FVec Ideal S144x256 .f32) : Prop where
  mx : ∀ j : Fin 256, m (ix2 0 j) = Flash.mx (fs x0 x1 (q0 + j)) N
  wt : ∀ (r : Fin 144) (j : Fin 256), acc (ix2 r j) = Flash.wt (fs x0 x1 (q0 + j)) (vl x2 r) (Flash.mx (fs x0 x1 (q0 + j)) N) N

section Steps

variable {x0 x1 : Vec Ideal S4096x256 .bf16} {x2 : Vec Ideal S144x4096 .bf16} {q0 N : ℕ}

theorem sup_fin (f : ℕ → EReal) (n : ℕ) : (Finset.univ.sup fun i : Fin n => f i) = Flash.mx f n := by
  apply le_antisymm
  · exact Finset.sup_le fun i _ => Finset.le_sup (f := f) (Finset.mem_range.mpr i.isLt)
  · exact Finset.sup_le fun i hi => Finset.le_sup (f := fun i : Fin n => f i) (Finset.mem_univ ⟨i, Finset.mem_range.mp hi⟩)

theorem sup_fin_add (f : ℕ → EReal) (N n : ℕ) : max (Flash.mx f N) (Finset.univ.sup fun i : Fin n => f (N + i)) = Flash.mx f (N + n) := by
  apply le_antisymm
  · refine max_le (Finset.sup_le fun i hi => Finset.le_sup (f := f) ?_) (Finset.sup_le fun i _ => Finset.le_sup (f := f) ?_)
    · have := Finset.mem_range.mp hi; exact Finset.mem_range.mpr (by omega)
    · exact Finset.mem_range.mpr (by omega)
  · refine Finset.sup_le fun i hi => ?_
    have := Finset.mem_range.mp hi
    by_cases h : i < N
    · exact le_max_of_le_left (Finset.le_sup (f := f) (Finset.mem_range.mpr h))
    · refine le_max_of_le_right ?_
      have e := Finset.le_sup (f := fun i : Fin n => f (N + i)) (Finset.mem_univ ⟨i - N, by omega⟩)
      simpa [show N + (i - N) = i by omega] using e

/-- The first block of a query group. -/
theorem St.start {n : ℕ} {m : FVec Ideal S1x256 .f32} {acc : FVec Ideal S144x256 .f32} {s : Fin n → Fin 256 → EReal} {v : Fin 144 → Fin n → EReal}
    (hs : ∀ i j, s i j = fs x0 x1 (q0 + j) i) (hv : ∀ r i, v r i = vl x2 r i) (hm : ∀ j, m (ix2 0 j) = Finset.univ.sup fun i => s i j)
    (ha : ∀ r j, acc (ix2 r j) = ∑ i, v r i * Ideal.exp2 (s i j - m (ix2 0 j))) : St x0 x1 x2 q0 n m acc := by
  have hm' : ∀ j, m (ix2 0 j) = Flash.mx (fs x0 x1 (q0 + j)) n := fun j => by
    rw [hm, ← sup_fin]; simp only [hs]
  refine ⟨hm', fun r j => ?_⟩
  rw [ha, hm' j]
  simp only [hs, hv]
  rw [Flash.wt, Finset.sum_range]

/-- A later block of a query group. -/
theorem St.more (h : Finite x0 x1) (hN : 0 < N) {n : ℕ} {mo mn : FVec Ideal S1x256 .f32} {ao acc : FVec Ideal S144x256 .f32} {s : Fin n → Fin 256 → EReal}
    {v : Fin 144 → Fin n → EReal} (ho : St x0 x1 x2 q0 N mo ao)
    (hs : ∀ i j, s i j = fs x0 x1 (q0 + j) (N + i)) (hv : ∀ r i, v r i = vl x2 r (N + i))
    (hm : ∀ j, mn (ix2 0 j) = max (mo (ix2 0 j)) (Finset.univ.sup fun i => s i j))
    (ha : ∀ r j, acc (ix2 r j) = Ideal.exp2 (mo (ix2 0 j) - mn (ix2 0 j)) * ao (ix2 r j) + ∑ i, v r i * Ideal.exp2 (s i j - mn (ix2 0 j))) :
    St x0 x1 x2 q0 (N + n) mn acc := by
  have hm' : ∀ j, mn (ix2 0 j) = Flash.mx (fs x0 x1 (q0 + j)) (N + n) := fun j => by
    rw [hm, ho.mx, ← sup_fin_add]; simp only [hs]
  refine ⟨hm', fun r j => ?_⟩
  rw [ha, hm' j, ho.mx, ho.wt]
  simp only [hs, hv]
  refine Flash.step _ _ _ _ hN (fun k => ?_) ?_
  · unfold fs; split
    · exact (h _ _).2
    · exact bot_ne_top
  · unfold fs; rw [if_pos (Nat.zero_le _)]; exact (h _ _).1

theorem fs_of_le {q k : ℕ} (h : k ≤ q) : fs x0 x1 q k = sc x0 x1 q k := if_pos h

/-- The first tile, all its keys visible. -/
theorem first {s : FVec Ideal S1x512x256 .f32} {mv : FVec Ideal S1x1x256 .f32} {v : Vec Ideal S144x512 .bf16} (hq : 511 ≤ q0)
    (hs : Scores x0 x1 q0 0 s) (hm : Maxes x0 x1 q0 0 mv) (hv : Vals x2 0 v) : St x0 x1 x2 q0 512 (k0_pay37 mv) (k0_pay36 s mv v) := by
  have e : ∀ j : Fin 256, k0_pay37 (F := Ideal) mv (ix2 0 j) = mv (ix3 0 0 j) := fun j => by
    unfold k0_pay37 k0_pay35; pointwise
  refine St.start (s := fun i j => s (ix3 0 i j)) (v := fun r i => v (ix2 r i)) (fun i j => ?_) (fun r i => ?_) (fun j => ?_) (fun r j => ?_)
  · rw [hs, fs_of_le (by omega), Nat.zero_add]
  · rw [hv, Nat.zero_add]
  · rw [e, hm]; simp only [hs _ _]
  · rw [e]
    unfold k0_pay36 k0_pay35
    pointwise
    rfl

/-- A later tile, all its keys visible. -/
theorem later (h : Finite x0 x1) {s : FVec Ideal S1x512x256 .f32} {mv : FVec Ideal S1x1x256 .f32} {v : Vec Ideal S144x512 .bf16}
    {mo : FVec Ideal S1x256 .f32} {ao : FVec Ideal S144x256 .f32} (ho : St x0 x1 x2 q0 N mo ao) (hN : 0 < N) (hq : N + 511 ≤ q0)
    (hs : Scores x0 x1 q0 N s) (hm : Maxes x0 x1 q0 N mv) (hv : Vals x2 N v) :
    St x0 x1 x2 q0 (N + 512) (k0_pay107 mv mo) (k0_pay106 s mv v mo ao) := by
  have e : ∀ j : Fin 256, k0_pay107 (F := Ideal) mv mo (ix2 0 j) = max (mo (ix2 0 j) : EReal) (mv (ix3 0 0 j)) := fun j => by
    unfold k0_pay107 k0_pay105; pointwise
  refine ho.more h hN (s := fun i j => s (ix3 0 i j)) (v := fun r i => v (ix2 r i)) (fun i j => ?_) (fun r i => ?_) (fun j => ?_) (fun r j => ?_)
  · rw [hs, fs_of_le (by omega)]
  · rw [hv]
  · rw [e, hm]; simp only [hs _ _]
  · rw [e]
    unfold k0_pay106 k0_pay105
    pointwise
    rfl

/-- A masked block of scores, as 512 or 256 rows. -/
theorem masked {n : ℕ} {s : (⟨3, ![1, n, 256]⟩ : Shape).Idx → EReal} {s2 : (⟨2, ![n, 256]⟩ : Shape).Idx → EReal} (ko qo b : ℕ) (hk : N = b + ko)
    (hq : q0 = b + qo) (hs : Scores x0 x1 q0 N s) (h2 : ∀ i j, s2 (ix2 i j) = if ko + i.val ≤ qo + j.val then s (ix3 0 i j) else ⊥) (i : Fin n)
    (j : Fin 256) : s2 (ix2 i j) = fs x0 x1 (q0 + j) (N + i) := by
  rw [h2, hs, fs]
  subst hk hq
  by_cases h : ko + i.val ≤ qo + j.val
  · rw [if_pos h, if_pos (by omega)]
  · rw [if_neg h, if_neg (by omega)]

/-- The masked scores of a loaded block. -/
def masked512 (ko qo : BitVec 32) (s : FVec Ideal S1x512x256 .f32) : FVec Ideal S512x256 .f32 :=
  mask512 ko qo (shapeCast S512x256 s shapeCasts_S1x512x256_S512x256)

def masked256 (ko qo : BitVec 32) (s : FVec Ideal S1x256x256 .f32) : FVec Ideal S256x256 .f32 :=
  mask256 ko qo (shapeCast S256x256 s shapeCasts_S1x256x256_S256x256)

theorem masked512_apply (ko qo : ℕ) (hk : ko ≤ 1024) (hq : qo ≤ 1024) (s : FVec Ideal S1x512x256 .f32) (i : Fin 512) (j : Fin 256) :
    masked512 (BitVec.ofNat 32 ko) (BitVec.ofNat 32 qo) s (ix2 i j) = if ko + i.val ≤ qo + j.val then s (ix3 0 i j) else ⊥ := by
  unfold masked512
  rw [mask512_apply ko qo hk hq]
  pointwise

theorem masked256_apply (ko qo : ℕ) (hk : ko ≤ 1024) (hq : qo ≤ 1024) (s : FVec Ideal S1x256x256 .f32) (i j : Fin 256) :
    masked256 (BitVec.ofNat 32 ko) (BitVec.ofNat 32 qo) s (ix2 i j) = if ko + i.val ≤ qo + j.val then s (ix3 0 i j) else ⊥ := by
  unfold masked256
  rw [mask256_apply ko qo hk hq]
  pointwise

/-- A row of maxima and an accumulator, as stored. -/
def keepM (m : FVec Ideal S1x256 .f32) : FVec Ideal S1x256 .f32 := shapeCast S1x256 m shapeCasts_S1x256_S1x256

def keepA (a : FVec Ideal S144x256 .f32) : FVec Ideal S144x256 .f32 := shapeCast S144x256 a shapeCasts_S144x256_S144x256

theorem keepM_eq (m : FVec Ideal S1x256 .f32) : keepM m = m := shapeCast_self ..

theorem keepA_eq (a : FVec Ideal S144x256 .f32) : keepA a = a := shapeCast_self ..

/-- The first tile under the mask, 512 keys and 256. -/
theorem firstMasked512 (qo : ℕ) (hqo : qo ≤ 1024) {s : FVec Ideal S1x512x256 .f32} {v : Vec Ideal S144x512 .bf16}
    (hs : Scores x0 x1 qo 0 s) (hv : Vals x2 0 v) :
    St x0 x1 x2 qo 512 (keepM (colmax512 (masked512 0#32 (BitVec.ofNat 32 qo) s)))
      (keepA (weigh512 v (masked512 0#32 (BitVec.ofNat 32 qo) s) (colmax512 (masked512 0#32 (BitVec.ofNat 32 qo) s)))) := by
  rw [keepM_eq, keepA_eq]
  refine St.start (s := fun i j => masked512 0#32 (BitVec.ofNat 32 qo) s (ix2 i j)) (v := fun r i => v (ix2 r i)) (fun i j => ?_) (fun r i => ?_)
    (fun j => colmax512_apply ..) (fun r j => weigh512_apply ..)
  · refine (masked 0 qo 0 rfl (by omega) hs (masked512_apply 0 qo (by omega) hqo s) i j).trans ?_
    rw [Nat.zero_add]
  · rw [hv, Nat.zero_add]

theorem firstMasked256 (qo : ℕ) (hqo : qo ≤ 1024) {s : FVec Ideal S1x256x256 .f32} {v : Vec Ideal S144x256 .bf16}
    (hs : Scores x0 x1 qo 0 s) (hv : Vals x2 0 v) :
    St x0 x1 x2 qo 256 (keepM (colmax256 (masked256 0#32 (BitVec.ofNat 32 qo) s)))
      (keepA (weigh256 v (masked256 0#32 (BitVec.ofNat 32 qo) s) (colmax256 (masked256 0#32 (BitVec.ofNat 32 qo) s)))) := by
  rw [keepM_eq, keepA_eq]
  refine St.start (s := fun i j => masked256 0#32 (BitVec.ofNat 32 qo) s (ix2 i j)) (v := fun r i => v (ix2 r i)) (fun i j => ?_) (fun r i => ?_)
    (fun j => colmax256_apply ..) (fun r j => weigh256_apply ..)
  · refine (masked 0 qo 0 rfl (by omega) hs (masked256_apply 0 qo (by omega) hqo s) i j).trans ?_
    rw [Nat.zero_add]
  · rw [hv, Nat.zero_add]

/-- The new maximum of a masked tile. -/
def newM512 (ko qo : BitVec 32) (s : FVec Ideal S1x512x256 .f32) (mo : FVec Ideal S1x256 .f32) : FVec Ideal S1x256 .f32 :=
  maximumf mo (colmax512 (masked512 ko qo s))

def newM256 (ko qo : BitVec 32) (s : FVec Ideal S1x256x256 .f32) (mo : FVec Ideal S1x256 .f32) : FVec Ideal S1x256 .f32 :=
  maximumf mo (colmax256 (masked256 ko qo s))

/-- A later tile under the mask, 512 keys and 256. -/
theorem laterMasked512 (h : Finite x0 x1) (ko qo b : ℕ) {s : FVec Ideal S1x512x256 .f32} {v : Vec Ideal S144x512 .bf16}
    {mo : FVec Ideal S1x256 .f32} {ao : FVec Ideal S144x256 .f32} (ho : St x0 x1 x2 q0 N mo ao) (hN : 0 < N) (hko : ko ≤ 1024) (hqo : qo ≤ 1024)
    (hk : N = b + ko) (hq : q0 = b + qo) (hs : Scores x0 x1 q0 N s) (hv : Vals x2 N v) :
    St x0 x1 x2 q0 (N + 512) (keepM (newM512 (BitVec.ofNat 32 ko) (BitVec.ofNat 32 qo) s mo))
      (keepA (next mo (newM512 (BitVec.ofNat 32 ko) (BitVec.ofNat 32 qo) s mo) ao
        (weigh512 v (masked512 (BitVec.ofNat 32 ko) (BitVec.ofNat 32 qo) s) (newM512 (BitVec.ofNat 32 ko) (BitVec.ofNat 32 qo) s mo)))) := by
  rw [keepM_eq, keepA_eq]
  refine ho.more h hN (s := fun i j => masked512 (BitVec.ofNat 32 ko) (BitVec.ofNat 32 qo) s (ix2 i j)) (v := fun r i => v (ix2 r i)) (fun i j => ?_)
    (fun r i => hv r i) (fun j => ?_) (fun r j => ?_)
  · exact masked ko qo b hk hq hs (masked512_apply ko qo hko hqo s) i j
  · rw [← colmax512_apply _ 0 j]; rfl
  · rw [next_apply, weigh512_apply]

theorem laterMasked256 (h : Finite x0 x1) (ko qo b : ℕ) {s : FVec Ideal S1x256x256 .f32} {v : Vec Ideal S144x256 .bf16}
    {mo : FVec Ideal S1x256 .f32} {ao : FVec Ideal S144x256 .f32} (ho : St x0 x1 x2 q0 N mo ao) (hN : 0 < N) (hko : ko ≤ 1024) (hqo : qo ≤ 1024)
    (hk : N = b + ko) (hq : q0 = b + qo) (hs : Scores x0 x1 q0 N s) (hv : Vals x2 N v) :
    St x0 x1 x2 q0 (N + 256) (keepM (newM256 (BitVec.ofNat 32 ko) (BitVec.ofNat 32 qo) s mo))
      (keepA (next mo (newM256 (BitVec.ofNat 32 ko) (BitVec.ofNat 32 qo) s mo) ao
        (weigh256 v (masked256 (BitVec.ofNat 32 ko) (BitVec.ofNat 32 qo) s) (newM256 (BitVec.ofNat 32 ko) (BitVec.ofNat 32 qo) s mo)))) := by
  rw [keepM_eq, keepA_eq]
  refine ho.more h hN (s := fun i j => masked256 (BitVec.ofNat 32 ko) (BitVec.ofNat 32 qo) s (ix2 i j)) (v := fun r i => v (ix2 r i)) (fun i j => ?_)
    (fun r i => hv r i) (fun j => ?_) (fun r j => ?_)
  · exact masked ko qo b hk hq hs (masked256_apply ko qo hko hqo s) i j
  · rw [← colmax256_apply _ 0 j]; rfl
  · rw [next_apply, weigh256_apply]

end Steps

/-! ## The blocks the body loads -/

section Loads

variable {x0 x1 : Vec Ideal S4096x256 .bf16} {x2 : Vec Ideal S144x4096 .bf16} {q0 k0 : ℕ}

/-- `n` rows of a 4096-row operand from `o` on. -/
def Rows (x : Vec Ideal S4096x256 .bf16) (o : ℕ) {n : ℕ} (y : (⟨2, ![n, 256]⟩ : Shape).Idx → EReal) : Prop :=
  ∀ (i : Fin n) (d : Fin 256), y (ix2 i d) = x (ix2 (Fin.ofNat 4096 (o + i)) d)

theorem rows256 {a : Memref sig .tc .vmem S4096x256 .bf16} (ha : a.IsWhole) (x : Vec Ideal S4096x256 .bf16) (o : ℕ)
    (inb : ∀ b, (![o, 0] : Fin 2 → Nat) b + S256x256.size b ≤ S4096x256.size b) :
    Rows x o (View.readAt (Elt Ideal) a.view (Rect.unit (s := S4096x256) ![o, 0] S256x256.size inb).toLoadRect (ha.unread x)) := by
  intro i d
  have hb := inb 0
  simp at hb
  rw [View.readAt_eq_ld, ha.read_unread]
  refine congrArg x (funext fun b => ?_)
  fin_cases b
  · exact Fin.ext (by simp; omega)
  · exact Fin.ext (by simp)

theorem rows512 {a : Memref sig .tc .vmem S4096x256 .bf16} (ha : a.IsWhole) (x : Vec Ideal S4096x256 .bf16) (o : ℕ)
    (inb : ∀ b, (![o, 0] : Fin 2 → Nat) b + S512x256.size b ≤ S4096x256.size b) :
    Rows x o (View.readAt (Elt Ideal) a.view (Rect.unit (s := S4096x256) ![o, 0] S512x256.size inb).toLoadRect (ha.unread x)) := by
  intro i d
  have hb := inb 0
  simp at hb
  rw [View.readAt_eq_ld, ha.read_unread]
  refine congrArg x (funext fun b => ?_)
  fin_cases b
  · exact Fin.ext (by simp; omega)
  · exact Fin.ext (by simp)

theorem vals256 {a : Memref sig .tc .vmem S144x4096 .bf16} (ha : a.IsWhole) (x : Vec Ideal S144x4096 .bf16) (o : ℕ)
    (inb : ∀ b, (![0, o] : Fin 2 → Nat) b + S144x256.size b ≤ S144x4096.size b) :
    Vals x o (View.readAt (Elt Ideal) a.view (Rect.unit (s := S144x4096) ![0, o] S144x256.size inb).toLoadRect (ha.unread x)) := by
  intro i d
  have hb := inb 1
  simp at hb
  rw [View.readAt_eq_ld, ha.read_unread]
  refine congrArg x (funext fun b => ?_)
  fin_cases b
  · exact Fin.ext (by simp)
  · exact Fin.ext (by simp; omega)

theorem vals512 {a : Memref sig .tc .vmem S144x4096 .bf16} (ha : a.IsWhole) (x : Vec Ideal S144x4096 .bf16) (o : ℕ)
    (inb : ∀ b, (![0, o] : Fin 2 → Nat) b + S144x512.size b ≤ S144x4096.size b) :
    Vals x o (View.readAt (Elt Ideal) a.view (Rect.unit (s := S144x4096) ![0, o] S144x512.size inb).toLoadRect (ha.unread x)) := by
  intro i d
  have hb := inb 1
  simp at hb
  rw [View.readAt_eq_ld, ha.read_unread]
  refine congrArg x (funext fun b => ?_)
  fin_cases b
  · exact Fin.ext (by simp)
  · exact Fin.ext (by simp; omega)

/-- The stored scores of a block of keys against a block of queries, and their maxima. -/
theorem scores256 {q k : Vec Ideal S256x256 .bf16} (hq : Rows x0 q0 q) (hk : Rows x1 k0 k) : Scores x0 x1 q0 k0 (k0_pay5 q k) := by
  intro i j
  show shapeCast S1x256x256 (dots256 q k) shapeCasts_S256x256_S1x256x256 (ix3 0 i j) = _
  pointwise
  rw [dots256_apply]
  simp only [hk _ _, hq _ _]
  rfl

theorem scores512 {q : Vec Ideal S256x256 .bf16} {k : Vec Ideal S512x256 .bf16} (hq : Rows x0 q0 q) (hk : Rows x1 k0 k) :
    Scores x0 x1 q0 k0 (k0_pay8 q k) := by
  intro i j
  show shapeCast S1x512x256 (dots512 q k) shapeCasts_S512x256_S1x512x256 (ix3 0 i j) = _
  pointwise
  rw [dots512_apply]
  simp only [hk _ _, hq _ _]
  rfl

theorem maxes {q : Vec Ideal S256x256 .bf16} {k : Vec Ideal S512x256 .bf16} (hq : Rows x0 q0 q) (hk : Rows x1 k0 k) :
    Maxes x0 x1 q0 k0 (k0_pay13 q k) := by
  intro j
  show shapeCast S1x1x256 (colmax512 (dots512 q k)) shapeCasts_S1x256_S1x1x256 (ix3 0 0 j) = _
  pointwise
  rw [colmax512_apply]
  simp only [dots512_apply, hk _ _, hq _ _]
  rfl

end Loads

end Cert.Attn
-- ==== Proof.TilesA.lean ====
/-
  The running maximum and accumulator of every 256 queries after each block of keys: the first three query tiles.
-/
module

public import proofs.«01_k».proof.Proof.Gen.KernelIdeal.Frame
public import proofs.«01_k».proof.Proof.Payload
public import Idealize.ShloMosaic.Lib.Pipeline.ReadBack

@[expose] public section

set_option maxRecDepth 16384

noncomputable section

open Idealize.ShloMosaic Idealize.ShloMosaic.TcCoe Idealize.SL.Sem

namespace Cert.Attn

open Cert.KernelIdeal Cert.KernelIdeal.Gen Cert.KernelIdeal.Gen.kernelRun0_A

variable {c : Dev nD} {arg2 : Memref sig .tc .vmem S4096x256 .bf16} {harg2 : arg2.IsWhole}
  {arg3 : Memref sig .tc .vmem S4096x256 .bf16} {harg3 : arg3.IsWhole} {arg4 : Memref sig .tc .vmem S144x4096 .bf16} {harg4 : arg4.IsWhole}
  {arg10 : Memref sig .tc .vmem S2x512x1024 .f32} {arg11 : Memref sig .tc .vmem S2x1x1024 .f32}
  {arg12 : Memref sig .tc .vmem S1x1024 .f32} {arg13 : Memref sig .tc .vmem S144x1024 .f32}
  {x0 x1 : Vec Ideal S4096x256 .bf16} {x2 : Vec Ideal S144x4096 .bf16}

/-! ## Queries 0 to 1023 -/

theorem step0 (h : Finite x0 x1) : ∃ m, St x0 x1 x2 0 256 m (arg13.view.readCov (sl.HS3_6 (F := Ideal) c arg2 harg2 arg3 harg3 arg4 harg4 arg10 arg11 arg12 arg13 x0 x1 x2)
      (Rect.unit (s := S144x1024) ![0, 0] S144x256.size inb_S144x1024_S144x256_0_0).toLoadRect) := by
  have hs : Scores x0 x1 0 0 (sl.v72 (F := Ideal) c arg2 harg2 arg3 harg3 arg10 x0 x1) := by
    simp (disch := decide) only [sl.v72, sl.HS0_6, ↓View.readCov_skip, ↓View.readCov_cons_toLoadRect]
    exact scores256 (rows256 harg2 x0 0 inb_S4096x256_S256x256_0_0) (rows256 harg3 x1 0 inb_S4096x256_S256x256_0_0)
  simp (disch := decide) only [sl.HS3_6, sl.HS3_5, sl.HS3_4, ↓View.readCov_skip, ↓View.readCov_cons_toLoadRect]
  have e := firstMasked256 0 (by omega) hs (vals256 harg4 x2 0 inb_S144x4096_S144x256_0_0)
  dsimp only [keepM, keepA, weigh256, masked256, mask256, colmax256] at e
  dsimp only [sl.r_1, sl.v77, k0_pay23, k0_pay24, k0_pay25, k0_pay26, k0_pay27, k0_pay28]
  exact ⟨_, e⟩

theorem step1 (h : Finite x0 x1) : ∃ m, St x0 x1 x2 256 512 m (arg13.view.readCov (sl.HS3_6 (F := Ideal) c arg2 harg2 arg3 harg3 arg4 harg4 arg10 arg11 arg12 arg13 x0 x1 x2)
      (Rect.unit (s := S144x1024) ![0, 256] S144x256.size inb_S144x1024_S144x256_0_256).toLoadRect) := by
  have hs : Scores x0 x1 256 0 (sl.v97 (F := Ideal) c arg2 harg2 arg3 harg3 arg10 x0 x1) := by
    simp (disch := decide) only [sl.v97, sl.HS0_6, ↓View.readCov_skip, ↓View.readCov_cons_toLoadRect]
    exact scores512 (rows256 harg2 x0 256 inb_S4096x256_S256x256_256_0) (rows512 harg3 x1 0 inb_S4096x256_S512x256_0_0)
  simp (disch := decide) only [sl.HS3_6, sl.HS3_5, sl.HS3_4, ↓View.readCov_skip, ↓View.readCov_cons_toLoadRect]
  have e := firstMasked512 256 (by omega) hs (vals512 harg4 x2 0 inb_S144x4096_S144x512_0_0)
  dsimp only [keepM, keepA, weigh512, masked512, mask512, colmax512] at e
  dsimp only [sl.r_3, k0_pay30, k0_pay31, k0_pay32, k0_pay33]
  exact ⟨_, e⟩

theorem step2 (h : Finite x0 x1) : St x0 x1 x2 512 512 (sl.v212 (F := Ideal) c arg2 harg2 arg3 harg3 arg10 arg11 arg12 x0 x1) (sl.v219 (F := Ideal) c arg2 harg2 arg3 harg3 arg4 harg4 arg10 arg11 arg13 x0 x1 x2) := by
  have hs : Scores x0 x1 512 0 (sl.v122 (F := Ideal) c arg2 harg2 arg3 harg3 arg10 x0 x1) := by
    simp (disch := decide) only [sl.v122, sl.HS0_6, ↓View.readCov_skip, ↓View.readCov_cons_toLoadRect]
    exact scores512 (rows256 harg2 x0 512 inb_S4096x256_S256x256_512_0) (rows512 harg3 x1 0 inb_S4096x256_S512x256_0_0)
  have hm : Maxes x0 x1 512 0 (sl.v124 (F := Ideal) c arg2 harg2 arg3 harg3 arg11 x0 x1) := by
    simp (disch := decide) only [sl.v124, sl.HS1_6, ↓View.readCov_skip, ↓View.readCov_cons_toLoadRect]
    exact maxes (rows256 harg2 x0 512 inb_S4096x256_S256x256_512_0) (rows512 harg3 x1 0 inb_S4096x256_S512x256_0_0)
  simp (disch := decide) only [sl.v212, sl.v219, sl.HS3_4, sl.HS2_4, ↓View.readCov_skip, ↓View.readCov_cons_toLoadRect]
  have e := first (by omega) hs hm (vals512 harg4 x2 0 inb_S144x4096_S144x512_0_0)
  dsimp only [k0_pay37, k0_pay36, k0_pay35] at e
  dsimp only [k0_pay35, k0_pay36, k0_pay37]
  exact e

theorem step3 (h : Finite x0 x1) : St x0 x1 x2 768 512 (sl.v245 (F := Ideal) c arg2 harg2 arg3 harg3 arg10 arg11 arg12 x0 x1) (sl.v252 (F := Ideal) c arg2 harg2 arg3 harg3 arg4 harg4 arg10 arg11 arg12 arg13 x0 x1 x2) := by
  have hs : Scores x0 x1 768 0 (sl.v138 (F := Ideal) c arg2 harg2 arg3 harg3 arg10 x0 x1) := by
    simp (disch := decide) only [sl.v138, sl.HS0_6, ↓View.readCov_skip, ↓View.readCov_cons_toLoadRect]
    exact scores512 (rows256 harg2 x0 768 inb_S4096x256_S256x256_768_0) (rows512 harg3 x1 0 inb_S4096x256_S512x256_0_0)
  have hm : Maxes x0 x1 768 0 (sl.v140 (F := Ideal) c arg2 harg2 arg3 harg3 arg11 x0 x1) := by
    simp (disch := decide) only [sl.v140, sl.HS1_6, ↓View.readCov_skip, ↓View.readCov_cons_toLoadRect]
    exact maxes (rows256 harg2 x0 768 inb_S4096x256_S256x256_768_0) (rows512 harg3 x1 0 inb_S4096x256_S512x256_0_0)
  simp (disch := decide) only [sl.v245, sl.v252, sl.HS3_5, sl.HS3_4, sl.HS2_5, sl.HS2_4, ↓View.readCov_skip, ↓View.readCov_cons_toLoadRect]
  have e := first (by omega) hs hm (vals512 harg4 x2 0 inb_S144x4096_S144x512_0_0)
  dsimp only [k0_pay37, k0_pay36, k0_pay35] at e
  dsimp only [sl.r_4, sl.r_5, k0_pay38, k0_pay39, k0_pay40, k0_pay41]
  exact e

theorem step4 (h : Finite x0 x1) : ∃ m, St x0 x1 x2 512 768 m (arg13.view.readCov (sl.HS3_6 (F := Ideal) c arg2 harg2 arg3 harg3 arg4 harg4 arg10 arg11 arg12 arg13 x0 x1 x2)
      (Rect.unit (s := S144x1024) ![0, 512] S144x256.size inb_S144x1024_S144x256_0_512).toLoadRect) := by
  have hs : Scores x0 x1 512 512 (sl.v198 (F := Ideal) c arg2 harg2 arg3 harg3 arg10 x0 x1) := by
    simp (disch := decide) only [sl.v198, sl.HS0_10, sl.HS0_6, ↓View.readCov_skip, ↓View.readCov_cons_toLoadRect]
    exact scores256 (rows256 harg2 x0 512 inb_S4096x256_S256x256_512_0) (rows256 harg3 x1 512 inb_S4096x256_S256x256_512_0)
  have ho : St x0 x1 x2 512 512 (sl.v212 (F := Ideal) c arg2 harg2 arg3 harg3 arg10 arg11 arg12 x0 x1) (sl.v219 (F := Ideal) c arg2 harg2 arg3 harg3 arg4 harg4 arg10 arg11 arg13 x0 x1 x2) := step2 h
  simp (disch := decide) only [sl.HS3_6, sl.HS3_5, ↓View.readCov_skip, ↓View.readCov_cons_toLoadRect]
  have e := laterMasked256 h 512 512 0 ho (by omega) (by omega) (by omega) rfl rfl hs (vals256 harg4 x2 512 inb_S144x4096_S144x256_0_512)
  dsimp only [keepM, keepA, newM256, next, weigh256, masked256, mask256, colmax256] at e
  dsimp only [sl.r_7, sl.v200, k0_pay55, k0_pay56, k0_pay57, k0_pay58, k0_pay59]
  exact ⟨_, e⟩

theorem step5 (h : Finite x0 x1) : ∃ m, St x0 x1 x2 768 1024 m (arg13.view.readCov (sl.HS3_6 (F := Ideal) c arg2 harg2 arg3 harg3 arg4 harg4 arg10 arg11 arg12 arg13 x0 x1 x2)
      (Rect.unit (s := S144x1024) ![0, 768] S144x256.size inb_S144x1024_S144x256_0_768).toLoadRect) := by
  have hs : Scores x0 x1 768 512 (sl.v231 (F := Ideal) c arg2 harg2 arg3 harg3 arg10 x0 x1) := by
    simp (disch := decide) only [sl.v231, sl.HS0_10, sl.HS0_6, ↓View.readCov_skip, ↓View.readCov_cons_toLoadRect]
    exact scores512 (rows256 harg2 x0 768 inb_S4096x256_S256x256_768_0) (rows512 harg3 x1 512 inb_S4096x256_S512x256_512_0)
  have ho : St x0 x1 x2 768 512 (sl.v245 (F := Ideal) c arg2 harg2 arg3 harg3 arg10 arg11 arg12 x0 x1) (sl.v252 (F := Ideal) c arg2 harg2 arg3 harg3 arg4 harg4 arg10 arg11 arg12 arg13 x0 x1 x2) := step3 h
  simp (disch := decide) only [sl.HS3_6, ↓View.readCov_skip, ↓View.readCov_cons_toLoadRect]
  have e := laterMasked512 h 512 768 0 ho (by omega) (by omega) (by omega) rfl rfl hs (vals512 harg4 x2 512 inb_S144x4096_S144x512_0_512)
  dsimp only [keepM, keepA, newM512, next, weigh512, masked512, mask512, colmax512] at e
  dsimp only [sl.cst_191, sl.r_8, k0_pay61, k0_pay62, k0_pay63, k0_pay64, k0_pay65]
  exact ⟨_, e⟩

/-! ## Queries 1024 to 2047 -/

theorem step6 (h : Finite x0 x1) : St x0 x1 x2 1024 512 (sl.v429 (F := Ideal) c arg2 harg2 arg3 harg3 arg10 arg11 arg12 x0 x1) (sl.v436 (F := Ideal) c arg2 harg2 arg3 harg3 arg4 harg4 arg10 arg11 arg12 arg13 x0 x1 x2) := by
  have hs : Scores x0 x1 1024 0 (sl.v316 (F := Ideal) c arg2 harg2 arg3 harg3 arg10 x0 x1) := by
    simp (disch := decide) only [sl.v316, sl.HS0_14, sl.HS0_10, ↓View.readCov_skip, ↓View.readCov_cons_toLoadRect]
    exact scores512 (rows256 harg2 x0 1024 inb_S4096x256_S256x256_1024_0) (rows512 harg3 x1 0 inb_S4096x256_S512x256_0_0)
  have hm : Maxes x0 x1 1024 0 (sl.v318 (F := Ideal) c arg2 harg2 arg3 harg3 arg11 x0 x1) := by
    simp (disch := decide) only [sl.v318, sl.HS1_14, ↓View.readCov_skip, ↓View.readCov_cons_toLoadRect]
    exact maxes (rows256 harg2 x0 1024 inb_S4096x256_S256x256_1024_0) (rows512 harg3 x1 0 inb_S4096x256_S512x256_0_0)
  simp (disch := decide) only [sl.v429, sl.v436, sl.HS3_10, sl.HS2_10, ↓View.readCov_skip, ↓View.readCov_cons_toLoadRect]
  have e := first (by omega) hs hm (vals512 harg4 x2 0 inb_S144x4096_S144x512_0_0)
  dsimp only [k0_pay37, k0_pay36, k0_pay35] at e
  dsimp only [sl.r_11, k0_pay81, k0_pay82, k0_pay83]
  exact e

theorem step7 (h : Finite x0 x1) : St x0 x1 x2 1280 512 (sl.v453 (F := Ideal) c arg2 harg2 arg3 harg3 arg10 arg11 arg12 x0 x1) (sl.v460 (F := Ideal) c arg2 harg2 arg3 harg3 arg4 harg4 arg10 arg11 arg12 arg13 x0 x1 x2) := by
  have hs : Scores x0 x1 1280 0 (sl.v332 (F := Ideal) c arg2 harg2 arg3 harg3 arg10 x0 x1) := by
    simp (disch := decide) only [sl.v332, sl.HS0_14, sl.HS0_10, ↓View.readCov_skip, ↓View.readCov_cons_toLoadRect]
    exact scores512 (rows256 harg2 x0 1280 inb_S4096x256_S256x256_1280_0) (rows512 harg3 x1 0 inb_S4096x256_S512x256_0_0)
  have hm : Maxes x0 x1 1280 0 (sl.v334 (F := Ideal) c arg2 harg2 arg3 harg3 arg11 x0 x1) := by
    simp (disch := decide) only [sl.v334, sl.HS1_14, ↓View.readCov_skip, ↓View.readCov_cons_toLoadRect]
    have e := maxes (rows256 harg2 x0 1280 inb_S4096x256_S256x256_1280_0) (rows512 harg3 x1 0 inb_S4096x256_S512x256_0_0)
    dsimp only [k0_pay13, k0_pay11] at e
    dsimp only [k0_pay45, k0_pay47, k0_pay48, sl.r_6]
    exact e
  simp (disch := decide) only [sl.v453, sl.v460, sl.HS3_11, sl.HS3_10, sl.HS2_11, sl.HS2_10, ↓View.readCov_skip, ↓View.readCov_cons_toLoadRect]
  have e := first (by omega) hs hm (vals512 harg4 x2 0 inb_S144x4096_S144x512_0_0)
  dsimp only [k0_pay37, k0_pay36, k0_pay35] at e
  dsimp only [k0_pay84, k0_pay85, k0_pay86]
  exact e

theorem step8 (h : Finite x0 x1) : St x0 x1 x2 1536 512 (sl.v477 (F := Ideal) c arg2 harg2 arg3 harg3 arg10 arg11 arg12 x0 x1) (sl.v484 (F := Ideal) c arg2 harg2 arg3 harg3 arg4 harg4 arg10 arg11 arg12 arg13 x0 x1 x2) := by
  have hs : Scores x0 x1 1536 0 (sl.v348 (F := Ideal) c arg2 harg2 arg3 harg3 arg10 x0 x1) := by
    simp (disch := decide) only [sl.v348, sl.HS0_14, sl.HS0_10, ↓View.readCov_skip, ↓View.readCov_cons_toLoadRect]
    exact scores512 (rows256 harg2 x0 1536 inb_S4096x256_S256x256_1536_0) (rows512 harg3 x1 0 inb_S4096x256_S512x256_0_0)
  have hm : Maxes x0 x1 1536 0 (sl.v350 (F := Ideal) c arg2 harg2 arg3 harg3 arg11 x0 x1) := by
    simp (disch := decide) only [sl.v350, sl.HS1_14, ↓View.readCov_skip, ↓View.readCov_cons_toLoadRect]
    exact maxes (rows256 harg2 x0 1536 inb_S4096x256_S256x256_1536_0) (rows512 harg3 x1 0 inb_S4096x256_S512x256_0_0)
  simp (disch := decide) only [sl.v477, sl.v484, sl.HS3_12, sl.HS3_11, sl.HS3_10, sl.HS2_12, sl.HS2_11, sl.HS2_10, ↓View.readCov_skip, ↓View.readCov_cons_toLoadRect]
  have e := first (by omega) hs hm (vals512 harg4 x2 0 inb_S144x4096_S144x512_0_0)
  dsimp only [k0_pay37, k0_pay36, k0_pay35] at e
  dsimp only [sl.r_12, k0_pay87, k0_pay88, k0_pay89]
  exact e

theorem step9 (h : Finite x0 x1) : St x0 x1 x2 1792 512 (sl.v501 (F := Ideal) c arg2 harg2 arg3 harg3 arg10 arg11 arg12 x0 x1) (sl.v508 (F := Ideal) c arg2 harg2 arg3 harg3 arg4 harg4 arg10 arg11 arg12 arg13 x0 x1 x2) := by
  have hs : Scores x0 x1 1792 0 (sl.v364 (F := Ideal) c arg2 harg2 arg3 harg3 arg10 x0 x1) := by
    simp (disch := decide) only [sl.v364, sl.HS0_14, sl.HS0_10, ↓View.readCov_skip, ↓View.readCov_cons_toLoadRect]
    exact scores512 (rows256 harg2 x0 1792 inb_S4096x256_S256x256_1792_0) (rows512 harg3 x1 0 inb_S4096x256_S512x256_0_0)
  have hm : Maxes x0 x1 1792 0 (sl.v366 (F := Ideal) c arg2 harg2 arg3 harg3 arg11 x0 x1) := by
    simp (disch := decide) only [sl.v366, sl.HS1_14, ↓View.readCov_skip, ↓View.readCov_cons_toLoadRect]
    exact maxes (rows256 harg2 x0 1792 inb_S4096x256_S256x256_1792_0) (rows512 harg3 x1 0 inb_S4096x256_S512x256_0_0)
  simp (disch := decide) only [sl.v501, sl.v508, sl.HS3_13, sl.HS3_12, sl.HS3_11, sl.HS3_10, sl.HS2_13, sl.HS2_12, sl.HS2_11, sl.HS2_10, ↓View.readCov_skip, ↓View.readCov_cons_toLoadRect]
  have e := first (by omega) hs hm (vals512 harg4 x2 0 inb_S144x4096_S144x512_0_0)
  dsimp only [k0_pay37, k0_pay36, k0_pay35] at e
  dsimp only [k0_pay90, k0_pay91, k0_pay92]
  exact e

theorem step10 (h : Finite x0 x1) : St x0 x1 x2 1024 1024 (sl.v556 (F := Ideal) c arg2 harg2 arg3 harg3 arg10 arg11 arg12 x0 x1) (sl.v563 (F := Ideal) c arg2 harg2 arg3 harg3 arg4 harg4 arg10 arg11 arg12 arg13 x0 x1 x2) := by
  have hs : Scores x0 x1 1024 512 (sl.v424 (F := Ideal) c arg2 harg2 arg3 harg3 arg10 x0 x1) := by
    simp (disch := decide) only [sl.v424, sl.HS0_18, sl.HS0_14, ↓View.readCov_skip, ↓View.readCov_cons_toLoadRect]
    have e := scores512 (rows256 harg2 x0 1024 inb_S4096x256_S256x256_1024_0) (rows512 harg3 x1 512 inb_S4096x256_S512x256_512_0)
    dsimp only [k0_pay8, k0_pay7] at e
    dsimp only [k0_pay68, k0_pay69, sl.r_9]
    exact e
  have hm : Maxes x0 x1 1024 512 (sl.v426 (F := Ideal) c arg2 harg2 arg3 harg3 arg11 x0 x1) := by
    simp (disch := decide) only [sl.v426, sl.HS1_18, sl.HS1_14, ↓View.readCov_skip, ↓View.readCov_cons_toLoadRect]
    have e := maxes (rows256 harg2 x0 1024 inb_S4096x256_S256x256_1024_0) (rows512 harg3 x1 512 inb_S4096x256_S512x256_512_0)
    dsimp only [k0_pay13, k0_pay11] at e
    dsimp only [k0_pay68, k0_pay70, sl.r_9]
    exact e
  have ho : St x0 x1 x2 1024 512 (sl.v429 (F := Ideal) c arg2 harg2 arg3 harg3 arg10 arg11 arg12 x0 x1) (sl.v436 (F := Ideal) c arg2 harg2 arg3 harg3 arg4 harg4 arg10 arg11 arg12 arg13 x0 x1 x2) := step6 h
  simp (disch := decide) only [sl.v556, sl.v563, sl.HS3_14, sl.HS3_13, sl.HS3_12, sl.HS3_11, sl.HS2_14, sl.HS2_13, sl.HS2_12, sl.HS2_11, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [k0_pay105, k0_pay106, k0_pay107]
  exact e

theorem step11 (h : Finite x0 x1) : St x0 x1 x2 1280 1024 (sl.v589 (F := Ideal) c arg2 harg2 arg3 harg3 arg10 arg11 arg12 x0 x1) (sl.v596 (F := Ideal) c arg2 harg2 arg3 harg3 arg4 harg4 arg10 arg11 arg12 arg13 x0 x1 x2) := by
  have hs : Scores x0 x1 1280 512 (sl.v448 (F := Ideal) c arg2 harg2 arg3 harg3 arg10 x0 x1) := by
    simp (disch := decide) only [sl.v448, sl.HS0_18, sl.HS0_14, ↓View.readCov_skip, ↓View.readCov_cons_toLoadRect]
    exact scores512 (rows256 harg2 x0 1280 inb_S4096x256_S256x256_1280_0) (rows512 harg3 x1 512 inb_S4096x256_S512x256_512_0)
  have hm : Maxes x0 x1 1280 512 (sl.v450 (F := Ideal) c arg2 harg2 arg3 harg3 arg11 x0 x1) := by
    simp (disch := decide) only [sl.v450, sl.HS1_18, sl.HS1_14, ↓View.readCov_skip, ↓View.readCov_cons_toLoadRect]
    exact maxes (rows256 harg2 x0 1280 inb_S4096x256_S256x256_1280_0) (rows512 harg3 x1 512 inb_S4096x256_S512x256_512_0)
  have ho : St x0 x1 x2 1280 512 (sl.v453 (F := Ideal) c arg2 harg2 arg3 harg3 arg10 arg11 arg12 x0 x1) (sl.v460 (F := Ideal) c arg2 harg2 arg3 harg3 arg4 harg4 arg10 arg11 arg12 arg13 x0 x1 x2) := step7 h
  simp (disch := decide) only [sl.v589, sl.v596, sl.HS3_15, sl.HS3_14, sl.HS3_13, sl.HS3_12, sl.HS2_15, sl.HS2_14, sl.HS2_13, sl.HS2_12, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [k0_pay108, k0_pay109, k0_pay110]
  exact e

theorem step12 (h : Finite x0 x1) : St x0 x1 x2 1536 1024 (sl.v613 (F := Ideal) c arg2 harg2 arg3 harg3 arg10 arg11 arg12 x0 x1) (sl.v620 (F := Ideal) c arg2 harg2 arg3 harg3 arg4 harg4 arg10 arg11 arg12 arg13 x0 x1 x2) := by
  have hs : Scores x0 x1 1536 512 (sl.v472 (F := Ideal) c arg2 harg2 arg3 harg3 arg10 x0 x1) := by
    simp (disch := decide) only [sl.v472, sl.HS0_18, sl.HS0_14, ↓View.readCov_skip, ↓View.readCov_cons_toLoadRect]
    exact scores512 (rows256 harg2 x0 1536 inb_S4096x256_S256x256_1536_0) (rows512 harg3 x1 512 inb_S4096x256_S512x256_512_0)
  have hm : Maxes x0 x1 1536 512 (sl.v474 (F := Ideal) c arg2 harg2 arg3 harg3 arg11 x0 x1) := by
    simp (disch := decide) only [sl.v474, sl.HS1_18, sl.HS1_14, ↓View.readCov_skip, ↓View.readCov_cons_toLoadRect]
    have e := maxes (rows256 harg2 x0 1536 inb_S4096x256_S256x256_1536_0) (rows512 harg3 x1 512 inb_S4096x256_S512x256_512_0)
    dsimp only [k0_pay13, k0_pay11] at e
    dsimp only [k0_pay74, k0_pay76, k0_pay77, sl.r_10]
    exact e
  have ho : St x0 x1 x2 1536 512 (sl.v477 (F := Ideal) c arg2 harg2 arg3 harg3 arg10 arg11 arg12 x0 x1) (sl.v484 (F := Ideal) c arg2 harg2 arg3 harg3 arg4 harg4 arg10 arg11 arg12 arg13 x0 x1 x2) := step8 h
  simp (disch := decide) only [sl.v613, sl.v620, sl.HS3_16, sl.HS3_15, sl.HS3_14, sl.HS3_13, sl.HS2_16, sl.HS2_15, sl.HS2_14, sl.HS2_13, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [sl.r_14, sl.r_15, sl.r_16, sl.r_17, k0_pay111, k0_pay112, k0_pay113, k0_pay114, k0_pay115]
  exact e

theorem step13 (h : Finite x0 x1) : St x0 x1 x2 1792 1024 (sl.v637 (F := Ideal) c arg2 harg2 arg3 harg3 arg10 arg11 arg12 x0 x1) (sl.v644 (F := Ideal) c arg2 harg2 arg3 harg3 arg4 harg4 arg10 arg11 arg12 arg13 x0 x1 x2) := by
  have hs : Scores x0 x1 1792 512 (sl.v496 (F := Ideal) c arg2 harg2 arg3 harg3 arg10 x0 x1) := by
    simp (disch := decide) only [sl.v496, sl.HS0_18, sl.HS0_14, ↓View.readCov_skip, ↓View.readCov_cons_toLoadRect]
    exact scores512 (rows256 harg2 x0 1792 inb_S4096x256_S256x256_1792_0) (rows512 harg3 x1 512 inb_S4096x256_S512x256_512_0)
  have hm : Maxes x0 x1 1792 512 (sl.v498 (F := Ideal) c arg2 harg2 arg3 harg3 arg11 x0 x1) := by
    simp (disch := decide) only [sl.v498, sl.HS1_18, sl.HS1_14, ↓View.readCov_skip, ↓View.readCov_cons_toLoadRect]
    exact maxes (rows256 harg2 x0 1792 inb_S4096x256_S256x256_1792_0) (rows512 harg3 x1 512 inb_S4096x256_S512x256_512_0)
  have ho : St x0 x1 x2 1792 512 (sl.v501 (F := Ideal) c arg2 harg2 arg3 harg3 arg10 arg11 arg12 x0 x1) (sl.v508 (F := Ideal) c arg2 harg2 arg3 harg3 arg4 harg4 arg10 arg11 arg12 arg13 x0 x1 x2) := step9 h
  simp (disch := decide) only [sl.v637, sl.v644, sl.HS3_17, sl.HS3_16, sl.HS3_15, sl.HS3_14, sl.HS2_17, sl.HS2_16, sl.HS2_15, sl.HS2_14, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [sl.r_18, sl.r_19, k0_pay116, k0_pay117, k0_pay118]
  exact e

theorem step14 (h : Finite x0 x1) : ∃ m, St x0 x1 x2 1024 1280 m (arg13.view.readCov (sl.HS3_20 (F := Ideal) c arg2 harg2 arg3 harg3 arg4 harg4 arg10 arg11 arg12 arg13 x0 x1 x2)
      (Rect.unit (s := S144x1024) ![0, 0] S144x256.size inb_S144x1024_S144x256_0_0).toLoadRect) := by
  have hs : Scores x0 x1 1024 1024 (sl.v542 (F := Ideal) c arg2 harg2 arg3 harg3 arg10 x0 x1) := by
    simp (disch := decide) only [sl.v542, sl.HS0_20, sl.HS0_18, ↓View.readCov_skip, ↓View.readCov_cons_toLoadRect]
    exact scores256 (rows256 harg2 x0 1024 inb_S4096x256_S256x256_1024_0) (rows256 harg3 x1 1024 inb_S4096x256_S256x256_1024_0)
  have ho : St x0 x1 x2 1024 1024 (sl.v556 (F := Ideal) c arg2 harg2 arg3 harg3 arg10 arg11 arg12 x0 x1) (sl.v563 (F := Ideal) c arg2 harg2 arg3 harg3 arg4 harg4 arg10 arg11 arg12 arg13 x0 x1 x2) := step10 h
  simp (disch := decide) only [sl.HS3_20, sl.HS3_19, sl.HS3_18, sl.HS3_17, sl.HS3_16, sl.HS3_15, ↓View.readCov_skip, ↓View.readCov_cons_toLoadRect]
  have e := laterMasked256 h 0 0 1024 ho (by omega) (by omega) (by omega) rfl rfl hs (vals256 harg4 x2 1024 inb_S144x4096_S144x256_0_1024)
  dsimp only [keepM, keepA, newM256, next, weigh256, masked256, mask256, colmax256] at e
  dsimp only [k0_pay125, k0_pay126, k0_pay127]
  exact ⟨_, e⟩

theorem step15 (h : Finite x0 x1) : ∃ m, St x0 x1 x2 1280 1536 m (arg13.view.readCov (sl.HS3_20 (F := Ideal) c arg2 harg2 arg3 harg3 arg4 harg4 arg10 arg11 arg12 arg13 x0 x1 x2)
      (Rect.unit (s := S144x1024) ![0, 256] S144x256.size inb_S144x1024_S144x256_0_256).toLoadRect) := by
  have hs : Scores x0 x1 1280 1024 (sl.v575 (F := Ideal) c arg2 harg2 arg3 harg3 arg10 x0 x1) := by
    simp (disch := decide) only [sl.v575, sl.HS0_20, sl.HS0_18, ↓View.readCov_skip, ↓View.readCov_cons_toLoadRect]
    exact scores512 (rows256 harg2 x0 1280 inb_S4096x256_S256x256_1280_0) (rows512 harg3 x1 1024 inb_S4096x256_S512x256_1024_0)
  have ho : St x0 x1 x2 1280 1024 (sl.v589 (F := Ideal) c arg2 harg2 arg3 harg3 arg10 arg11 arg12 x0 x1) (sl.v596 (F := Ideal) c arg2 harg2 arg3 harg3 arg4 harg4 arg10 arg11 arg12 arg13 x0 x1 x2) := step11 h
  simp (disch := decide) only [sl.HS3_20, sl.HS3_19, sl.HS3_18, sl.HS3_17, sl.HS3_16, ↓View.readCov_skip, ↓View.readCov_cons_toLoadRect]
  have e := laterMasked512 h 0 256 1024 ho (by omega) (by omega) (by omega) rfl rfl hs (vals512 harg4 x2 1024 inb_S144x4096_S144x512_0_1024)
  dsimp only [keepM, keepA, newM512, next, weigh512, masked512, mask512, colmax512] at e
  dsimp only [sl.r_20, sl.v580, k0_pay129, k0_pay130, k0_pay131, k0_pay132, k0_pay133]
  exact ⟨_, e⟩

theorem step16 (h : Finite x0 x1) : St x0 x1 x2 1536 1536 (sl.v714 (F := Ideal) c arg2 harg2 arg3 harg3 arg10 arg11 arg12 x0 x1) (sl.v721 (F := Ideal) c arg2 harg2 arg3 harg3 arg4 harg4 arg10 arg11 arg12 arg13 x0 x1 x2) := by
  have hs : Scores x0 x1 1536 1024 (sl.v608 (F := Ideal) c arg2 harg2 arg3 harg3 arg10 x0 x1) := by
    simp (disch := decide) only [sl.v608, sl.HS0_20, sl.HS0_18, ↓View.readCov_skip, ↓View.readCov_cons_toLoadRect]
    exact scores512 (rows256 harg2 x0 1536 inb_S4096x256_S256x256_1536_0) (rows512 harg3 x1 1024 inb_S4096x256_S512x256_1024_0)
  have hm : Maxes x0 x1 1536 1024 (sl.v610 (F := Ideal) c arg2 harg2 arg3 harg3 arg11 x0 x1) := by
    simp (disch := decide) only [sl.v610, sl.HS1_20, sl.HS1_18, ↓View.readCov_skip, ↓View.readCov_cons_toLoadRect]
    exact maxes (rows256 harg2 x0 1536 inb_S4096x256_S256x256_1536_0) (rows512 harg3 x1 1024 inb_S4096x256_S512x256_1024_0)
  have ho : St x0 x1 x2 1536 1024 (sl.v613 (F := Ideal) c arg2 harg2 arg3 harg3 arg10 arg11 arg12 x0 x1) (sl.v620 (F := Ideal) c arg2 harg2 arg3 harg3 arg4 harg4 arg10 arg11 arg12 arg13 x0 x1 x2) := step12 h
  simp (disch := decide) only [sl.v714, sl.v721, sl.HS3_18, sl.HS3_17, sl.HS2_18, sl.HS2_17, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_21, sl.r_22, sl.r_23, k0_pay135, k0_pay136, k0_pay137, k0_pay138]
  exact e

theorem step17 (h : Finite x0 x1) : St x0 x1 x2 1792 1536 (sl.v747 (F := Ideal) c arg2 harg2 arg3 harg3 arg10 arg11 arg12 x0 x1) (sl.v754 (F := Ideal) c arg2 harg2 arg3 harg3 arg4 harg4 arg10 arg11 arg12 arg13 x0 x1 x2) := by
  have hs : Scores x0 x1 1792 1024 (sl.v632 (F := Ideal) c arg2 harg2 arg3 harg3 arg10 x0 x1) := by
    simp (disch := decide) only [sl.v632, sl.HS0_20, sl.HS0_18, ↓View.readCov_skip, ↓View.readCov_cons_toLoadRect]
    have e := scores512 (rows256 harg2 x0 1792 inb_S4096x256_S256x256_1792_0) (rows512 harg3 x1 1024 inb_S4096x256_S512x256_1024_0)
    dsimp only [k0_pay8, k0_pay7] at e
    dsimp only [k0_pay102, k0_pay103, sl.r_13]
    exact e
  have hm : Maxes x0 x1 1792 1024 (sl.v634 (F := Ideal) c arg2 harg2 arg3 harg3 arg11 x0 x1) := by
    simp (disch := decide) only [sl.v634, sl.HS1_20, sl.HS1_18, ↓View.readCov_skip, ↓View.readCov_cons_toLoadRect]
    have e := maxes (rows256 harg2 x0 1792 inb_S4096x256_S256x256_1792_0) (rows512 harg3 x1 1024 inb_S4096x256_S512x256_1024_0)
    dsimp only [k0_pay13, k0_pay11] at e
    dsimp only [k0_pay102, k0_pay104, sl.r_13]
    exact e
  have ho : St x0 x1 x2 1792 1024 (sl.v637 (F := Ideal) c arg2 harg2 arg3 harg3 arg10 arg11 arg12 x0 x1) (sl.v644 (F := Ideal) c arg2 harg2 arg3 harg3 arg4 harg4 arg10 arg11 arg12 arg13 x0 x1 x2) := step13 h
  simp (disch := decide) only [sl.v747, sl.v754, sl.HS3_19, sl.HS3_18, sl.HS2_19, sl.HS2_18, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_24, sl.r_25, k0_pay139, k0_pay140, k0_pay141, k0_pay142]
  exact e

theorem step18 (h : Finite x0 x1) : ∃ m, St x0 x1 x2 1536 1792 m (arg13.view.readCov (sl.HS3_20 (F := Ideal) c arg2 harg2 arg3 harg3 arg4 harg4 arg10 arg11 arg12 arg13 x0 x1 x2)
      (Rect.unit (s := S144x1024) ![0, 512] S144x256.size inb_S144x1024_S144x256_0_512).toLoadRect) := by
  have hs : Scores x0 x1 1536 1536 (sl.v700 (F := Ideal) c arg2 harg2 arg3 harg3 arg10 x0 x1) := by
    simp (disch := decide) only [sl.v700, sl.HS0_24, sl.HS0_20, ↓View.readCov_skip, ↓View.readCov_cons_toLoadRect]
    exact scores256 (rows256 harg2 x0 1536 inb_S4096x256_S256x256_1536_0) (rows256 harg3 x1 1536 inb_S4096x256_S256x256_1536_0)
  have ho : St x0 x1 x2 1536 1536 (sl.v714 (F := Ideal) c arg2 harg2 arg3 harg3 arg10 arg11 arg12 x0 x1) (sl.v721 (F := Ideal) c arg2 harg2 arg3 harg3 arg4 harg4 arg10 arg11 arg12 arg13 x0 x1 x2) := step16 h
  simp (disch := decide) only [sl.HS3_20, sl.HS3_19, ↓View.readCov_skip, ↓View.readCov_cons_toLoadRect]
  have e := laterMasked256 h 512 512 1024 ho (by omega) (by omega) (by omega) rfl rfl hs (vals256 harg4 x2 1536 inb_S144x4096_S144x256_0_1536)
  dsimp only [keepM, keepA, newM256, next, weigh256, masked256, mask256, colmax256] at e
  dsimp only [sl.r_26, sl.v77, k0_pay155, k0_pay156, k0_pay157, k0_pay158, k0_pay159]
  exact ⟨_, e⟩

theorem step19 (h : Finite x0 x1) : ∃ m, St x0 x1 x2 1792 2048 m (arg13.view.readCov (sl.HS3_20 (F := Ideal) c arg2 harg2 arg3 harg3 arg4 harg4 arg10 arg11 arg12 arg13 x0 x1 x2)
      (Rect.unit (s := S144x1024) ![0, 768] S144x256.size inb_S144x1024_S144x256_0_768).toLoadRect) := by
  have hs : Scores x0 x1 1792 1536 (sl.v733 (F := Ideal) c arg2 harg2 arg3 harg3 arg10 x0 x1) := by
    simp (disch := decide) only [sl.v733, sl.HS0_24, sl.HS0_20, ↓View.readCov_skip, ↓View.readCov_cons_toLoadRect]
    exact scores512 (rows256 harg2 x0 1792 inb_S4096x256_S256x256_1792_0) (rows512 harg3 x1 1536 inb_S4096x256_S512x256_1536_0)
  have ho : St x0 x1 x2 1792 1536 (sl.v747 (F := Ideal) c arg2 harg2 arg3 harg3 arg10 arg11 arg12 x0 x1) (sl.v754 (F := Ideal) c arg2 harg2 arg3 harg3 arg4 harg4 arg10 arg11 arg12 arg13 x0 x1 x2) := step17 h
  simp (disch := decide) only [sl.HS3_20, ↓View.readCov_skip, ↓View.readCov_cons_toLoadRect]
  have e := laterMasked512 h 512 768 1024 ho (by omega) (by omega) (by omega) rfl rfl hs (vals512 harg4 x2 1536 inb_S144x4096_S144x512_0_1536)
  dsimp only [keepM, keepA, newM512, next, weigh512, masked512, mask512, colmax512] at e
  dsimp only [sl.r_27, k0_pay161, k0_pay162, k0_pay163]
  exact ⟨_, e⟩

/-! ## Queries 2048 to 3071 -/

theorem step20 (h : Finite x0 x1) : St x0 x1 x2 2048 512 (sl.v931 (F := Ideal) c arg2 harg2 arg3 harg3 arg10 arg11 arg12 x0 x1) (sl.v938 (F := Ideal) c arg2 harg2 arg3 harg3 arg4 harg4 arg10 arg11 arg12 arg13 x0 x1 x2) := by
  have hs : Scores x0 x1 2048 0 (sl.v818 (F := Ideal) c arg2 harg2 arg3 harg3 arg10 x0 x1) := by
    simp (disch := decide) only [sl.v818, sl.HS0_28, sl.HS0_24, ↓View.readCov_skip, ↓View.readCov_cons_toLoadRect]
    exact scores512 (rows256 harg2 x0 2048 inb_S4096x256_S256x256_2048_0) (rows512 harg3 x1 0 inb_S4096x256_S512x256_0_0)
  have hm : Maxes x0 x1 2048 0 (sl.v820 (F := Ideal) c arg2 harg2 arg3 harg3 arg11 x0 x1) := by
    simp (disch := decide) only [sl.v820, sl.HS1_28, sl.HS1_26, ↓View.readCov_skip, ↓View.readCov_cons_toLoadRect]
    exact maxes (rows256 harg2 x0 2048 inb_S4096x256_S256x256_2048_0) (rows512 harg3 x1 0 inb_S4096x256_S512x256_0_0)
  simp (disch := decide) only [sl.v931, sl.v938, sl.HS3_24, sl.HS2_24, ↓View.readCov_skip, ↓View.readCov_cons_toLoadRect]
  have e := first (by omega) hs hm (vals512 harg4 x2 0 inb_S144x4096_S144x512_0_0)
  dsimp only [k0_pay37, k0_pay36, k0_pay35] at e
  dsimp only [k0_pay179, k0_pay180, k0_pay181]
  exact e

theorem step21 (h : Finite x0 x1) : St x0 x1 x2 2304 512 (sl.v955 (F := Ideal) c arg2 harg2 arg3 harg3 arg10 arg11 arg12 x0 x1) (sl.v962 (F := Ideal) c arg2 harg2 arg3 harg3 arg4 harg4 arg10 arg11 arg12 arg13 x0 x1 x2) := by
  have hs : Scores x0 x1 2304 0 (sl.v834 (F := Ideal) c arg2 harg2 arg3 harg3 arg10 x0 x1) := by
    simp (disch := decide) only [sl.v834, sl.HS0_28, sl.HS0_24, ↓View.readCov_skip, ↓View.readCov_cons_toLoadRect]
    exact scores512 (rows256 harg2 x0 2304 inb_S4096x256_S256x256_2304_0) (rows512 harg3 x1 0 inb_S4096x256_S512x256_0_0)
  have hm : Maxes x0 x1 2304 0 (sl.v836 (F := Ideal) c arg2 harg2 arg3 harg3 arg11 x0 x1) := by
    simp (disch := decide) only [sl.v836, sl.HS1_28, sl.HS1_26, ↓View.readCov_skip, ↓View.readCov_cons_toLoadRect]
    exact maxes (rows256 harg2 x0 2304 inb_S4096x256_S256x256_2304_0) (rows512 harg3 x1 0 inb_S4096x256_S512x256_0_0)
  simp (disch := decide) only [sl.v955, sl.v962, sl.HS3_25, sl.HS3_24, sl.HS2_25, sl.HS2_24, ↓View.readCov_skip, ↓View.readCov_cons_toLoadRect]
  have e := first (by omega) hs hm (vals512 harg4 x2 0 inb_S144x4096_S144x512_0_0)
  dsimp only [k0_pay37, k0_pay36, k0_pay35] at e
  dsimp only [k0_pay182, k0_pay183, k0_pay184]
  exact e

theorem step22 (h : Finite x0 x1) : St x0 x1 x2 2560 512 (sl.v979 (F := Ideal) c arg2 harg2 arg3 harg3 arg10 arg11 arg12 x0 x1) (sl.v986 (F := Ideal) c arg2 harg2 arg3 harg3 arg4 harg4 arg10 arg11 arg12 arg13 x0 x1 x2) := by
  have hs : Scores x0 x1 2560 0 (sl.v850 (F := Ideal) c arg2 harg2 arg3 harg3 arg10 x0 x1) := by
    simp (disch := decide) only [sl.v850, sl.HS0_28, sl.HS0_24, ↓View.readCov_skip, ↓View.readCov_cons_toLoadRect]
    exact scores512 (rows256 harg2 x0 2560 inb_S4096x256_S256x256_2560_0) (rows512 harg3 x1 0 inb_S4096x256_S512x256_0_0)
  have hm : Maxes x0 x1 2560 0 (sl.v852 (F := Ideal) c arg2 harg2 arg3 harg3 arg11 x0 x1) := by
    simp (disch := decide) only [sl.v852, sl.HS1_28, sl.HS1_26, ↓View.readCov_skip, ↓View.readCov_cons_toLoadRect]
    exact maxes (rows256 harg2 x0 2560 inb_S4096x256_S256x256_2560_0) (rows512 harg3 x1 0 inb_S4096x256_S512x256_0_0)
  simp (disch := decide) only [sl.v979, sl.v986, sl.HS3_26, sl.HS3_25, sl.HS3_24, sl.HS2_26, sl.HS2_25, sl.HS2_24, ↓View.readCov_skip, ↓View.readCov_cons_toLoadRect]
  have e := first (by omega) hs hm (vals512 harg4 x2 0 inb_S144x4096_S144x512_0_0)
  dsimp only [k0_pay37, k0_pay36, k0_pay35] at e
  dsimp only [sl.r_30, k0_pay185, k0_pay186, k0_pay187]
  exact e

theorem step23 (h : Finite x0 x1) : St x0 x1 x2 2816 512 (sl.v1003 (F := Ideal) c arg2 harg2 arg3 harg3 arg10 arg11 arg12 x0 x1) (sl.v1010 (F := Ideal) c arg2 harg2 arg3 harg3 arg4 harg4 arg10 arg11 arg12 arg13 x0 x1 x2) := by
  have hs : Scores x0 x1 2816 0 (sl.v866 (F := Ideal) c arg2 harg2 arg3 harg3 arg10 x0 x1) := by
    simp (disch := decide) only [sl.v866, sl.HS0_28, sl.HS0_24, ↓View.readCov_skip, ↓View.readCov_cons_toLoadRect]
    exact scores512 (rows256 harg2 x0 2816 inb_S4096x256_S256x256_2816_0) (rows512 harg3 x1 0 inb_S4096x256_S512x256_0_0)
  have hm : Maxes x0 x1 2816 0 (sl.v868 (F := Ideal) c arg2 harg2 arg3 harg3 arg11 x0 x1) := by
    simp (disch := decide) only [sl.v868, sl.HS1_28, sl.HS1_26, ↓View.readCov_skip, ↓View.readCov_cons_toLoadRect]
    exact maxes (rows256 harg2 x0 2816 inb_S4096x256_S256x256_2816_0) (rows512 harg3 x1 0 inb_S4096x256_S512x256_0_0)
  simp (disch := decide) only [sl.v1003, sl.v1010, sl.HS3_27, sl.HS3_26, sl.HS3_25, sl.HS3_24, sl.HS2_27, sl.HS2_26, sl.HS2_25, sl.HS2_24, ↓View.readCov_skip, ↓View.readCov_cons_toLoadRect]
  have e := first (by omega) hs hm (vals512 harg4 x2 0 inb_S144x4096_S144x512_0_0)
  dsimp only [k0_pay37, k0_pay36, k0_pay35] at e
  dsimp only [k0_pay188, k0_pay189, k0_pay190]
  exact e

theorem step24 (h : Finite x0 x1) : St x0 x1 x2 2048 1024 (sl.v1071 (F := Ideal) c arg2 harg2 arg3 harg3 arg10 arg11 arg12 x0 x1) (sl.v1078 (F := Ideal) c arg2 harg2 arg3 harg3 arg4 harg4 arg10 arg11 arg12 arg13 x0 x1 x2) := by
  have hs : Scores x0 x1 2048 512 (sl.v926 (F := Ideal) c arg2 harg2 arg3 harg3 arg10 x0 x1) := by
    simp (disch := decide) only [sl.v926, sl.HS0_32, sl.HS0_28, ↓View.readCov_skip, ↓View.readCov_cons_toLoadRect]
    have e := scores512 (rows256 harg2 x0 2048 inb_S4096x256_S256x256_2048_0) (rows512 harg3 x1 512 inb_S4096x256_S512x256_512_0)
    dsimp only [k0_pay8, k0_pay7] at e
    dsimp only [k0_pay166, k0_pay167, sl.r_28]
    exact e
  have hm : Maxes x0 x1 2048 512 (sl.v928 (F := Ideal) c arg2 harg2 arg3 harg3 arg11 x0 x1) := by
    simp (disch := decide) only [sl.v928, sl.HS1_32, sl.HS1_28, sl.HS1_26, ↓View.readCov_skip, ↓View.readCov_cons_toLoadRect]
    have e := maxes (rows256 harg2 x0 2048 inb_S4096x256_S256x256_2048_0) (rows512 harg3 x1 512 inb_S4096x256_S512x256_512_0)
    dsimp only [k0_pay13, k0_pay11] at e
    dsimp only [k0_pay166, k0_pay168, sl.r_28]
    exact e
  have ho : St x0 x1 x2 2048 512 (sl.v931 (F := Ideal) c arg2 harg2 arg3 harg3 arg10 arg11 arg12 x0 x1) (sl.v938 (F := Ideal) c arg2 harg2 arg3 harg3 arg4 harg4 arg10 arg11 arg12 arg13 x0 x1 x2) := step20 h
  simp (disch := decide) only [sl.v1071, sl.v1078, sl.HS3_28, sl.HS3_27, sl.HS3_26, sl.HS3_25, sl.HS2_28, sl.HS2_27, sl.HS2_26, sl.HS2_25, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [k0_pay203, k0_pay204, k0_pay205]
  exact e

theorem step25 (h : Finite x0 x1) : St x0 x1 x2 2304 1024 (sl.v1095 (F := Ideal) c arg2 harg2 arg3 harg3 arg10 arg11 arg12 x0 x1) (sl.v1102 (F := Ideal) c arg2 harg2 arg3 harg3 arg4 harg4 arg10 arg11 arg12 arg13 x0 x1 x2) := by
  have hs : Scores x0 x1 2304 512 (sl.v950 (F := Ideal) c arg2 harg2 arg3 harg3 arg10 x0 x1) := by
    simp (disch := decide) only [sl.v950, sl.HS0_32, sl.HS0_28, ↓View.readCov_skip, ↓View.readCov_cons_toLoadRect]
    exact scores512 (rows256 harg2 x0 2304 inb_S4096x256_S256x256_2304_0) (rows512 harg3 x1 512 inb_S4096x256_S512x256_512_0)
  have hm : Maxes x0 x1 2304 512 (sl.v952 (F := Ideal) c arg2 harg2 arg3 harg3 arg11 x0 x1) := by
    simp (disch := decide) only [sl.v952, sl.HS1_32, sl.HS1_28, sl.HS1_26, ↓View.readCov_skip, ↓View.readCov_cons_toLoadRect]
    exact maxes (rows256 harg2 x0 2304 inb_S4096x256_S256x256_2304_0) (rows512 harg3 x1 512 inb_S4096x256_S512x256_512_0)
  have ho : St x0 x1 x2 2304 512 (sl.v955 (F := Ideal) c arg2 harg2 arg3 harg3 arg10 arg11 arg12 x0 x1) (sl.v962 (F := Ideal) c arg2 harg2 arg3 harg3 arg4 harg4 arg10 arg11 arg12 arg13 x0 x1 x2) := step21 h
  simp (disch := decide) only [sl.v1095, sl.v1102, sl.HS3_29, sl.HS3_28, sl.HS3_27, sl.HS3_26, sl.HS2_29, sl.HS2_28, sl.HS2_27, sl.HS2_26, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [sl.r_33, k0_pay206, k0_pay207, k0_pay208, k0_pay209]
  exact e

theorem step26 (h : Finite x0 x1) : St x0 x1 x2 2560 1024 (sl.v1119 (F := Ideal) c arg2 harg2 arg3 harg3 arg10 arg11 arg12 x0 x1) (sl.v1126 (F := Ideal) c arg2 harg2 arg3 harg3 arg4 harg4 arg10 arg11 arg12 arg13 x0 x1 x2) := by
  have hs : Scores x0 x1 2560 512 (sl.v974 (F := Ideal) c arg2 harg2 arg3 harg3 arg10 x0 x1) := by
    simp (disch := decide) only [sl.v974, sl.HS0_32, sl.HS0_28, ↓View.readCov_skip, ↓View.readCov_cons_toLoadRect]
    exact scores512 (rows256 harg2 x0 2560 inb_S4096x256_S256x256_2560_0) (rows512 harg3 x1 512 inb_S4096x256_S512x256_512_0)
  have hm : Maxes x0 x1 2560 512 (sl.v976 (F := Ideal) c arg2 harg2 arg3 harg3 arg11 x0 x1) := by
    simp (disch := decide) only [sl.v976, sl.HS1_32, sl.HS1_28, ↓View.readCov_skip, ↓View.readCov_cons_toLoadRect]
    have e := maxes (rows256 harg2 x0 2560 inb_S4096x256_S256x256_2560_0) (rows512 harg3 x1 512 inb_S4096x256_S512x256_512_0)
    dsimp only [k0_pay13, k0_pay11] at e
    dsimp only [k0_pay172, k0_pay174, k0_pay175, sl.r_29]
    exact e
  have ho : St x0 x1 x2 2560 512 (sl.v979 (F := Ideal) c arg2 harg2 arg3 harg3 arg10 arg11 arg12 x0 x1) (sl.v986 (F := Ideal) c arg2 harg2 arg3 harg3 arg4 harg4 arg10 arg11 arg12 arg13 x0 x1 x2) := step22 h
  simp (disch := decide) only [sl.v1119, sl.v1126, sl.HS3_30, sl.HS3_29, sl.HS3_28, sl.HS3_27, sl.HS2_30, sl.HS2_29, sl.HS2_28, sl.HS2_27, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [sl.r_15, sl.r_34, sl.r_35, sl.r_36, k0_pay210, k0_pay211, k0_pay212, k0_pay213, k0_pay214]
  exact e

theorem step27 (h : Finite x0 x1) : St x0 x1 x2 2816 1024 (sl.v1143 (F := Ideal) c arg2 harg2 arg3 harg3 arg10 arg11 arg12 x0 x1) (sl.v1150 (F := Ideal) c arg2 harg2 arg3 harg3 arg4 harg4 arg10 arg11 arg12 arg13 x0 x1 x2) := by
  have hs : Scores x0 x1 2816 512 (sl.v998 (F := Ideal) c arg2 harg2 arg3 harg3 arg10 x0 x1) := by
    simp (disch := decide) only [sl.v998, sl.HS0_32, sl.HS0_28, ↓View.readCov_skip, ↓View.readCov_cons_toLoadRect]
    exact scores512 (rows256 harg2 x0 2816 inb_S4096x256_S256x256_2816_0) (rows512 harg3 x1 512 inb_S4096x256_S512x256_512_0)
  have hm : Maxes x0 x1 2816 512 (sl.v1000 (F := Ideal) c arg2 harg2 arg3 harg3 arg11 x0 x1) := by
    simp (disch := decide) only [sl.v1000, sl.HS1_32, sl.HS1_28, ↓View.readCov_skip, ↓View.readCov_cons_toLoadRect]
    exact maxes (rows256 harg2 x0 2816 inb_S4096x256_S256x256_2816_0) (rows512 harg3 x1 512 inb_S4096x256_S512x256_512_0)
  have ho : St x0 x1 x2 2816 512 (sl.v1003 (F := Ideal) c arg2 harg2 arg3 harg3 arg10 arg11 arg12 x0 x1) (sl.v1010 (F := Ideal) c arg2 harg2 arg3 harg3 arg4 harg4 arg10 arg11 arg12 arg13 x0 x1 x2) := step23 h
  simp (disch := decide) only [sl.v1143, sl.v1150, sl.HS3_31, sl.HS3_30, sl.HS3_29, sl.HS3_28, sl.HS2_31, sl.HS2_30, sl.HS2_29, sl.HS2_28, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [sl.r_37, k0_pay215, k0_pay216, k0_pay217]
  exact e

theorem step28 (h : Finite x0 x1) : St x0 x1 x2 2048 1536 (sl.v1211 (F := Ideal) c arg2 harg2 arg3 harg3 arg10 arg11 arg12 x0 x1) (sl.v1218 (F := Ideal) c arg2 harg2 arg3 harg3 arg4 harg4 arg10 arg11 arg12 arg13 x0 x1 x2) := by
  have hs : Scores x0 x1 2048 1024 (sl.v1066 (F := Ideal) c arg2 harg2 arg3 harg3 arg10 x0 x1) := by
    simp (disch := decide) only [sl.v1066, sl.HS0_36, sl.HS0_32, ↓View.readCov_skip, ↓View.readCov_cons_toLoadRect]
    exact scores512 (rows256 harg2 x0 2048 inb_S4096x256_S256x256_2048_0) (rows512 harg3 x1 1024 inb_S4096x256_S512x256_1024_0)
  have hm : Maxes x0 x1 2048 1024 (sl.v1068 (F := Ideal) c arg2 harg2 arg3 harg3 arg11 x0 x1) := by
    simp (disch := decide) only [sl.v1068, sl.HS1_36, sl.HS1_32, ↓View.readCov_skip, ↓View.readCov_cons_toLoadRect]
    exact maxes (rows256 harg2 x0 2048 inb_S4096x256_S256x256_2048_0) (rows512 harg3 x1 1024 inb_S4096x256_S512x256_1024_0)
  have ho : St x0 x1 x2 2048 1024 (sl.v1071 (F := Ideal) c arg2 harg2 arg3 harg3 arg10 arg11 arg12 x0 x1) (sl.v1078 (F := Ideal) c arg2 harg2 arg3 harg3 arg4 harg4 arg10 arg11 arg12 arg13 x0 x1 x2) := step24 h
  simp (disch := decide) only [sl.v1211, sl.v1218, sl.HS3_32, sl.HS3_31, sl.HS3_30, sl.HS3_29, sl.HS2_32, sl.HS2_31, sl.HS2_30, sl.HS2_29, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_22, sl.r_40, sl.r_41, k0_pay230, k0_pay231, k0_pay232, k0_pay233, k0_pay234]
  exact e

theorem step29 (h : Finite x0 x1) : St x0 x1 x2 2304 1536 (sl.v1235 (F := Ideal) c arg2 harg2 arg3 harg3 arg10 arg11 arg12 x0 x1) (sl.v1242 (F := Ideal) c arg2 harg2 arg3 harg3 arg4 harg4 arg10 arg11 arg12 arg13 x0 x1 x2) := by
  have hs : Scores x0 x1 2304 1024 (sl.v1090 (F := Ideal) c arg2 harg2 arg3 harg3 arg10 x0 x1) := by
    simp (disch := decide) only [sl.v1090, sl.HS0_36, sl.HS0_32, ↓View.readCov_skip, ↓View.readCov_cons_toLoadRect]
    have e := scores512 (rows256 harg2 x0 2304 inb_S4096x256_S256x256_2304_0) (rows512 harg3 x1 1024 inb_S4096x256_S512x256_1024_0)
    dsimp only [k0_pay8, k0_pay7] at e
    dsimp only [k0_pay194, k0_pay195, sl.r_31]
    exact e
  have hm : Maxes x0 x1 2304 1024 (sl.v1092 (F := Ideal) c arg2 harg2 arg3 harg3 arg11 x0 x1) := by
    simp (disch := decide) only [sl.v1092, sl.HS1_36, sl.HS1_32, ↓View.readCov_skip, ↓View.readCov_cons_toLoadRect]
    have e := maxes (rows256 harg2 x0 2304 inb_S4096x256_S256x256_2304_0) (rows512 harg3 x1 1024 inb_S4096x256_S512x256_1024_0)
    dsimp only [k0_pay13, k0_pay11] at e
    dsimp only [k0_pay194, k0_pay196, sl.r_31]
    exact e
  have ho : St x0 x1 x2 2304 1024 (sl.v1095 (F := Ideal) c arg2 harg2 arg3 harg3 arg10 arg11 arg12 x0 x1) (sl.v1102 (F := Ideal) c arg2 harg2 arg3 harg3 arg4 harg4 arg10 arg11 arg12 arg13 x0 x1 x2) := step25 h
  simp (disch := decide) only [sl.v1235, sl.v1242, sl.HS3_33, sl.HS3_32, sl.HS3_31, sl.HS3_30, sl.HS2_33, sl.HS2_32, sl.HS2_31, sl.HS2_30, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_42, sl.r_43, k0_pay235, k0_pay236, k0_pay237, k0_pay238]
  exact e

theorem step30 (h : Finite x0 x1) : St x0 x1 x2 2560 1536 (sl.v1259 (F := Ideal) c arg2 harg2 arg3 harg3 arg10 arg11 arg12 x0 x1) (sl.v1266 (F := Ideal) c arg2 harg2 arg3 harg3 arg4 harg4 arg10 arg11 arg12 arg13 x0 x1 x2) := by
  have hs : Scores x0 x1 2560 1024 (sl.v1114 (F := Ideal) c arg2 harg2 arg3 harg3 arg10 x0 x1) := by
    simp (disch := decide) only [sl.v1114, sl.HS0_36, sl.HS0_32, ↓View.readCov_skip, ↓View.readCov_cons_toLoadRect]
    exact scores512 (rows256 harg2 x0 2560 inb_S4096x256_S256x256_2560_0) (rows512 harg3 x1 1024 inb_S4096x256_S512x256_1024_0)
  have hm : Maxes x0 x1 2560 1024 (sl.v1116 (F := Ideal) c arg2 harg2 arg3 harg3 arg11 x0 x1) := by
    simp (disch := decide) only [sl.v1116, sl.HS1_36, sl.HS1_32, ↓View.readCov_skip, ↓View.readCov_cons_toLoadRect]
    exact maxes (rows256 harg2 x0 2560 inb_S4096x256_S256x256_2560_0) (rows512 harg3 x1 1024 inb_S4096x256_S512x256_1024_0)
  have ho : St x0 x1 x2 2560 1024 (sl.v1119 (F := Ideal) c arg2 harg2 arg3 harg3 arg10 arg11 arg12 x0 x1) (sl.v1126 (F := Ideal) c arg2 harg2 arg3 harg3 arg4 harg4 arg10 arg11 arg12 arg13 x0 x1 x2) := step26 h
  simp (disch := decide) only [sl.v1259, sl.v1266, sl.HS3_34, sl.HS3_33, sl.HS3_32, sl.HS3_31, sl.HS2_34, sl.HS2_33, sl.HS2_32, sl.HS2_31, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [k0_pay239, k0_pay240, k0_pay241]
  exact e

theorem step31 (h : Finite x0 x1) : St x0 x1 x2 2816 1536 (sl.v1283 (F := Ideal) c arg2 harg2 arg3 harg3 arg10 arg11 arg12 x0 x1) (sl.v1290 (F := Ideal) c arg2 harg2 arg3 harg3 arg4 harg4 arg10 arg11 arg12 arg13 x0 x1 x2) := by
  have hs : Scores x0 x1 2816 1024 (sl.v1138 (F := Ideal) c arg2 harg2 arg3 harg3 arg10 x0 x1) := by
    simp (disch := decide) only [sl.v1138, sl.HS0_36, sl.HS0_32, ↓View.readCov_skip, ↓View.readCov_cons_toLoadRect]
    have e := scores512 (rows256 harg2 x0 2816 inb_S4096x256_S256x256_2816_0) (rows512 harg3 x1 1024 inb_S4096x256_S512x256_1024_0)
    dsimp only [k0_pay8, k0_pay7] at e
    dsimp only [k0_pay200, k0_pay201, sl.r_32]
    exact e
  have hm : Maxes x0 x1 2816 1024 (sl.v1140 (F := Ideal) c arg2 harg2 arg3 harg3 arg11 x0 x1) := by
    simp (disch := decide) only [sl.v1140, sl.HS1_36, sl.HS1_32, ↓View.readCov_skip, ↓View.readCov_cons_toLoadRect]
    have e := maxes (rows256 harg2 x0 2816 inb_S4096x256_S256x256_2816_0) (rows512 harg3 x1 1024 inb_S4096x256_S512x256_1024_0)
    dsimp only [k0_pay13, k0_pay11] at e
    dsimp only [k0_pay200, k0_pay202, sl.r_32]
    exact e
  have ho : St x0 x1 x2 2816 1024 (sl.v1143 (F := Ideal) c arg2 harg2 arg3 harg3 arg10 arg11 arg12 x0 x1) (sl.v1150 (F := Ideal) c arg2 harg2 arg3 harg3 arg4 harg4 arg10 arg11 arg12 arg13 x0 x1 x2) := step27 h
  simp (disch := decide) only [sl.v1283, sl.v1290, sl.HS3_35, sl.HS3_34, sl.HS3_33, sl.HS3_32, sl.HS2_35, sl.HS2_34, sl.HS2_33, sl.HS2_32, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_44, k0_pay242, k0_pay243, k0_pay244, k0_pay245]
  exact e

theorem step32 (h : Finite x0 x1) : St x0 x1 x2 2048 2048 (sl.v1338 (F := Ideal) c arg2 harg2 arg3 harg3 arg10 arg11 arg12 x0 x1) (sl.v1345 (F := Ideal) c arg2 harg2 arg3 harg3 arg4 harg4 arg10 arg11 arg12 arg13 x0 x1 x2) := by
  have hs : Scores x0 x1 2048 1536 (sl.v1206 (F := Ideal) c arg2 harg2 arg3 harg3 arg10 x0 x1) := by
    simp (disch := decide) only [sl.v1206, sl.HS0_40, sl.HS0_36, ↓View.readCov_skip, ↓View.readCov_cons_toLoadRect]
    exact scores512 (rows256 harg2 x0 2048 inb_S4096x256_S256x256_2048_0) (rows512 harg3 x1 1536 inb_S4096x256_S512x256_1536_0)
  have hm : Maxes x0 x1 2048 1536 (sl.v1208 (F := Ideal) c arg2 harg2 arg3 harg3 arg11 x0 x1) := by
    simp (disch := decide) only [sl.v1208, sl.HS1_40, sl.HS1_36, ↓View.readCov_skip, ↓View.readCov_cons_toLoadRect]
    exact maxes (rows256 harg2 x0 2048 inb_S4096x256_S256x256_2048_0) (rows512 harg3 x1 1536 inb_S4096x256_S512x256_1536_0)
  have ho : St x0 x1 x2 2048 1536 (sl.v1211 (F := Ideal) c arg2 harg2 arg3 harg3 arg10 arg11 arg12 x0 x1) (sl.v1218 (F := Ideal) c arg2 harg2 arg3 harg3 arg4 harg4 arg10 arg11 arg12 arg13 x0 x1 x2) := step28 h
  simp (disch := decide) only [sl.v1338, sl.v1345, sl.HS3_36, sl.HS3_35, sl.HS3_34, sl.HS3_33, sl.HS2_36, sl.HS2_35, sl.HS2_34, sl.HS2_33, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [k0_pay258, k0_pay259, k0_pay260]
  exact e

theorem step33 (h : Finite x0 x1) : St x0 x1 x2 2304 2048 (sl.v1371 (F := Ideal) c arg2 harg2 arg3 harg3 arg10 arg11 arg12 x0 x1) (sl.v1378 (F := Ideal) c arg2 harg2 arg3 harg3 arg4 harg4 arg10 arg11 arg12 arg13 x0 x1 x2) := by
  have hs : Scores x0 x1 2304 1536 (sl.v1230 (F := Ideal) c arg2 harg2 arg3 harg3 arg10 x0 x1) := by
    simp (disch := decide) only [sl.v1230, sl.HS0_40, sl.HS0_36, ↓View.readCov_skip, ↓View.readCov_cons_toLoadRect]
    exact scores512 (rows256 harg2 x0 2304 inb_S4096x256_S256x256_2304_0) (rows512 harg3 x1 1536 inb_S4096x256_S512x256_1536_0)
  have hm : Maxes x0 x1 2304 1536 (sl.v1232 (F := Ideal) c arg2 harg2 arg3 harg3 arg11 x0 x1) := by
    simp (disch := decide) only [sl.v1232, sl.HS1_40, sl.HS1_36, ↓View.readCov_skip, ↓View.readCov_cons_toLoadRect]
    exact maxes (rows256 harg2 x0 2304 inb_S4096x256_S256x256_2304_0) (rows512 harg3 x1 1536 inb_S4096x256_S512x256_1536_0)
  have ho : St x0 x1 x2 2304 1536 (sl.v1235 (F := Ideal) c arg2 harg2 arg3 harg3 arg10 arg11 arg12 x0 x1) (sl.v1242 (F := Ideal) c arg2 harg2 arg3 harg3 arg4 harg4 arg10 arg11 arg12 arg13 x0 x1 x2) := step29 h
  simp (disch := decide) only [sl.v1371, sl.v1378, sl.HS3_37, sl.HS3_36, sl.HS3_35, sl.HS3_34, sl.HS2_37, sl.HS2_36, sl.HS2_35, sl.HS2_34, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [k0_pay261, k0_pay262, k0_pay263]
  exact e

theorem step34 (h : Finite x0 x1) : St x0 x1 x2 2560 2048 (sl.v1395 (F := Ideal) c arg2 harg2 arg3 harg3 arg10 arg11 arg12 x0 x1) (sl.v1402 (F := Ideal) c arg2 harg2 arg3 harg3 arg4 harg4 arg10 arg11 arg12 arg13 x0 x1 x2) := by
  have hs : Scores x0 x1 2560 1536 (sl.v1254 (F := Ideal) c arg2 harg2 arg3 harg3 arg10 x0 x1) := by
    simp (disch := decide) only [sl.v1254, sl.HS0_40, sl.HS0_36, ↓View.readCov_skip, ↓View.readCov_cons_toLoadRect]
    have e := scores512 (rows256 harg2 x0 2560 inb_S4096x256_S256x256_2560_0) (rows512 harg3 x1 1536 inb_S4096x256_S512x256_1536_0)
    dsimp only [k0_pay8, k0_pay7] at e
    dsimp only [k0_pay224, k0_pay225, sl.r_38, sl.r_39]
    exact e
  have hm : Maxes x0 x1 2560 1536 (sl.v1256 (F := Ideal) c arg2 harg2 arg3 harg3 arg11 x0 x1) := by
    simp (disch := decide) only [sl.v1256, sl.HS1_40, sl.HS1_36, ↓View.readCov_skip, ↓View.readCov_cons_toLoadRect]
    have e := maxes (rows256 harg2 x0 2560 inb_S4096x256_S256x256_2560_0) (rows512 harg3 x1 1536 inb_S4096x256_S512x256_1536_0)
    dsimp only [k0_pay13, k0_pay11] at e
    dsimp only [k0_pay224, k0_pay226, sl.r_38, sl.r_39]
    exact e
  have ho : St x0 x1 x2 2560 1536 (sl.v1259 (F := Ideal) c arg2 harg2 arg3 harg3 arg10 arg11 arg12 x0 x1) (sl.v1266 (F := Ideal) c arg2 harg2 arg3 harg3 arg4 harg4 arg10 arg11 arg12 arg13 x0 x1 x2) := step30 h
  simp (disch := decide) only [sl.v1395, sl.v1402, sl.HS3_38, sl.HS3_37, sl.HS3_36, sl.HS3_35, sl.HS2_38, sl.HS2_37, sl.HS2_36, sl.HS2_35, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [sl.r_47, sl.r_48, sl.r_49, sl.r_50, k0_pay264, k0_pay265, k0_pay266, k0_pay267, k0_pay268]
  exact e

theorem step35 (h : Finite x0 x1) : St x0 x1 x2 2816 2048 (sl.v1419 (F := Ideal) c arg2 harg2 arg3 harg3 arg10 arg11 arg12 x0 x1) (sl.v1426 (F := Ideal) c arg2 harg2 arg3 harg3 arg4 harg4 arg10 arg11 arg12 arg13 x0 x1 x2) := by
  have hs : Scores x0 x1 2816 1536 (sl.v1278 (F := Ideal) c arg2 harg2 arg3 harg3 arg10 x0 x1) := by
    simp (disch := decide) only [sl.v1278, sl.HS0_40, sl.HS0_36, ↓View.readCov_skip, ↓View.readCov_cons_toLoadRect]
    exact scores512 (rows256 harg2 x0 2816 inb_S4096x256_S256x256_2816_0) (rows512 harg3 x1 1536 inb_S4096x256_S512x256_1536_0)
  have hm : Maxes x0 x1 2816 1536 (sl.v1280 (F := Ideal) c arg2 harg2 arg3 harg3 arg11 x0 x1) := by
    simp (disch := decide) only [sl.v1280, sl.HS1_40, sl.HS1_36, ↓View.readCov_skip, ↓View.readCov_cons_toLoadRect]
    exact maxes (rows256 harg2 x0 2816 inb_S4096x256_S256x256_2816_0) (rows512 harg3 x1 1536 inb_S4096x256_S512x256_1536_0)
  have ho : St x0 x1 x2 2816 1536 (sl.v1283 (F := Ideal) c arg2 harg2 arg3 harg3 arg10 arg11 arg12 x0 x1) (sl.v1290 (F := Ideal) c arg2 harg2 arg3 harg3 arg4 harg4 arg10 arg11 arg12 arg13 x0 x1 x2) := step31 h
  simp (disch := decide) only [sl.v1419, sl.v1426, sl.HS3_39, sl.HS3_38, sl.HS3_37, sl.HS3_36, sl.HS2_39, sl.HS2_38, sl.HS2_37, sl.HS2_36, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [sl.r_51, sl.r_52, k0_pay269, k0_pay270, k0_pay271, k0_pay272]
  exact e

theorem step36 (h : Finite x0 x1) : ∃ m, St x0 x1 x2 2048 2304 m (arg13.view.readCov (sl.HS3_42 (F := Ideal) c arg2 harg2 arg3 harg3 arg4 harg4 arg10 arg11 arg12 arg13 x0 x1 x2)
      (Rect.unit (s := S144x1024) ![0, 0] S144x256.size inb_S144x1024_S144x256_0_0).toLoadRect) := by
  have hs : Scores x0 x1 2048 2048 (sl.v1324 (F := Ideal) c arg2 harg2 arg3 harg3 arg10 x0 x1) := by
    simp (disch := decide) only [sl.v1324, sl.HS0_42, sl.HS0_40, ↓View.readCov_skip, ↓View.readCov_cons_toLoadRect]
    exact scores256 (rows256 harg2 x0 2048 inb_S4096x256_S256x256_2048_0) (rows256 harg3 x1 2048 inb_S4096x256_S256x256_2048_0)
  have ho : St x0 x1 x2 2048 2048 (sl.v1338 (F := Ideal) c arg2 harg2 arg3 harg3 arg10 arg11 arg12 x0 x1) (sl.v1345 (F := Ideal) c arg2 harg2 arg3 harg3 arg4 harg4 arg10 arg11 arg12 arg13 x0 x1 x2) := step32 h
  simp (disch := decide) only [sl.HS3_42, sl.HS3_41, sl.HS3_40, sl.HS3_39, sl.HS3_38, sl.HS3_37, ↓View.readCov_skip, ↓View.readCov_cons_toLoadRect]
  have e := laterMasked256 h 0 0 2048 ho (by omega) (by omega) (by omega) rfl rfl hs (vals256 harg4 x2 2048 inb_S144x4096_S144x256_0_2048)
  dsimp only [keepM, keepA, newM256, next, weigh256, masked256, mask256, colmax256] at e
  dsimp only [k0_pay279, k0_pay280, k0_pay281]
  exact ⟨_, e⟩

theorem step37 (h : Finite x0 x1) : ∃ m, St x0 x1 x2 2304 2560 m (arg13.view.readCov (sl.HS3_42 (F := Ideal) c arg2 harg2 arg3 harg3 arg4 harg4 arg10 arg11 arg12 arg13 x0 x1 x2)
      (Rect.unit (s := S144x1024) ![0, 256] S144x256.size inb_S144x1024_S144x256_0_256).toLoadRect) := by
  have hs : Scores x0 x1 2304 2048 (sl.v1357 (F := Ideal) c arg2 harg2 arg3 harg3 arg10 x0 x1) := by
    simp (disch := decide) only [sl.v1357, sl.HS0_42, sl.HS0_40, ↓View.readCov_skip, ↓View.readCov_cons_toLoadRect]
    exact scores512 (rows256 harg2 x0 2304 inb_S4096x256_S256x256_2304_0) (rows512 harg3 x1 2048 inb_S4096x256_S512x256_2048_0)
  have ho : St x0 x1 x2 2304 2048 (sl.v1371 (F := Ideal) c arg2 harg2 arg3 harg3 arg10 arg11 arg12 x0 x1) (sl.v1378 (F := Ideal) c arg2 harg2 arg3 harg3 arg4 harg4 arg10 arg11 arg12 arg13 x0 x1 x2) := step33 h
  simp (disch := decide) only [sl.HS3_42, sl.HS3_41, sl.HS3_40, sl.HS3_39, sl.HS3_38, ↓View.readCov_skip, ↓View.readCov_cons_toLoadRect]
  have e := laterMasked512 h 0 256 2048 ho (by omega) (by omega) (by omega) rfl rfl hs (vals512 harg4 x2 2048 inb_S144x4096_S144x512_0_2048)
  dsimp only [keepM, keepA, newM512, next, weigh512, masked512, mask512, colmax512] at e
  dsimp only [sl.r_53, k0_pay283, k0_pay284, k0_pay285, k0_pay286, k0_pay287]
  exact ⟨_, e⟩

theorem step38 (h : Finite x0 x1) : St x0 x1 x2 2560 2560 (sl.v1496 (F := Ideal) c arg2 harg2 arg3 harg3 arg10 arg11 arg12 x0 x1) (sl.v1503 (F := Ideal) c arg2 harg2 arg3 harg3 arg4 harg4 arg10 arg11 arg12 arg13 x0 x1 x2) := by
  have hs : Scores x0 x1 2560 2048 (sl.v1390 (F := Ideal) c arg2 harg2 arg3 harg3 arg10 x0 x1) := by
    simp (disch := decide) only [sl.v1390, sl.HS0_42, sl.HS0_40, ↓View.readCov_skip, ↓View.readCov_cons_toLoadRect]
    exact scores512 (rows256 harg2 x0 2560 inb_S4096x256_S256x256_2560_0) (rows512 harg3 x1 2048 inb_S4096x256_S512x256_2048_0)
  have hm : Maxes x0 x1 2560 2048 (sl.v1392 (F := Ideal) c arg2 harg2 arg3 harg3 arg11 x0 x1) := by
    simp (disch := decide) only [sl.v1392, sl.HS1_42, sl.HS1_40, ↓View.readCov_skip, ↓View.readCov_cons_toLoadRect]
    exact maxes (rows256 harg2 x0 2560 inb_S4096x256_S256x256_2560_0) (rows512 harg3 x1 2048 inb_S4096x256_S512x256_2048_0)
  have ho : St x0 x1 x2 2560 2048 (sl.v1395 (F := Ideal) c arg2 harg2 arg3 harg3 arg10 arg11 arg12 x0 x1) (sl.v1402 (F := Ideal) c arg2 harg2 arg3 harg3 arg4 harg4 arg10 arg11 arg12 arg13 x0 x1 x2) := step34 h
  simp (disch := decide) only [sl.v1496, sl.v1503, sl.HS3_40, sl.HS3_39, sl.HS2_40, sl.HS2_39, ↓View.readCov_skip, ↓View.readCov_cons_toLoadRect]
  have e := later h ho (by omega) (by omega) hs hm (vals512 harg4 x2 2048 inb_S144x4096_S144x512_0_2048)
  dsimp only [k0_pay107, k0_pay106, k0_pay105] at e
  dsimp only [sl.r_54, sl.r_55, sl.r_56, k0_pay289, k0_pay290, k0_pay291, k0_pay292, k0_pay293]
  exact e

theorem step39 (h : Finite x0 x1) : St x0 x1 x2 2816 2560 (sl.v1529 (F := Ideal) c arg2 harg2 arg3 harg3 arg10 arg11 arg12 x0 x1) (sl.v1536 (F := Ideal) c arg2 harg2 arg3 harg3 arg4 harg4 arg10 arg11 arg12 arg13 x0 x1 x2) := by
  have hs : Scores x0 x1 2816 2048 (sl.v1414 (F := Ideal) c arg2 harg2 arg3 harg3 arg10 x0 x1) := by
    simp (disch := decide) only [sl.v1414, sl.HS0_42, sl.HS0_40, ↓View.readCov_skip, ↓View.readCov_cons_toLoadRect]
    have e := scores512 (rows256 harg2 x0 2816 inb_S4096x256_S256x256_2816_0) (rows512 harg3 x1 2048 inb_S4096x256_S512x256_2048_0)
    dsimp only [k0_pay8, k0_pay7] at e
    dsimp only [k0_pay255, k0_pay256, sl.r_46]
    exact e
  have hm : Maxes x0 x1 2816 2048 (sl.v1416 (F := Ideal) c arg2 harg2 arg3 harg3 arg11 x0 x1) := by
    simp (disch := decide) only [sl.v1416, sl.HS1_42, sl.HS1_40, ↓View.readCov_skip, ↓View.readCov_cons_toLoadRect]
    have e := maxes (rows256 harg2 x0 2816 inb_S4096x256_S256x256_2816_0) (rows512 harg3 x1 2048 inb_S4096x256_S512x256_2048_0)
    dsimp only [k0_pay13, k0_pay11] at e
    dsimp only [k0_pay255, k0_pay257, sl.r_46]
    exact e
  have ho : St x0 x1 x2 2816 2048 (sl.v1419 (F := Ideal) c arg2 harg2 arg3 harg3 arg10 arg11 arg12 x0 x1) (sl.v1426 (F := Ideal) c arg2 harg2 arg3 harg3 arg4 harg4 arg10 arg11 arg12 arg13 x0 x1 x2) := step35 h
  simp (disch := decide) only [sl.v1529, sl.v1536, sl.HS3_41, sl.HS3_40, sl.HS2_41, sl.HS2_40, ↓View.readCov_skip, ↓View.readCov_cons_toLoadRect]
  have e := later h ho (by omega) (by omega) hs hm (vals512 harg4 x2 2048 inb_S144x4096_S144x512_0_2048)
  dsimp only [k0_pay107, k0_pay106, k0_pay105] at e
  dsimp only [sl.r_57, sl.r_58, k0_pay294, k0_pay295, k0_pay296, k0_pay297]
  exact e

theorem step40 (h : Finite x0 x1) : ∃ m, St x0 x1 x2 2560 2816 m (arg13.view.readCov (sl.HS3_42 (F := Ideal) c arg2 harg2 arg3 harg3 arg4 harg4 arg10 arg11 arg12 arg13 x0 x1 x2)
      (Rect.unit (s := S144x1024) ![0, 512] S144x256.size inb_S144x1024_S144x256_0_512).toLoadRect) := by
  have hs : Scores x0 x1 2560 2560 (sl.v1482 (F := Ideal) c arg2 harg2 arg3 harg3 arg10 x0 x1) := by
    simp (disch := decide) only [sl.v1482, sl.HS0_46, sl.HS0_42, ↓View.readCov_skip, ↓View.readCov_cons_toLoadRect]
    exact scores256 (rows256 harg2 x0 2560 inb_S4096x256_S256x256_2560_0) (rows256 harg3 x1 2560 inb_S4096x256_S256x256_2560_0)
  have ho : St x0 x1 x2 2560 2560 (sl.v1496 (F := Ideal) c arg2 harg2 arg3 harg3 arg10 arg11 arg12 x0 x1) (sl.v1503 (F := Ideal) c arg2 harg2 arg3 harg3 arg4 harg4 arg10 arg11 arg12 arg13 x0 x1 x2) := step38 h
  simp (disch := decide) only [sl.HS3_42, sl.HS3_41, ↓View.readCov_skip, ↓View.readCov_cons_toLoadRect]
  have e := laterMasked256 h 512 512 2048 ho (by omega) (by omega) (by omega) rfl rfl hs (vals256 harg4 x2 2560 inb_S144x4096_S144x256_0_2560)
  dsimp only [keepM, keepA, newM256, next, weigh256, masked256, mask256, colmax256] at e
  dsimp only [sl.r_59, sl.v77, k0_pay310, k0_pay311, k0_pay312, k0_pay313, k0_pay314]
  exact ⟨_, e⟩

theorem step41 (h : Finite x0 x1) : ∃ m, St x0 x1 x2 2816 3072 m (arg13.view.readCov (sl.HS3_42 (F := Ideal) c arg2 harg2 arg3 harg3 arg4 harg4 arg10 arg11 arg12 arg13 x0 x1 x2)
      (Rect.unit (s := S144x1024) ![0, 768] S144x256.size inb_S144x1024_S144x256_0_768).toLoadRect) := by
  have hs : Scores x0 x1 2816 2560 (sl.v1515 (F := Ideal) c arg2 harg2 arg3 harg3 arg10 x0 x1) := by
    simp (disch := decide) only [sl.v1515, sl.HS0_46, sl.HS0_42, ↓View.readCov_skip, ↓View.readCov_cons_toLoadRect]
    exact scores512 (rows256 harg2 x0 2816 inb_S4096x256_S256x256_2816_0) (rows512 harg3 x1 2560 inb_S4096x256_S512x256_2560_0)
  have ho : St x0 x1 x2 2816 2560 (sl.v1529 (F := Ideal) c arg2 harg2 arg3 harg3 arg10 arg11 arg12 x0 x1) (sl.v1536 (F := Ideal) c arg2 harg2 arg3 harg3 arg4 harg4 arg10 arg11 arg12 arg13 x0 x1 x2) := step39 h
  simp (disch := decide) only [sl.HS3_42, ↓View.readCov_skip, ↓View.readCov_cons_toLoadRect]
  have e := laterMasked512 h 512 768 2048 ho (by omega) (by omega) (by omega) rfl rfl hs (vals512 harg4 x2 2560 inb_S144x4096_S144x512_0_2560)
  dsimp only [keepM, keepA, newM512, next, weigh512, masked512, mask512, colmax512] at e
  dsimp only [sl.r_60, k0_pay316, k0_pay317, k0_pay318]
  exact ⟨_, e⟩

end Cert.Attn
-- ==== Proof.TilesB.lean ====
/-
  The running maximum and accumulator of every 256 queries after each block of keys: the last query tile.
-/
module

public import proofs.«01_k».proof.Proof.Gen.KernelIdeal.Frame
public import proofs.«01_k».proof.Proof.Payload
public import Idealize.ShloMosaic.Lib.Pipeline.ReadBack

@[expose] public section

set_option maxRecDepth 16384

noncomputable section

open Idealize.ShloMosaic Idealize.ShloMosaic.TcCoe Idealize.SL.Sem

namespace Cert.Attn

open Cert.KernelIdeal Cert.KernelIdeal.Gen Cert.KernelIdeal.Gen.kernelRun0_A

variable {c : Dev nD} {arg2 : Memref sig .tc .vmem S4096x256 .bf16} {harg2 : arg2.IsWhole}
  {arg3 : Memref sig .tc .vmem S4096x256 .bf16} {harg3 : arg3.IsWhole} {arg4 : Memref sig .tc .vmem S144x4096 .bf16} {harg4 : arg4.IsWhole}
  {arg10 : Memref sig .tc .vmem S2x512x1024 .f32} {arg11 : Memref sig .tc .vmem S2x1x1024 .f32}
  {arg12 : Memref sig .tc .vmem S1x1024 .f32} {arg13 : Memref sig .tc .vmem S144x1024 .f32}
  {x0 x1 : Vec Ideal S4096x256 .bf16} {x2 : Vec Ideal S144x4096 .bf16}

/-! ## Queries 3072 to 4095 -/

theorem step42 (h : Finite x0 x1) : St x0 x1 x2 3072 512 (sl.v1713 (F := Ideal) c arg2 harg2 arg3 harg3 arg10 arg11 arg12 x0 x1) (sl.v1720 (F := Ideal) c arg2 harg2 arg3 harg3 arg4 harg4 arg10 arg11 arg12 arg13 x0 x1 x2) := by
  have hs : Scores x0 x1 3072 0 (sl.v1600 (F := Ideal) c arg2 harg2 arg3 harg3 arg10 x0 x1) := by
    simp (disch := decide) only [sl.v1600, sl.HS0_50, sl.HS0_46, ↓View.readCov_skip, ↓View.readCov_cons_toLoadRect]
    exact scores512 (rows256 harg2 x0 3072 inb_S4096x256_S256x256_3072_0) (rows512 harg3 x1 0 inb_S4096x256_S512x256_0_0)
  have hm : Maxes x0 x1 3072 0 (sl.v1602 (F := Ideal) c arg2 harg2 arg3 harg3 arg11 x0 x1) := by
    simp (disch := decide) only [sl.v1602, sl.HS1_50, ↓View.readCov_skip, ↓View.readCov_cons_toLoadRect]
    exact maxes (rows256 harg2 x0 3072 inb_S4096x256_S256x256_3072_0) (rows512 harg3 x1 0 inb_S4096x256_S512x256_0_0)
  simp (disch := decide) only [sl.v1713, sl.v1720, sl.HS3_46, sl.HS2_46, ↓View.readCov_skip, ↓View.readCov_cons_toLoadRect]
  have e := first (by omega) hs hm (vals512 harg4 x2 0 inb_S144x4096_S144x512_0_0)
  dsimp only [k0_pay37, k0_pay36, k0_pay35] at e
  dsimp only [k0_pay334, k0_pay335, k0_pay336]
  exact e

theorem step43 (h : Finite x0 x1) : St x0 x1 x2 3328 512 (sl.v1737 (F := Ideal) c arg2 harg2 arg3 harg3 arg10 arg11 arg12 x0 x1) (sl.v1744 (F := Ideal) c arg2 harg2 arg3 harg3 arg4 harg4 arg10 arg11 arg12 arg13 x0 x1 x2) := by
  have hs : Scores x0 x1 3328 0 (sl.v1616 (F := Ideal) c arg2 harg2 arg3 harg3 arg10 x0 x1) := by
    simp (disch := decide) only [sl.v1616, sl.HS0_50, sl.HS0_46, ↓View.readCov_skip, ↓View.readCov_cons_toLoadRect]
    exact scores512 (rows256 harg2 x0 3328 inb_S4096x256_S256x256_3328_0) (rows512 harg3 x1 0 inb_S4096x256_S512x256_0_0)
  have hm : Maxes x0 x1 3328 0 (sl.v1618 (F := Ideal) c arg2 harg2 arg3 harg3 arg11 x0 x1) := by
    simp (disch := decide) only [sl.v1618, sl.HS1_50, ↓View.readCov_skip, ↓View.readCov_cons_toLoadRect]
    exact maxes (rows256 harg2 x0 3328 inb_S4096x256_S256x256_3328_0) (rows512 harg3 x1 0 inb_S4096x256_S512x256_0_0)
  simp (disch := decide) only [sl.v1737, sl.v1744, sl.HS3_47, sl.HS3_46, sl.HS2_47, sl.HS2_46, ↓View.readCov_skip, ↓View.readCov_cons_toLoadRect]
  have e := first (by omega) hs hm (vals512 harg4 x2 0 inb_S144x4096_S144x512_0_0)
  dsimp only [k0_pay37, k0_pay36, k0_pay35] at e
  dsimp only [k0_pay337, k0_pay338, k0_pay339]
  exact e

theorem step44 (h : Finite x0 x1) : St x0 x1 x2 3584 512 (sl.v1761 (F := Ideal) c arg2 harg2 arg3 harg3 arg10 arg11 arg12 x0 x1) (sl.v1768 (F := Ideal) c arg2 harg2 arg3 harg3 arg4 harg4 arg10 arg11 arg12 arg13 x0 x1 x2) := by
  have hs : Scores x0 x1 3584 0 (sl.v1632 (F := Ideal) c arg2 harg2 arg3 harg3 arg10 x0 x1) := by
    simp (disch := decide) only [sl.v1632, sl.HS0_50, sl.HS0_46, ↓View.readCov_skip, ↓View.readCov_cons_toLoadRect]
    exact scores512 (rows256 harg2 x0 3584 inb_S4096x256_S256x256_3584_0) (rows512 harg3 x1 0 inb_S4096x256_S512x256_0_0)
  have hm : Maxes x0 x1 3584 0 (sl.v1634 (F := Ideal) c arg2 harg2 arg3 harg3 arg11 x0 x1) := by
    simp (disch := decide) only [sl.v1634, sl.HS1_50, ↓View.readCov_skip, ↓View.readCov_cons_toLoadRect]
    exact maxes (rows256 harg2 x0 3584 inb_S4096x256_S256x256_3584_0) (rows512 harg3 x1 0 inb_S4096x256_S512x256_0_0)
  simp (disch := decide) only [sl.v1761, sl.v1768, sl.HS3_48, sl.HS3_47, sl.HS3_46, sl.HS2_48, sl.HS2_47, sl.HS2_46, ↓View.readCov_skip, ↓View.readCov_cons_toLoadRect]
  have e := first (by omega) hs hm (vals512 harg4 x2 0 inb_S144x4096_S144x512_0_0)
  dsimp only [k0_pay37, k0_pay36, k0_pay35] at e
  dsimp only [sl.r_63, k0_pay340, k0_pay341, k0_pay342]
  exact e

theorem step45 (h : Finite x0 x1) : St x0 x1 x2 3840 512 (sl.v1785 (F := Ideal) c arg2 harg2 arg3 harg3 arg10 arg11 arg12 x0 x1) (sl.v1792 (F := Ideal) c arg2 harg2 arg3 harg3 arg4 harg4 arg10 arg11 arg12 arg13 x0 x1 x2) := by
  have hs : Scores x0 x1 3840 0 (sl.v1648 (F := Ideal) c arg2 harg2 arg3 harg3 arg10 x0 x1) := by
    simp (disch := decide) only [sl.v1648, sl.HS0_50, sl.HS0_46, ↓View.readCov_skip, ↓View.readCov_cons_toLoadRect]
    exact scores512 (rows256 harg2 x0 3840 inb_S4096x256_S256x256_3840_0) (rows512 harg3 x1 0 inb_S4096x256_S512x256_0_0)
  have hm : Maxes x0 x1 3840 0 (sl.v1650 (F := Ideal) c arg2 harg2 arg3 harg3 arg11 x0 x1) := by
    simp (disch := decide) only [sl.v1650, sl.HS1_50, ↓View.readCov_skip, ↓View.readCov_cons_toLoadRect]
    exact maxes (rows256 harg2 x0 3840 inb_S4096x256_S256x256_3840_0) (rows512 harg3 x1 0 inb_S4096x256_S512x256_0_0)
  simp (disch := decide) only [sl.v1785, sl.v1792, sl.HS3_49, sl.HS3_48, sl.HS3_47, sl.HS3_46, sl.HS2_49, sl.HS2_48, sl.HS2_47, sl.HS2_46, ↓View.readCov_skip, ↓View.readCov_cons_toLoadRect]
  have e := first (by omega) hs hm (vals512 harg4 x2 0 inb_S144x4096_S144x512_0_0)
  dsimp only [k0_pay37, k0_pay36, k0_pay35] at e
  dsimp only [k0_pay343, k0_pay344, k0_pay345]
  exact e

theorem step46 (h : Finite x0 x1) : St x0 x1 x2 3072 1024 (sl.v1853 (F := Ideal) c arg2 harg2 arg3 harg3 arg10 arg11 arg12 x0 x1) (sl.v1860 (F := Ideal) c arg2 harg2 arg3 harg3 arg4 harg4 arg10 arg11 arg12 arg13 x0 x1 x2) := by
  have hs : Scores x0 x1 3072 512 (sl.v1708 (F := Ideal) c arg2 harg2 arg3 harg3 arg10 x0 x1) := by
    simp (disch := decide) only [sl.v1708, sl.HS0_54, sl.HS0_53, sl.HS0_50, ↓View.readCov_skip, ↓View.readCov_cons_toLoadRect]
    have e := scores512 (rows256 harg2 x0 3072 inb_S4096x256_S256x256_3072_0) (rows512 harg3 x1 512 inb_S4096x256_S512x256_512_0)
    dsimp only [k0_pay8, k0_pay7] at e
    dsimp only [k0_pay321, k0_pay322, sl.r_61]
    exact e
  have hm : Maxes x0 x1 3072 512 (sl.v1710 (F := Ideal) c arg2 harg2 arg3 harg3 arg11 x0 x1) := by
    simp (disch := decide) only [sl.v1710, sl.HS1_54, sl.HS1_50, ↓View.readCov_skip, ↓View.readCov_cons_toLoadRect]
    have e := maxes (rows256 harg2 x0 3072 inb_S4096x256_S256x256_3072_0) (rows512 harg3 x1 512 inb_S4096x256_S512x256_512_0)
    dsimp only [k0_pay13, k0_pay11] at e
    dsimp only [k0_pay321, k0_pay323, sl.r_61]
    exact e
  have ho : St x0 x1 x2 3072 512 (sl.v1713 (F := Ideal) c arg2 harg2 arg3 harg3 arg10 arg11 arg12 x0 x1) (sl.v1720 (F := Ideal) c arg2 harg2 arg3 harg3 arg4 harg4 arg10 arg11 arg12 arg13 x0 x1 x2) := step42 h
  simp (disch := decide) only [sl.v1853, sl.v1860, sl.HS3_50, sl.HS3_49, sl.HS3_48, sl.HS3_47, sl.HS2_50, sl.HS2_49, sl.HS2_48, sl.HS2_47, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [k0_pay358, k0_pay359, k0_pay360]
  exact e

theorem step47 (h : Finite x0 x1) : St x0 x1 x2 3328 1024 (sl.v1877 (F := Ideal) c arg2 harg2 arg3 harg3 arg10 arg11 arg12 x0 x1) (sl.v1884 (F := Ideal) c arg2 harg2 arg3 harg3 arg4 harg4 arg10 arg11 arg12 arg13 x0 x1 x2) := by
  have hs : Scores x0 x1 3328 512 (sl.v (F := Ideal) c arg2 harg2 arg3 harg3 arg10 x0 x1) := by
    simp (disch := decide) only [sl.v, sl.HS0_54, sl.HS0_53, sl.HS0_50, ↓View.readCov_skip, ↓View.readCov_cons_toLoadRect]
    exact scores512 (rows256 harg2 x0 3328 inb_S4096x256_S256x256_3328_0) (rows512 harg3 x1 512 inb_S4096x256_S512x256_512_0)
  have hm : Maxes x0 x1 3328 512 (sl.v1734 (F := Ideal) c arg2 harg2 arg3 harg3 arg11 x0 x1) := by
    simp (disch := decide) only [sl.v1734, sl.HS1_54, sl.HS1_50, ↓View.readCov_skip, ↓View.readCov_cons_toLoadRect]
    exact maxes (rows256 harg2 x0 3328 inb_S4096x256_S256x256_3328_0) (rows512 harg3 x1 512 inb_S4096x256_S512x256_512_0)
  have ho : St x0 x1 x2 3328 512 (sl.v1737 (F := Ideal) c arg2 harg2 arg3 harg3 arg10 arg11 arg12 x0 x1) (sl.v1744 (F := Ideal) c arg2 harg2 arg3 harg3 arg4 harg4 arg10 arg11 arg12 arg13 x0 x1 x2) := step43 h
  simp (disch := decide) only [sl.v1877, sl.v1884, sl.HS3_51, sl.HS3_50, sl.HS3_49, sl.HS3_48, sl.HS2_51, sl.HS2_50, sl.HS2_49, sl.HS2_48, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [k0_pay361, k0_pay362, k0_pay363]
  exact e

theorem step48 (h : Finite x0 x1) : St x0 x1 x2 3584 1024 (sl.v1901 (F := Ideal) c arg2 harg2 arg3 harg3 arg10 arg11 arg12 x0 x1) (sl.v1908 (F := Ideal) c arg2 harg2 arg3 harg3 arg4 harg4 arg10 arg11 arg12 arg13 x0 x1 x2) := by
  have hs : Scores x0 x1 3584 512 (sl.v1756 (F := Ideal) c arg2 harg2 arg3 harg3 arg10 x0 x1) := by
    simp (disch := decide) only [sl.v1756, sl.HS0_54, sl.HS0_53, sl.HS0_50, ↓View.readCov_skip, ↓View.readCov_cons_toLoadRect]
    exact scores512 (rows256 harg2 x0 3584 inb_S4096x256_S256x256_3584_0) (rows512 harg3 x1 512 inb_S4096x256_S512x256_512_0)
  have hm : Maxes x0 x1 3584 512 (sl.v1758 (F := Ideal) c arg2 harg2 arg3 harg3 arg11 x0 x1) := by
    simp (disch := decide) only [sl.v1758, sl.HS1_54, sl.HS1_50, ↓View.readCov_skip, ↓View.readCov_cons_toLoadRect]
    have e := maxes (rows256 harg2 x0 3584 inb_S4096x256_S256x256_3584_0) (rows512 harg3 x1 512 inb_S4096x256_S512x256_512_0)
    dsimp only [k0_pay13, k0_pay11] at e
    dsimp only [k0_pay327, k0_pay329, k0_pay330, sl.r_62]
    exact e
  have ho : St x0 x1 x2 3584 512 (sl.v1761 (F := Ideal) c arg2 harg2 arg3 harg3 arg10 arg11 arg12 x0 x1) (sl.v1768 (F := Ideal) c arg2 harg2 arg3 harg3 arg4 harg4 arg10 arg11 arg12 arg13 x0 x1 x2) := step44 h
  simp (disch := decide) only [sl.v1901, sl.v1908, sl.HS3_52, sl.HS3_51, sl.HS3_50, sl.HS3_49, sl.HS2_52, sl.HS2_51, sl.HS2_50, sl.HS2_49, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [sl.r_15, sl.r_65, sl.r_66, sl.r_67, k0_pay364, k0_pay365, k0_pay366, k0_pay367, k0_pay368]
  exact e

theorem step49 (h : Finite x0 x1) : St x0 x1 x2 3840 1024 (sl.v1925 (F := Ideal) c arg2 harg2 arg3 harg3 arg10 arg11 arg12 x0 x1) (sl.v1932 (F := Ideal) c arg2 harg2 arg3 harg3 arg4 harg4 arg10 arg11 arg12 arg13 x0 x1 x2) := by
  have hs : Scores x0 x1 3840 512 (sl.v1780 (F := Ideal) c arg2 harg2 arg3 harg3 arg10 x0 x1) := by
    simp (disch := decide) only [sl.v1780, sl.HS0_54, sl.HS0_53, sl.HS0_50, ↓View.readCov_skip, ↓View.readCov_cons_toLoadRect]
    exact scores512 (rows256 harg2 x0 3840 inb_S4096x256_S256x256_3840_0) (rows512 harg3 x1 512 inb_S4096x256_S512x256_512_0)
  have hm : Maxes x0 x1 3840 512 (sl.v1782 (F := Ideal) c arg2 harg2 arg3 harg3 arg11 x0 x1) := by
    simp (disch := decide) only [sl.v1782, sl.HS1_54, sl.HS1_50, ↓View.readCov_skip, ↓View.readCov_cons_toLoadRect]
    exact maxes (rows256 harg2 x0 3840 inb_S4096x256_S256x256_3840_0) (rows512 harg3 x1 512 inb_S4096x256_S512x256_512_0)
  have ho : St x0 x1 x2 3840 512 (sl.v1785 (F := Ideal) c arg2 harg2 arg3 harg3 arg10 arg11 arg12 x0 x1) (sl.v1792 (F := Ideal) c arg2 harg2 arg3 harg3 arg4 harg4 arg10 arg11 arg12 arg13 x0 x1 x2) := step45 h
  simp (disch := decide) only [sl.v1925, sl.v1932, sl.HS3_53, sl.HS3_52, sl.HS3_51, sl.HS3_50, sl.HS2_53, sl.HS2_52, sl.HS2_51, sl.HS2_50, ↓View.readCov_skip, ↓View.readCov_cons_toLoadRect]
  have e := later h ho (by omega) (by omega) hs hm (vals512 harg4 x2 512 inb_S144x4096_S144x512_0_512)
  dsimp only [k0_pay107, k0_pay106, k0_pay105] at e
  dsimp only [sl.r_68, k0_pay369, k0_pay370, k0_pay371]
  exact e

theorem step50 (h : Finite x0 x1) : St x0 x1 x2 3072 1536 (sl.v1993 (F := Ideal) c arg2 harg2 arg3 harg3 arg10 arg11 arg12 x0 x1) (sl.v2000 (F := Ideal) c arg2 harg2 arg3 harg3 arg4 harg4 arg10 arg11 arg12 arg13 x0 x1 x2) := by
  have hs : Scores x0 x1 3072 1024 (sl.v1848 (F := Ideal) c arg2 harg2 arg3 harg3 arg10 x0 x1) := by
    simp (disch := decide) only [sl.v1848, sl.HS0_58, sl.HS0_54, sl.HS0_53, ↓View.readCov_skip, ↓View.readCov_cons_toLoadRect]
    exact scores512 (rows256 harg2 x0 3072 inb_S4096x256_S256x256_3072_0) (rows512 harg3 x1 1024 inb_S4096x256_S512x256_1024_0)
  have hm : Maxes x0 x1 3072 1024 (sl.v1850 (F := Ideal) c arg2 harg2 arg3 harg3 arg11 x0 x1) := by
    simp (disch := decide) only [sl.v1850, sl.HS1_58, sl.HS1_54, ↓View.readCov_skip, ↓View.readCov_cons_toLoadRect]
    exact maxes (rows256 harg2 x0 3072 inb_S4096x256_S256x256_3072_0) (rows512 harg3 x1 1024 inb_S4096x256_S512x256_1024_0)
  have ho : St x0 x1 x2 3072 1024 (sl.v1853 (F := Ideal) c arg2 harg2 arg3 harg3 arg10 arg11 arg12 x0 x1) (sl.v1860 (F := Ideal) c arg2 harg2 arg3 harg3 arg4 harg4 arg10 arg11 arg12 arg13 x0 x1 x2) := step46 h
  simp (disch := decide) only [sl.v1993, sl.v2000, sl.HS3_54, sl.HS3_53, sl.HS3_52, sl.HS3_51, sl.HS2_54, sl.HS2_53, sl.HS2_52, sl.HS2_51, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_22, sl.r_70, sl.r_71, k0_pay384, k0_pay385, k0_pay386, k0_pay387, k0_pay388]
  exact e

theorem step51 (h : Finite x0 x1) : St x0 x1 x2 3328 1536 (sl.v2017 (F := Ideal) c arg2 harg2 arg3 harg3 arg10 arg11 arg12 x0 x1) (sl.v2024 (F := Ideal) c arg2 harg2 arg3 harg3 arg4 harg4 arg10 arg11 arg12 arg13 x0 x1 x2) := by
  have hs : Scores x0 x1 3328 1024 (sl.v1872 (F := Ideal) c arg2 harg2 arg3 harg3 arg10 x0 x1) := by
    simp (disch := decide) only [sl.v1872, sl.HS0_58, sl.HS0_54, sl.HS0_53, ↓View.readCov_skip, ↓View.readCov_cons_toLoadRect]
    exact scores512 (rows256 harg2 x0 3328 inb_S4096x256_S256x256_3328_0) (rows512 harg3 x1 1024 inb_S4096x256_S512x256_1024_0)
  have hm : Maxes x0 x1 3328 1024 (sl.v1874 (F := Ideal) c arg2 harg2 arg3 harg3 arg11 x0 x1) := by
    simp (disch := decide) only [sl.v1874, sl.HS1_58, sl.HS1_54, ↓View.readCov_skip, ↓View.readCov_cons_toLoadRect]
    exact maxes (rows256 harg2 x0 3328 inb_S4096x256_S256x256_3328_0) (rows512 harg3 x1 1024 inb_S4096x256_S512x256_1024_0)
  have ho : St x0 x1 x2 3328 1024 (sl.v1877 (F := Ideal) c arg2 harg2 arg3 harg3 arg10 arg11 arg12 x0 x1) (sl.v1884 (F := Ideal) c arg2 harg2 arg3 harg3 arg4 harg4 arg10 arg11 arg12 arg13 x0 x1 x2) := step47 h
  simp (disch := decide) only [sl.v2017, sl.v2024, sl.HS3_55, sl.HS3_54, sl.HS3_53, sl.HS3_52, sl.HS2_55, sl.HS2_54, sl.HS2_53, sl.HS2_52, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_72, sl.r_73, k0_pay389, k0_pay390, k0_pay391, k0_pay392]
  exact e

theorem step52 (h : Finite x0 x1) : St x0 x1 x2 3584 1536 (sl.v2041 (F := Ideal) c arg2 harg2 arg3 harg3 arg10 arg11 arg12 x0 x1) (sl.v2048 (F := Ideal) c arg2 harg2 arg3 harg3 arg4 harg4 arg10 arg11 arg12 arg13 x0 x1 x2) := by
  have hs : Scores x0 x1 3584 1024 (sl.v1896 (F := Ideal) c arg2 harg2 arg3 harg3 arg10 x0 x1) := by
    simp (disch := decide) only [sl.v1896, sl.HS0_58, sl.HS0_54, sl.HS0_53, ↓View.readCov_skip, ↓View.readCov_cons_toLoadRect]
    exact scores512 (rows256 harg2 x0 3584 inb_S4096x256_S256x256_3584_0) (rows512 harg3 x1 1024 inb_S4096x256_S512x256_1024_0)
  have hm : Maxes x0 x1 3584 1024 (sl.v1898 (F := Ideal) c arg2 harg2 arg3 harg3 arg11 x0 x1) := by
    simp (disch := decide) only [sl.v1898, sl.HS1_58, sl.HS1_54, ↓View.readCov_skip, ↓View.readCov_cons_toLoadRect]
    exact maxes (rows256 harg2 x0 3584 inb_S4096x256_S256x256_3584_0) (rows512 harg3 x1 1024 inb_S4096x256_S512x256_1024_0)
  have ho : St x0 x1 x2 3584 1024 (sl.v1901 (F := Ideal) c arg2 harg2 arg3 harg3 arg10 arg11 arg12 x0 x1) (sl.v1908 (F := Ideal) c arg2 harg2 arg3 harg3 arg4 harg4 arg10 arg11 arg12 arg13 x0 x1 x2) := step48 h
  simp (disch := decide) only [sl.v2041, sl.v2048, sl.HS3_56, sl.HS3_55, sl.HS3_54, sl.HS3_53, sl.HS2_56, sl.HS2_55, sl.HS2_54, sl.HS2_53, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [k0_pay393, k0_pay394, k0_pay395]
  exact e

theorem step53 (h : Finite x0 x1) : St x0 x1 x2 3840 1536 (sl.v2065 (F := Ideal) c arg2 harg2 arg3 harg3 arg10 arg11 arg12 x0 x1) (sl.v2072 (F := Ideal) c arg2 harg2 arg3 harg3 arg4 harg4 arg10 arg11 arg12 arg13 x0 x1 x2) := by
  have hs : Scores x0 x1 3840 1024 (sl.v1920 (F := Ideal) c arg2 harg2 arg3 harg3 arg10 x0 x1) := by
    simp (disch := decide) only [sl.v1920, sl.HS0_58, sl.HS0_54, ↓View.readCov_skip, ↓View.readCov_cons_toLoadRect]
    have e := scores512 (rows256 harg2 x0 3840 inb_S4096x256_S256x256_3840_0) (rows512 harg3 x1 1024 inb_S4096x256_S512x256_1024_0)
    dsimp only [k0_pay8, k0_pay7] at e
    dsimp only [k0_pay355, k0_pay356, sl.r_64]
    exact e
  have hm : Maxes x0 x1 3840 1024 (sl.v1922 (F := Ideal) c arg2 harg2 arg3 harg3 arg11 x0 x1) := by
    simp (disch := decide) only [sl.v1922, sl.HS1_58, sl.HS1_54, ↓View.readCov_skip, ↓View.readCov_cons_toLoadRect]
    have e := maxes (rows256 harg2 x0 3840 inb_S4096x256_S256x256_3840_0) (rows512 harg3 x1 1024 inb_S4096x256_S512x256_1024_0)
    dsimp only [k0_pay13, k0_pay11] at e
    dsimp only [k0_pay355, k0_pay357, sl.r_64]
    exact e
  have ho : St x0 x1 x2 3840 1024 (sl.v1925 (F := Ideal) c arg2 harg2 arg3 harg3 arg10 arg11 arg12 x0 x1) (sl.v1932 (F := Ideal) c arg2 harg2 arg3 harg3 arg4 harg4 arg10 arg11 arg12 arg13 x0 x1 x2) := step49 h
  simp (disch := decide) only [sl.v2065, sl.v2072, sl.HS3_57, sl.HS3_56, sl.HS3_55, sl.HS3_54, sl.HS2_57, sl.HS2_56, sl.HS2_55, sl.HS2_54, ↓View.readCov_skip, ↓View.readCov_cons_toLoadRect]
  have e := later h ho (by omega) (by omega) hs hm (vals512 harg4 x2 1024 inb_S144x4096_S144x512_0_1024)
  dsimp only [k0_pay107, k0_pay106, k0_pay105] at e
  dsimp only [sl.r_74, k0_pay396, k0_pay397, k0_pay398, k0_pay399]
  exact e

theorem step54 (h : Finite x0 x1) : St x0 x1 x2 3072 2048 (sl.v2133 (F := Ideal) c arg2 harg2 arg3 harg3 arg10 arg11 arg12 x0 x1) (sl.v2140 (F := Ideal) c arg2 harg2 arg3 harg3 arg4 harg4 arg10 arg11 arg12 arg13 x0 x1 x2) := by
  have hs : Scores x0 x1 3072 1536 (sl.v1988 (F := Ideal) c arg2 harg2 arg3 harg3 arg10 x0 x1) := by
    simp (disch := decide) only [sl.v1988, sl.HS0_62, sl.HS0_58, ↓View.readCov_skip, ↓View.readCov_cons_toLoadRect]
    exact scores512 (rows256 harg2 x0 3072 inb_S4096x256_S256x256_3072_0) (rows512 harg3 x1 1536 inb_S4096x256_S512x256_1536_0)
  have hm : Maxes x0 x1 3072 1536 (sl.v1990 (F := Ideal) c arg2 harg2 arg3 harg3 arg11 x0 x1) := by
    simp (disch := decide) only [sl.v1990, sl.HS1_62, sl.HS1_58, ↓View.readCov_skip, ↓View.readCov_cons_toLoadRect]
    exact maxes (rows256 harg2 x0 3072 inb_S4096x256_S256x256_3072_0) (rows512 harg3 x1 1536 inb_S4096x256_S512x256_1536_0)
  have ho : St x0 x1 x2 3072 1536 (sl.v1993 (F := Ideal) c arg2 harg2 arg3 harg3 arg10 arg11 arg12 x0 x1) (sl.v2000 (F := Ideal) c arg2 harg2 arg3 harg3 arg4 harg4 arg10 arg11 arg12 arg13 x0 x1 x2) := step50 h
  simp (disch := decide) only [sl.v2133, sl.v2140, sl.HS3_58, sl.HS3_57, sl.HS3_56, sl.HS3_55, sl.HS2_58, sl.HS2_57, sl.HS2_56, sl.HS2_55, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [k0_pay413, k0_pay414, k0_pay415]
  exact e

theorem step55 (h : Finite x0 x1) : St x0 x1 x2 3328 2048 (sl.v2157 (F := Ideal) c arg2 harg2 arg3 harg3 arg10 arg11 arg12 x0 x1) (sl.v2164 (F := Ideal) c arg2 harg2 arg3 harg3 arg4 harg4 arg10 arg11 arg12 arg13 x0 x1 x2) := by
  have hs : Scores x0 x1 3328 1536 (sl.v2012 (F := Ideal) c arg2 harg2 arg3 harg3 arg10 x0 x1) := by
    simp (disch := decide) only [sl.v2012, sl.HS0_62, sl.HS0_58, ↓View.readCov_skip, ↓View.readCov_cons_toLoadRect]
    exact scores512 (rows256 harg2 x0 3328 inb_S4096x256_S256x256_3328_0) (rows512 harg3 x1 1536 inb_S4096x256_S512x256_1536_0)
  have hm : Maxes x0 x1 3328 1536 (sl.v2014 (F := Ideal) c arg2 harg2 arg3 harg3 arg11 x0 x1) := by
    simp (disch := decide) only [sl.v2014, sl.HS1_62, sl.HS1_58, ↓View.readCov_skip, ↓View.readCov_cons_toLoadRect]
    exact maxes (rows256 harg2 x0 3328 inb_S4096x256_S256x256_3328_0) (rows512 harg3 x1 1536 inb_S4096x256_S512x256_1536_0)
  have ho : St x0 x1 x2 3328 1536 (sl.v2017 (F := Ideal) c arg2 harg2 arg3 harg3 arg10 arg11 arg12 x0 x1) (sl.v2024 (F := Ideal) c arg2 harg2 arg3 harg3 arg4 harg4 arg10 arg11 arg12 arg13 x0 x1 x2) := step51 h
  simp (disch := decide) only [sl.v2157, sl.v2164, sl.HS3_59, sl.HS3_58, sl.HS3_57, sl.HS3_56, sl.HS2_59, sl.HS2_58, sl.HS2_57, sl.HS2_56, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [k0_pay416, k0_pay417, k0_pay418]
  exact e

theorem step56 (h : Finite x0 x1) : St x0 x1 x2 3584 2048 (sl.v2181 (F := Ideal) c arg2 harg2 arg3 harg3 arg10 arg11 arg12 x0 x1) (sl.v2188 (F := Ideal) c arg2 harg2 arg3 harg3 arg4 harg4 arg10 arg11 arg12 arg13 x0 x1 x2) := by
  have hs : Scores x0 x1 3584 1536 (sl.v2036 (F := Ideal) c arg2 harg2 arg3 harg3 arg10 x0 x1) := by
    simp (disch := decide) only [sl.v2036, sl.HS0_62, sl.HS0_58, ↓View.readCov_skip, ↓View.readCov_cons_toLoadRect]
    have e := scores512 (rows256 harg2 x0 3584 inb_S4096x256_S256x256_3584_0) (rows512 harg3 x1 1536 inb_S4096x256_S512x256_1536_0)
    dsimp only [k0_pay8, k0_pay7] at e
    dsimp only [k0_pay378, k0_pay379, sl.r_69]
    exact e
  have hm : Maxes x0 x1 3584 1536 (sl.v2038 (F := Ideal) c arg2 harg2 arg3 harg3 arg11 x0 x1) := by
    simp (disch := decide) only [sl.v2038, sl.HS1_62, sl.HS1_58, ↓View.readCov_skip, ↓View.readCov_cons_toLoadRect]
    have e := maxes (rows256 harg2 x0 3584 inb_S4096x256_S256x256_3584_0) (rows512 harg3 x1 1536 inb_S4096x256_S512x256_1536_0)
    dsimp only [k0_pay13, k0_pay11] at e
    dsimp only [k0_pay378, k0_pay380, sl.r_69]
    exact e
  have ho : St x0 x1 x2 3584 1536 (sl.v2041 (F := Ideal) c arg2 harg2 arg3 harg3 arg10 arg11 arg12 x0 x1) (sl.v2048 (F := Ideal) c arg2 harg2 arg3 harg3 arg4 harg4 arg10 arg11 arg12 arg13 x0 x1 x2) := step52 h
  simp (disch := decide) only [sl.v2181, sl.v2188, sl.HS3_60, sl.HS3_59, sl.HS3_58, sl.HS3_57, sl.HS2_60, sl.HS2_59, sl.HS2_58, sl.HS2_57, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [sl.r_48, sl.r_77, sl.r_78, k0_pay419, k0_pay420, k0_pay421, k0_pay422]
  exact e

theorem step57 (h : Finite x0 x1) : St x0 x1 x2 3840 2048 (sl.v2205 (F := Ideal) c arg2 harg2 arg3 harg3 arg10 arg11 arg12 x0 x1) (sl.v2212 (F := Ideal) c arg2 harg2 arg3 harg3 arg4 harg4 arg10 arg11 arg12 arg13 x0 x1 x2) := by
  have hs : Scores x0 x1 3840 1536 (sl.v2060 (F := Ideal) c arg2 harg2 arg3 harg3 arg10 x0 x1) := by
    simp (disch := decide) only [sl.v2060, sl.HS0_62, sl.HS0_58, ↓View.readCov_skip, ↓View.readCov_cons_toLoadRect]
    exact scores512 (rows256 harg2 x0 3840 inb_S4096x256_S256x256_3840_0) (rows512 harg3 x1 1536 inb_S4096x256_S512x256_1536_0)
  have hm : Maxes x0 x1 3840 1536 (sl.v2062 (F := Ideal) c arg2 harg2 arg3 harg3 arg11 x0 x1) := by
    simp (disch := decide) only [sl.v2062, sl.HS1_62, sl.HS1_58, ↓View.readCov_skip, ↓View.readCov_cons_toLoadRect]
    exact maxes (rows256 harg2 x0 3840 inb_S4096x256_S256x256_3840_0) (rows512 harg3 x1 1536 inb_S4096x256_S512x256_1536_0)
  have ho : St x0 x1 x2 3840 1536 (sl.v2065 (F := Ideal) c arg2 harg2 arg3 harg3 arg10 arg11 arg12 x0 x1) (sl.v2072 (F := Ideal) c arg2 harg2 arg3 harg3 arg4 harg4 arg10 arg11 arg12 arg13 x0 x1 x2) := step53 h
  simp (disch := decide) only [sl.v2205, sl.v2212, sl.HS3_61, sl.HS3_60, sl.HS3_59, sl.HS3_58, sl.HS2_61, sl.HS2_60, sl.HS2_59, sl.HS2_58, ↓View.readCov_skip, ↓View.readCov_cons_toLoadRect]
  have e := later h ho (by omega) (by omega) hs hm (vals512 harg4 x2 1536 inb_S144x4096_S144x512_0_1536)
  dsimp only [k0_pay107, k0_pay106, k0_pay105] at e
  dsimp only [sl.r_79, sl.r_80, k0_pay423, k0_pay424, k0_pay425, k0_pay426]
  exact e

theorem step58 (h : Finite x0 x1) : St x0 x1 x2 3072 2560 (sl.v2273 (F := Ideal) c arg2 harg2 arg3 harg3 arg10 arg11 arg12 x0 x1) (sl.v2280 (F := Ideal) c arg2 harg2 arg3 harg3 arg4 harg4 arg10 arg11 arg12 arg13 x0 x1 x2) := by
  have hs : Scores x0 x1 3072 2048 (sl.v2128 (F := Ideal) c arg2 harg2 arg3 harg3 arg10 x0 x1) := by
    simp (disch := decide) only [sl.v2128, sl.HS0_66, sl.HS0_62, ↓View.readCov_skip, ↓View.readCov_cons_toLoadRect]
    exact scores512 (rows256 harg2 x0 3072 inb_S4096x256_S256x256_3072_0) (rows512 harg3 x1 2048 inb_S4096x256_S512x256_2048_0)
  have hm : Maxes x0 x1 3072 2048 (sl.v2130 (F := Ideal) c arg2 harg2 arg3 harg3 arg11 x0 x1) := by
    simp (disch := decide) only [sl.v2130, sl.HS1_66, sl.HS1_62, ↓View.readCov_skip, ↓View.readCov_cons_toLoadRect]
    have e := maxes (rows256 harg2 x0 3072 inb_S4096x256_S256x256_3072_0) (rows512 harg3 x1 2048 inb_S4096x256_S512x256_2048_0)
    dsimp only [k0_pay13, k0_pay11] at e
    dsimp only [k0_pay400, k0_pay402, k0_pay403, sl.r_75]
    exact e
  have ho : St x0 x1 x2 3072 2048 (sl.v2133 (F := Ideal) c arg2 harg2 arg3 harg3 arg10 arg11 arg12 x0 x1) (sl.v2140 (F := Ideal) c arg2 harg2 arg3 harg3 arg4 harg4 arg10 arg11 arg12 arg13 x0 x1 x2) := step54 h
  simp (disch := decide) only [sl.v2273, sl.v2280, sl.HS3_62, sl.HS3_61, sl.HS3_60, sl.HS3_59, sl.HS2_62, sl.HS2_61, sl.HS2_60, sl.HS2_59, ↓View.readCov_skip, ↓View.readCov_cons_toLoadRect]
  have e := later h ho (by omega) (by omega) hs hm (vals512 harg4 x2 2048 inb_S144x4096_S144x512_0_2048)
  dsimp only [k0_pay107, k0_pay106, k0_pay105] at e
  dsimp only [sl.r_81, sl.r_82, k0_pay439, k0_pay440, k0_pay441, k0_pay442, k0_pay443]
  exact e

theorem step59 (h : Finite x0 x1) : St x0 x1 x2 3328 2560 (sl.v2297 (F := Ideal) c arg2 harg2 arg3 harg3 arg10 arg11 arg12 x0 x1) (sl.v2304 (F := Ideal) c arg2 harg2 arg3 harg3 arg4 harg4 arg10 arg11 arg12 arg13 x0 x1 x2) := by
  have hs : Scores x0 x1 3328 2048 (sl.v2152 (F := Ideal) c arg2 harg2 arg3 harg3 arg10 x0 x1) := by
    simp (disch := decide) only [sl.v2152, sl.HS0_66, sl.HS0_62, ↓View.readCov_skip, ↓View.readCov_cons_toLoadRect]
    exact scores512 (rows256 harg2 x0 3328 inb_S4096x256_S256x256_3328_0) (rows512 harg3 x1 2048 inb_S4096x256_S512x256_2048_0)
  have hm : Maxes x0 x1 3328 2048 (sl.v2154 (F := Ideal) c arg2 harg2 arg3 harg3 arg11 x0 x1) := by
    simp (disch := decide) only [sl.v2154, sl.HS1_66, sl.HS1_62, ↓View.readCov_skip, ↓View.readCov_cons_toLoadRect]
    exact maxes (rows256 harg2 x0 3328 inb_S4096x256_S256x256_3328_0) (rows512 harg3 x1 2048 inb_S4096x256_S512x256_2048_0)
  have ho : St x0 x1 x2 3328 2048 (sl.v2157 (F := Ideal) c arg2 harg2 arg3 harg3 arg10 arg11 arg12 x0 x1) (sl.v2164 (F := Ideal) c arg2 harg2 arg3 harg3 arg4 harg4 arg10 arg11 arg12 arg13 x0 x1 x2) := step55 h
  simp (disch := decide) only [sl.v2297, sl.v2304, sl.HS3_63, sl.HS3_62, sl.HS3_61, sl.HS3_60, sl.HS2_63, sl.HS2_62, sl.HS2_61, sl.HS2_60, ↓View.readCov_skip, ↓View.readCov_cons_toLoadRect]
  have e := later h ho (by omega) (by omega) hs hm (vals512 harg4 x2 2048 inb_S144x4096_S144x512_0_2048)
  dsimp only [k0_pay107, k0_pay106, k0_pay105] at e
  dsimp only [sl.r_56, sl.r_83, sl.r_84, sl.r_85, k0_pay444, k0_pay445, k0_pay446, k0_pay447, k0_pay448]
  exact e

theorem step60 (h : Finite x0 x1) : St x0 x1 x2 3584 2560 (sl.v2321 (F := Ideal) c arg2 harg2 arg3 harg3 arg10 arg11 arg12 x0 x1) (sl.v2328 (F := Ideal) c arg2 harg2 arg3 harg3 arg4 harg4 arg10 arg11 arg12 arg13 x0 x1 x2) := by
  have hs : Scores x0 x1 3584 2048 (sl.v2176 (F := Ideal) c arg2 harg2 arg3 harg3 arg10 x0 x1) := by
    simp (disch := decide) only [sl.v2176, sl.HS0_66, sl.HS0_62, ↓View.readCov_skip, ↓View.readCov_cons_toLoadRect]
    exact scores512 (rows256 harg2 x0 3584 inb_S4096x256_S256x256_3584_0) (rows512 harg3 x1 2048 inb_S4096x256_S512x256_2048_0)
  have hm : Maxes x0 x1 3584 2048 (sl.v2178 (F := Ideal) c arg2 harg2 arg3 harg3 arg11 x0 x1) := by
    simp (disch := decide) only [sl.v2178, sl.HS1_66, sl.HS1_62, ↓View.readCov_skip, ↓View.readCov_cons_toLoadRect]
    exact maxes (rows256 harg2 x0 3584 inb_S4096x256_S256x256_3584_0) (rows512 harg3 x1 2048 inb_S4096x256_S512x256_2048_0)
  have ho : St x0 x1 x2 3584 2048 (sl.v2181 (F := Ideal) c arg2 harg2 arg3 harg3 arg10 arg11 arg12 x0 x1) (sl.v2188 (F := Ideal) c arg2 harg2 arg3 harg3 arg4 harg4 arg10 arg11 arg12 arg13 x0 x1 x2) := step56 h
  simp (disch := decide) only [sl.v2321, sl.v2328, sl.HS3_64, sl.HS3_63, sl.HS3_62, sl.HS3_61, sl.HS2_64, sl.HS2_63, sl.HS2_62, sl.HS2_61, ↓View.readCov_skip, ↓View.readCov_cons_toLoadRect]
  have e := later h ho (by omega) (by omega) hs hm (vals512 harg4 x2 2048 inb_S144x4096_S144x512_0_2048)
  dsimp only [k0_pay107, k0_pay106, k0_pay105] at e
  dsimp only [k0_pay449, k0_pay450, k0_pay451]
  exact e

theorem step61 (h : Finite x0 x1) : St x0 x1 x2 3840 2560 (sl.v2345 (F := Ideal) c arg2 harg2 arg3 harg3 arg10 arg11 arg12 x0 x1) (sl.v2352 (F := Ideal) c arg2 harg2 arg3 harg3 arg4 harg4 arg10 arg11 arg12 arg13 x0 x1 x2) := by
  have hs : Scores x0 x1 3840 2048 (sl.v2200 (F := Ideal) c arg2 harg2 arg3 harg3 arg10 x0 x1) := by
    simp (disch := decide) only [sl.v2200, sl.HS0_66, sl.HS0_62, ↓View.readCov_skip, ↓View.readCov_cons_toLoadRect]
    have e := scores512 (rows256 harg2 x0 3840 inb_S4096x256_S256x256_3840_0) (rows512 harg3 x1 2048 inb_S4096x256_S512x256_2048_0)
    dsimp only [k0_pay8, k0_pay7] at e
    dsimp only [k0_pay410, k0_pay411, sl.r_76]
    exact e
  have hm : Maxes x0 x1 3840 2048 (sl.v2202 (F := Ideal) c arg2 harg2 arg3 harg3 arg11 x0 x1) := by
    simp (disch := decide) only [sl.v2202, sl.HS1_66, sl.HS1_62, ↓View.readCov_skip, ↓View.readCov_cons_toLoadRect]
    have e := maxes (rows256 harg2 x0 3840 inb_S4096x256_S256x256_3840_0) (rows512 harg3 x1 2048 inb_S4096x256_S512x256_2048_0)
    dsimp only [k0_pay13, k0_pay11] at e
    dsimp only [k0_pay410, k0_pay412, sl.r_76]
    exact e
  have ho : St x0 x1 x2 3840 2048 (sl.v2205 (F := Ideal) c arg2 harg2 arg3 harg3 arg10 arg11 arg12 x0 x1) (sl.v2212 (F := Ideal) c arg2 harg2 arg3 harg3 arg4 harg4 arg10 arg11 arg12 arg13 x0 x1 x2) := step57 h
  simp (disch := decide) only [sl.v2345, sl.v2352, sl.HS3_65, sl.HS3_64, sl.HS3_63, sl.HS3_62, sl.HS2_65, sl.HS2_64, sl.HS2_63, sl.HS2_62, ↓View.readCov_skip, ↓View.readCov_cons_toLoadRect]
  have e := later h ho (by omega) (by omega) hs hm (vals512 harg4 x2 2048 inb_S144x4096_S144x512_0_2048)
  dsimp only [k0_pay107, k0_pay106, k0_pay105] at e
  dsimp only [k0_pay452, k0_pay453, k0_pay454]
  exact e

theorem step62 (h : Finite x0 x1) : St x0 x1 x2 3072 3072 (sl.v2400 (F := Ideal) c arg2 harg2 arg3 harg3 arg10 arg11 arg12 x0 x1) (sl.v2407 (F := Ideal) c arg2 harg2 arg3 harg3 arg4 harg4 arg10 arg11 arg12 arg13 x0 x1 x2) := by
  have hs : Scores x0 x1 3072 2560 (sl.v2268 (F := Ideal) c arg2 harg2 arg3 harg3 arg10 x0 x1) := by
    simp (disch := decide) only [sl.v2268, sl.HS0_70, sl.HS0_66, ↓View.readCov_skip, ↓View.readCov_cons_toLoadRect]
    exact scores512 (rows256 harg2 x0 3072 inb_S4096x256_S256x256_3072_0) (rows512 harg3 x1 2560 inb_S4096x256_S512x256_2560_0)
  have hm : Maxes x0 x1 3072 2560 (sl.v2270 (F := Ideal) c arg2 harg2 arg3 harg3 arg11 x0 x1) := by
    simp (disch := decide) only [sl.v2270, sl.HS1_70, sl.HS1_66, ↓View.readCov_skip, ↓View.readCov_cons_toLoadRect]
    exact maxes (rows256 harg2 x0 3072 inb_S4096x256_S256x256_3072_0) (rows512 harg3 x1 2560 inb_S4096x256_S512x256_2560_0)
  have ho : St x0 x1 x2 3072 2560 (sl.v2273 (F := Ideal) c arg2 harg2 arg3 harg3 arg10 arg11 arg12 x0 x1) (sl.v2280 (F := Ideal) c arg2 harg2 arg3 harg3 arg4 harg4 arg10 arg11 arg12 arg13 x0 x1 x2) := step58 h
  simp (disch := decide) only [sl.v2400, sl.v2407, sl.HS3_66, sl.HS3_65, sl.HS3_64, sl.HS3_63, sl.HS2_66, sl.HS2_65, sl.HS2_64, sl.HS2_63, ↓View.readCov_skip, ↓View.readCov_cons_toLoadRect]
  have e := later h ho (by omega) (by omega) hs hm (vals512 harg4 x2 2560 inb_S144x4096_S144x512_0_2560)
  dsimp only [k0_pay107, k0_pay106, k0_pay105] at e
  dsimp only [sl.r_88, k0_pay468, k0_pay469, k0_pay470]
  exact e

theorem step63 (h : Finite x0 x1) : St x0 x1 x2 3328 3072 (sl.v2433 (F := Ideal) c arg2 harg2 arg3 harg3 arg10 arg11 arg12 x0 x1) (sl.v2440 (F := Ideal) c arg2 harg2 arg3 harg3 arg4 harg4 arg10 arg11 arg12 arg13 x0 x1 x2) := by
  have hs : Scores x0 x1 3328 2560 (sl.v2292 (F := Ideal) c arg2 harg2 arg3 harg3 arg10 x0 x1) := by
    simp (disch := decide) only [sl.v2292, sl.HS0_70, sl.HS0_66, ↓View.readCov_skip, ↓View.readCov_cons_toLoadRect]
    exact scores512 (rows256 harg2 x0 3328 inb_S4096x256_S256x256_3328_0) (rows512 harg3 x1 2560 inb_S4096x256_S512x256_2560_0)
  have hm : Maxes x0 x1 3328 2560 (sl.v2294 (F := Ideal) c arg2 harg2 arg3 harg3 arg11 x0 x1) := by
    simp (disch := decide) only [sl.v2294, sl.HS1_70, sl.HS1_66, ↓View.readCov_skip, ↓View.readCov_cons_toLoadRect]
    exact maxes (rows256 harg2 x0 3328 inb_S4096x256_S256x256_3328_0) (rows512 harg3 x1 2560 inb_S4096x256_S512x256_2560_0)
  have ho : St x0 x1 x2 3328 2560 (sl.v2297 (F := Ideal) c arg2 harg2 arg3 harg3 arg10 arg11 arg12 x0 x1) (sl.v2304 (F := Ideal) c arg2 harg2 arg3 harg3 arg4 harg4 arg10 arg11 arg12 arg13 x0 x1 x2) := step59 h
  simp (disch := decide) only [sl.v2433, sl.v2440, sl.HS3_67, sl.HS3_66, sl.HS3_65, sl.HS3_64, sl.HS2_67, sl.HS2_66, sl.HS2_65, sl.HS2_64, ↓View.readCov_skip, ↓View.readCov_cons_toLoadRect]
  have e := later h ho (by omega) (by omega) hs hm (vals512 harg4 x2 2560 inb_S144x4096_S144x512_0_2560)
  dsimp only [k0_pay107, k0_pay106, k0_pay105] at e
  dsimp only [k0_pay471, k0_pay472, k0_pay473]
  exact e

theorem step64 (h : Finite x0 x1) : St x0 x1 x2 3584 3072 (sl.v2457 (F := Ideal) c arg2 harg2 arg3 harg3 arg10 arg11 arg12 x0 x1) (sl.v2464 (F := Ideal) c arg2 harg2 arg3 harg3 arg4 harg4 arg10 arg11 arg12 arg13 x0 x1 x2) := by
  have hs : Scores x0 x1 3584 2560 (sl.v2316 (F := Ideal) c arg2 harg2 arg3 harg3 arg10 x0 x1) := by
    simp (disch := decide) only [sl.v2316, sl.HS0_70, sl.HS0_66, ↓View.readCov_skip, ↓View.readCov_cons_toLoadRect]
    exact scores512 (rows256 harg2 x0 3584 inb_S4096x256_S256x256_3584_0) (rows512 harg3 x1 2560 inb_S4096x256_S512x256_2560_0)
  have hm : Maxes x0 x1 3584 2560 (sl.v2318 (F := Ideal) c arg2 harg2 arg3 harg3 arg11 x0 x1) := by
    simp (disch := decide) only [sl.v2318, sl.HS1_70, sl.HS1_66, ↓View.readCov_skip, ↓View.readCov_cons_toLoadRect]
    exact maxes (rows256 harg2 x0 3584 inb_S4096x256_S256x256_3584_0) (rows512 harg3 x1 2560 inb_S4096x256_S512x256_2560_0)
  have ho : St x0 x1 x2 3584 2560 (sl.v2321 (F := Ideal) c arg2 harg2 arg3 harg3 arg10 arg11 arg12 x0 x1) (sl.v2328 (F := Ideal) c arg2 harg2 arg3 harg3 arg4 harg4 arg10 arg11 arg12 arg13 x0 x1 x2) := step60 h
  simp (disch := decide) only [sl.v2457, sl.v2464, sl.HS3_68, sl.HS3_67, sl.HS3_66, sl.HS3_65, sl.HS2_68, sl.HS2_67, sl.HS2_66, sl.HS2_65, ↓View.readCov_skip, ↓View.readCov_cons_toLoadRect]
  have e := later h ho (by omega) (by omega) hs hm (vals512 harg4 x2 2560 inb_S144x4096_S144x512_0_2560)
  dsimp only [k0_pay107, k0_pay106, k0_pay105] at e
  dsimp only [sl.r_89, sl.r_90, sl.r_91, k0_pay474, k0_pay475, k0_pay476, k0_pay477, k0_pay478]
  exact e

theorem step65 (h : Finite x0 x1) : St x0 x1 x2 3840 3072 (sl.v2481 (F := Ideal) c arg2 harg2 arg3 harg3 arg10 arg11 arg12 x0 x1) (sl.v2488 (F := Ideal) c arg2 harg2 arg3 harg3 arg4 harg4 arg10 arg11 arg12 arg13 x0 x1 x2) := by
  have hs : Scores x0 x1 3840 2560 (sl.v2340 (F := Ideal) c arg2 harg2 arg3 harg3 arg10 x0 x1) := by
    simp (disch := decide) only [sl.v2340, sl.HS0_70, sl.HS0_66, ↓View.readCov_skip, ↓View.readCov_cons_toLoadRect]
    exact scores512 (rows256 harg2 x0 3840 inb_S4096x256_S256x256_3840_0) (rows512 harg3 x1 2560 inb_S4096x256_S512x256_2560_0)
  have hm : Maxes x0 x1 3840 2560 (sl.v2342 (F := Ideal) c arg2 harg2 arg3 harg3 arg11 x0 x1) := by
    simp (disch := decide) only [sl.v2342, sl.HS1_70, sl.HS1_66, ↓View.readCov_skip, ↓View.readCov_cons_toLoadRect]
    exact maxes (rows256 harg2 x0 3840 inb_S4096x256_S256x256_3840_0) (rows512 harg3 x1 2560 inb_S4096x256_S512x256_2560_0)
  have ho : St x0 x1 x2 3840 2560 (sl.v2345 (F := Ideal) c arg2 harg2 arg3 harg3 arg10 arg11 arg12 x0 x1) (sl.v2352 (F := Ideal) c arg2 harg2 arg3 harg3 arg4 harg4 arg10 arg11 arg12 arg13 x0 x1 x2) := step61 h
  simp (disch := decide) only [sl.v2481, sl.v2488, sl.HS3_69, sl.HS3_68, sl.HS3_67, sl.HS3_66, sl.HS2_69, sl.HS2_68, sl.HS2_67, sl.HS2_66, ↓View.readCov_skip, ↓View.readCov_cons_toLoadRect]
  have e := later h ho (by omega) (by omega) hs hm (vals512 harg4 x2 2560 inb_S144x4096_S144x512_0_2560)
  dsimp only [k0_pay107, k0_pay106, k0_pay105] at e
  dsimp only [sl.r_92, sl.r_93, sl.r_94, k0_pay479, k0_pay480, k0_pay481, k0_pay482, k0_pay483]
  exact e

theorem step66 (h : Finite x0 x1) : ∃ m, St x0 x1 x2 3072 3328 m (arg13.view.readCov (sl.HS3_72 (F := Ideal) c arg2 harg2 arg3 harg3 arg4 harg4 arg10 arg11 arg12 arg13 x0 x1 x2)
      (Rect.unit (s := S144x1024) ![0, 0] S144x256.size inb_S144x1024_S144x256_0_0).toLoadRect) := by
  have hs : Scores x0 x1 3072 3072 (sl.v2386 (F := Ideal) c arg2 harg2 arg3 harg3 arg10 x0 x1) := by
    simp (disch := decide) only [sl.v2386, sl.HS0_72, sl.HS0_70, ↓View.readCov_skip, ↓View.readCov_cons_toLoadRect]
    exact scores256 (rows256 harg2 x0 3072 inb_S4096x256_S256x256_3072_0) (rows256 harg3 x1 3072 inb_S4096x256_S256x256_3072_0)
  have ho : St x0 x1 x2 3072 3072 (sl.v2400 (F := Ideal) c arg2 harg2 arg3 harg3 arg10 arg11 arg12 x0 x1) (sl.v2407 (F := Ideal) c arg2 harg2 arg3 harg3 arg4 harg4 arg10 arg11 arg12 arg13 x0 x1 x2) := step62 h
  simp (disch := decide) only [sl.HS3_72, sl.HS3_71, sl.HS3_70, sl.HS3_69, sl.HS3_68, sl.HS3_67, ↓View.readCov_skip, ↓View.readCov_cons_toLoadRect]
  have e := laterMasked256 h 0 0 3072 ho (by omega) (by omega) (by omega) rfl rfl hs (vals256 harg4 x2 3072 inb_S144x4096_S144x256_0_3072)
  dsimp only [keepM, keepA, newM256, next, weigh256, masked256, mask256, colmax256] at e
  dsimp only [k0_pay491, k0_pay492, k0_pay493]
  exact ⟨_, e⟩

theorem step67 (h : Finite x0 x1) : ∃ m, St x0 x1 x2 3328 3584 m (arg13.view.readCov (sl.HS3_72 (F := Ideal) c arg2 harg2 arg3 harg3 arg4 harg4 arg10 arg11 arg12 arg13 x0 x1 x2)
      (Rect.unit (s := S144x1024) ![0, 256] S144x256.size inb_S144x1024_S144x256_0_256).toLoadRect) := by
  have hs : Scores x0 x1 3328 3072 (sl.v_1 (F := Ideal) c arg2 harg2 arg3 harg3 arg10 x0 x1) := by
    simp (disch := decide) only [sl.v_1, sl.HS0_72, sl.HS0_70, ↓View.readCov_skip, ↓View.readCov_cons_toLoadRect]
    exact scores512 (rows256 harg2 x0 3328 inb_S4096x256_S256x256_3328_0) (rows512 harg3 x1 3072 inb_S4096x256_S512x256_3072_0)
  have ho : St x0 x1 x2 3328 3072 (sl.v2433 (F := Ideal) c arg2 harg2 arg3 harg3 arg10 arg11 arg12 x0 x1) (sl.v2440 (F := Ideal) c arg2 harg2 arg3 harg3 arg4 harg4 arg10 arg11 arg12 arg13 x0 x1 x2) := step63 h
  simp (disch := decide) only [sl.HS3_72, sl.HS3_71, sl.HS3_70, sl.HS3_69, sl.HS3_68, ↓View.readCov_skip, ↓View.readCov_cons_toLoadRect]
  have e := laterMasked512 h 0 256 3072 ho (by omega) (by omega) (by omega) rfl rfl hs (vals512 harg4 x2 3072 inb_S144x4096_S144x512_0_3072)
  dsimp only [keepM, keepA, newM512, next, weigh512, masked512, mask512, colmax512] at e
  dsimp only [k0_pay495, k0_pay496, k0_pay497]
  exact ⟨_, e⟩

theorem step68 (h : Finite x0 x1) : St x0 x1 x2 3584 3584 (sl.v2514 (F := Ideal) c arg2 harg2 arg3 harg3 arg10 arg11 arg12 x0 x1) (sl.v2521 (F := Ideal) c arg2 harg2 arg3 harg3 arg4 harg4 arg10 arg11 arg12 arg13 x0 x1 x2) := by
  have hs : Scores x0 x1 3584 3072 (sl.v2452 (F := Ideal) c arg2 harg2 arg3 harg3 arg10 x0 x1) := by
    simp (disch := decide) only [sl.v2452, sl.HS0_72, sl.HS0_70, ↓View.readCov_skip, ↓View.readCov_cons_toLoadRect]
    exact scores512 (rows256 harg2 x0 3584 inb_S4096x256_S256x256_3584_0) (rows512 harg3 x1 3072 inb_S4096x256_S512x256_3072_0)
  have hm : Maxes x0 x1 3584 3072 (sl.v2454 (F := Ideal) c arg2 harg2 arg3 harg3 arg11 x0 x1) := by
    simp (disch := decide) only [sl.v2454, sl.HS1_72, sl.HS1_71, sl.HS1_70, ↓View.readCov_skip, ↓View.readCov_cons_toLoadRect]
    exact maxes (rows256 harg2 x0 3584 inb_S4096x256_S256x256_3584_0) (rows512 harg3 x1 3072 inb_S4096x256_S512x256_3072_0)
  have ho : St x0 x1 x2 3584 3072 (sl.v2457 (F := Ideal) c arg2 harg2 arg3 harg3 arg10 arg11 arg12 x0 x1) (sl.v2464 (F := Ideal) c arg2 harg2 arg3 harg3 arg4 harg4 arg10 arg11 arg12 arg13 x0 x1 x2) := step64 h
  simp (disch := decide) only [sl.v2514, sl.v2521, sl.HS3_70, sl.HS3_69, sl.HS2_70, sl.HS2_69, ↓View.readCov_skip, ↓View.readCov_cons_toLoadRect]
  have e := later h ho (by omega) (by omega) hs hm (vals512 harg4 x2 3072 inb_S144x4096_S144x512_0_3072)
  dsimp only [k0_pay107, k0_pay106, k0_pay105] at e
  dsimp only [sl.r_96, sl.r_97, k0_pay499, k0_pay500, k0_pay501, k0_pay502, k0_pay503]
  exact e

theorem step69 (h : Finite x0 x1) : St x0 x1 x2 3840 3584 (sl.v2547 (F := Ideal) c arg2 harg2 arg3 harg3 arg10 arg11 arg12 x0 x1) (sl.v2554 (F := Ideal) c arg2 harg2 arg3 harg3 arg4 harg4 arg10 arg11 arg12 arg13 x0 x1 x2) := by
  have hs : Scores x0 x1 3840 3072 (sl.v2476 (F := Ideal) c arg2 harg2 arg3 harg3 arg10 x0 x1) := by
    simp (disch := decide) only [sl.v2476, sl.HS0_72, sl.HS0_70, ↓View.readCov_skip, ↓View.readCov_cons_toLoadRect]
    have e := scores512 (rows256 harg2 x0 3840 inb_S4096x256_S256x256_3840_0) (rows512 harg3 x1 3072 inb_S4096x256_S512x256_3072_0)
    dsimp only [k0_pay8, k0_pay7] at e
    dsimp only [k0_pay465, k0_pay466, sl.r_87]
    exact e
  have hm : Maxes x0 x1 3840 3072 (sl.v2478 (F := Ideal) c arg2 harg2 arg3 harg3 arg11 x0 x1) := by
    simp (disch := decide) only [sl.v2478, sl.HS1_72, sl.HS1_71, sl.HS1_70, ↓View.readCov_skip, ↓View.readCov_cons_toLoadRect]
    have e := maxes (rows256 harg2 x0 3840 inb_S4096x256_S256x256_3840_0) (rows512 harg3 x1 3072 inb_S4096x256_S512x256_3072_0)
    dsimp only [k0_pay13, k0_pay11] at e
    dsimp only [k0_pay465, k0_pay467, sl.r_87]
    exact e
  have ho : St x0 x1 x2 3840 3072 (sl.v2481 (F := Ideal) c arg2 harg2 arg3 harg3 arg10 arg11 arg12 x0 x1) (sl.v2488 (F := Ideal) c arg2 harg2 arg3 harg3 arg4 harg4 arg10 arg11 arg12 arg13 x0 x1 x2) := step65 h
  simp (disch := decide) only [sl.v2547, sl.v2554, sl.HS3_71, sl.HS3_70, sl.HS2_71, sl.HS2_70, ↓View.readCov_skip, ↓View.readCov_cons_toLoadRect]
  have e := later h ho (by omega) (by omega) hs hm (vals512 harg4 x2 3072 inb_S144x4096_S144x512_0_3072)
  dsimp only [k0_pay107, k0_pay106, k0_pay105] at e
  dsimp only [sl.r_100, sl.r_101, sl.r_98, sl.r_99, k0_pay504, k0_pay505, k0_pay506, k0_pay507, k0_pay508]
  exact e

theorem step70 (h : Finite x0 x1) : ∃ m, St x0 x1 x2 3584 3840 m (arg13.view.readCov (sl.HS3_72 (F := Ideal) c arg2 harg2 arg3 harg3 arg4 harg4 arg10 arg11 arg12 arg13 x0 x1 x2)
      (Rect.unit (s := S144x1024) ![0, 512] S144x256.size inb_S144x1024_S144x256_0_512).toLoadRect) := by
  have hs : Scores x0 x1 3584 3584 (sl.v2500 (F := Ideal) c arg2 harg2 arg3 harg3 arg10 x0 x1) := by
    simp (disch := decide) only [sl.v2500, sl.HS0_72, ↓View.readCov_skip, ↓View.readCov_cons_toLoadRect]
    have e := scores256 (rows256 harg2 x0 3584 inb_S4096x256_S256x256_3584_0) (rows256 harg3 x1 3584 inb_S4096x256_S256x256_3584_0)
    dsimp only [k0_pay5, k0_pay4] at e
    dsimp only [k0_pay484, k0_pay485]
    exact e
  have ho : St x0 x1 x2 3584 3584 (sl.v2514 (F := Ideal) c arg2 harg2 arg3 harg3 arg10 arg11 arg12 x0 x1) (sl.v2521 (F := Ideal) c arg2 harg2 arg3 harg3 arg4 harg4 arg10 arg11 arg12 arg13 x0 x1 x2) := step68 h
  simp (disch := decide) only [sl.HS3_72, sl.HS3_71, ↓View.readCov_skip, ↓View.readCov_cons_toLoadRect]
  have e := laterMasked256 h 512 512 3072 ho (by omega) (by omega) (by omega) rfl rfl hs (vals256 harg4 x2 3584 inb_S144x4096_S144x256_0_3584)
  dsimp only [keepM, keepA, newM256, next, weigh256, masked256, mask256, colmax256] at e
  dsimp only [sl.r_103, k0_pay509, k0_pay510, k0_pay511, k0_pay512]
  exact ⟨_, e⟩

theorem step71 (h : Finite x0 x1) : ∃ m, St x0 x1 x2 3840 4096 m (arg13.view.readCov (sl.HS3_72 (F := Ideal) c arg2 harg2 arg3 harg3 arg4 harg4 arg10 arg11 arg12 arg13 x0 x1 x2)
      (Rect.unit (s := S144x1024) ![0, 768] S144x256.size inb_S144x1024_S144x256_0_768).toLoadRect) := by
  have hs : Scores x0 x1 3840 3584 (sl.v2533 (F := Ideal) c arg2 harg2 arg3 harg3 arg10 x0 x1) := by
    simp (disch := decide) only [sl.v2533, sl.HS0_72, ↓View.readCov_skip, ↓View.readCov_cons_toLoadRect]
    have e := scores512 (rows256 harg2 x0 3840 inb_S4096x256_S256x256_3840_0) (rows512 harg3 x1 3584 inb_S4096x256_S512x256_3584_0)
    dsimp only [k0_pay8, k0_pay7] at e
    dsimp only [k0_pay487, k0_pay488]
    exact e
  have ho : St x0 x1 x2 3840 3584 (sl.v2547 (F := Ideal) c arg2 harg2 arg3 harg3 arg10 arg11 arg12 x0 x1) (sl.v2554 (F := Ideal) c arg2 harg2 arg3 harg3 arg4 harg4 arg10 arg11 arg12 arg13 x0 x1 x2) := step69 h
  simp (disch := decide) only [sl.HS3_72, ↓View.readCov_skip, ↓View.readCov_cons_toLoadRect]
  have e := laterMasked512 h 512 768 3072 ho (by omega) (by omega) (by omega) rfl rfl hs (vals512 harg4 x2 3584 inb_S144x4096_S144x512_0_3584)
  dsimp only [keepM, keepA, newM512, next, weigh512, masked512, mask512, colmax512] at e
  dsimp only [k0_pay514, k0_pay515, k0_pay516]
  exact ⟨_, e⟩

end Cert.Attn
-- ==== Proof.OutBlock.lean ====
/-
  What the attention body leaves in its three output blocks: the quotient of the weighted values by the sum of weights
  for every query, and the two operands it only converts.
-/
module

public import proofs.«01_k».proof.Proof.TilesA
public import proofs.«01_k».proof.Proof.TilesB

@[expose] public section

set_option maxRecDepth 16384

noncomputable section

open Idealize.ShloMosaic Idealize.ShloMosaic.TcCoe Idealize.SL.Sem

namespace Cert.Attn

open Cert.KernelIdeal Cert.KernelIdeal.Gen Cert.KernelIdeal.Gen.kernelRun0_A

/-- Row `r` of the values weighted over all 4096 keys for query `i`. -/
def row (x0 x1 : Vec Ideal S4096x256 .bf16) (x2 : Vec Ideal S144x4096 .bf16) (i : ℕ) (r : Fin 144) : EReal :=
  Flash.wt (fs x0 x1 i) (vl x2 r) (Flash.mx (fs x0 x1 i) 4096) 4096

/-- One output: the weighted values over the weighted ones (row 128). -/
def quot (x0 x1 : Vec Ideal S4096x256 .bf16) (x2 : Vec Ideal S144x4096 .bf16) (i : ℕ) (d : Fin 128) : EReal :=
  Ideal.div (row x0 x1 x2 i ⟨d, by omega⟩) (row x0 x1 x2 i 128)

section

variable {x0 x1 : Vec Ideal S4096x256 .bf16} {x2 : Vec Ideal S144x4096 .bf16}

/-- After the keys up to the group's last query the accumulator is the whole sum: later keys are masked. -/
theorem St.row {q0 N : ℕ} {m : FVec Ideal S1x256 .f32} {acc : FVec Ideal S144x256 .f32} (h : St x0 x1 x2 q0 N m acc) (hN : q0 + 256 ≤ N)
    (hN' : N ≤ 4096) (r : Fin 144) (j : Fin 256) : acc (ix2 r j) = row x0 x1 x2 (q0 + j) r := by
  have hf : ∀ k, N ≤ k → fs x0 x1 (q0 + j) k = ⊥ := fun k hk => if_neg (by omega)
  have e1 := Flash.mx_tail _ N (4096 - N) hf
  have e2 := Flash.wt_tail _ (vl x2 r) (Flash.mx (fs x0 x1 (q0 + j)) N) N (4096 - N) hf
  rw [Nat.add_sub_cancel' hN'] at e1 e2
  rw [h.wt, Attn.row, e1, e2]

/-- The whole accumulator read at a column is its group of 256 columns read there. -/
theorem read_col {a : Memref sig .tc .vmem S144x1024 .f32} {L : List (View.Piece (Elt Ideal) S144x1024 .f32)} (o : ℕ)
    (inb : ∀ b, (![0, o] : Fin 2 → Nat) b + S144x256.size b ≤ S144x1024.size b) (r : Fin 144) (i : Fin 256) (j : Fin 1024) (e : j.val = o + i.val) :
    a.view.readCov L (Rect.unit (s := S144x1024) ![0, 0] S144x1024.size inb_S144x1024_S144x1024_0_0).toLoadRect (ix2 r j)
      = a.view.readCov L (Rect.unit (s := S144x1024) ![0, o] S144x256.size inb).toLoadRect (ix2 r i) := by
  rw [View.readCov_eq_canon', View.readCov_eq_canon']
  refine congrArg (View.canon L) (funext fun b => ?_)
  fin_cases b
  · exact Fin.ext (by simp)
  · exact Fin.ext (by simp; omega)

/-- The whole accumulator of a query tile. -/
theorem full {a : Memref sig .tc .vmem S144x1024 .f32} {L : List (View.Piece (Elt Ideal) S144x1024 .f32)} (b : ℕ) (hb : b + 1024 ≤ 4096)
    (h0 : ∃ m, St x0 x1 x2 b (b + 256) m (a.view.readCov L (Rect.unit (s := S144x1024) ![0, 0] S144x256.size inb_S144x1024_S144x256_0_0).toLoadRect))
    (h1 : ∃ m, St x0 x1 x2 (b + 256) (b + 512) m
      (a.view.readCov L (Rect.unit (s := S144x1024) ![0, 256] S144x256.size inb_S144x1024_S144x256_0_256).toLoadRect))
    (h2 : ∃ m, St x0 x1 x2 (b + 512) (b + 768) m
      (a.view.readCov L (Rect.unit (s := S144x1024) ![0, 512] S144x256.size inb_S144x1024_S144x256_0_512).toLoadRect))
    (h3 : ∃ m, St x0 x1 x2 (b + 768) (b + 1024) m
      (a.view.readCov L (Rect.unit (s := S144x1024) ![0, 768] S144x256.size inb_S144x1024_S144x256_0_768).toLoadRect))
    (r : Fin 144) (j : Fin 1024) :
    a.view.readCov L (Rect.unit (s := S144x1024) ![0, 0] S144x1024.size inb_S144x1024_S144x1024_0_0).toLoadRect (ix2 r j) = row x0 x1 x2 (b + j) r := by
  obtain ⟨_, h0⟩ := h0
  obtain ⟨_, h1⟩ := h1
  obtain ⟨_, h2⟩ := h2
  obtain ⟨_, h3⟩ := h3
  by_cases c3 : 768 ≤ j.val
  · rw [read_col 768 inb_S144x1024_S144x256_0_768 r ⟨j - 768, by omega⟩ j (by simp; omega), h3.row (by omega) (by omega)]
    exact congrArg (row x0 x1 x2 · r) (by simp; omega)
  by_cases c2 : 512 ≤ j.val
  · rw [read_col 512 inb_S144x1024_S144x256_0_512 r ⟨j - 512, by omega⟩ j (by simp; omega), h2.row (by omega) (by omega)]
    exact congrArg (row x0 x1 x2 · r) (by simp; omega)
  by_cases c1 : 256 ≤ j.val
  · rw [read_col 256 inb_S144x1024_S144x256_0_256 r ⟨j - 256, by omega⟩ j (by simp; omega), h1.row (by omega) (by omega)]
    exact congrArg (row x0 x1 x2 · r) (by simp; omega)
  · rw [read_col 0 inb_S144x1024_S144x256_0_0 r ⟨j, by omega⟩ j (by simp), h0.row (by omega) (by omega)]

/-- The stored quotient of a tile's accumulator. -/
theorem quot_apply (b : ℕ) (V : Vec Ideal S144x1024 .f32) (hV : ∀ (r : Fin 144) (j : Fin 1024), V (ix2 r j) = row x0 x1 x2 (b + j) r)
    (j : Fin 1024) (d : Fin 128) : k0_pay67 (F := Ideal) V (ix2 j d) = quot x0 x1 x2 (b + j) d := by
  have e : k0_pay67 (F := Ideal) V (ix2 j d) = Ideal.div (V (ix2 ⟨d, by omega⟩ j)) (V (ix2 128 j)) := by
    unfold k0_pay67
    pointwise
  rw [e, hV, hV]
  rfl

end

section

variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S144x4096 .bf16) (harg4 : arg4.IsWhole) (arg5 : Memref sig .tc .vmem S64x4096 .f32) (harg5 : arg5.IsWhole) (arg6 : Memref sig .tc .vmem S64x4096 .f32) (harg6 : arg6.IsWhole) (arg7 : Memref sig .tc .vmem S4096x128 .bf16) (harg7 : arg7.IsWhole) (arg8 : Memref sig .tc .vmem S64x4096 .bf16) (harg8 : arg8.IsWhole) (arg9 : Memref sig .tc .vmem S64x4096 .bf16) (harg9 : arg9.IsWhole) (arg10 : Memref sig .tc .vmem S2x512x1024 .f32) (harg10 : arg10.IsWhole) (arg11 : Memref sig .tc .vmem S2x1x1024 .f32) (harg11 : arg11.IsWhole) (arg12 : Memref sig .tc .vmem S1x1024 .f32) (harg12 : arg12.IsWhole) (arg13 : Memref sig .tc .vmem S144x1024 .f32) (harg13 : arg13.IsWhole)
    (x0 : Vec Ideal S4096x256 .bf16) (x1 : Vec Ideal S4096x256 .bf16) (x2 : Vec Ideal S144x4096 .bf16) (x3 : Vec Ideal S64x4096 .f32) (x4 : Vec Ideal S64x4096 .f32)

/-- A tile's stored block is a block of the quotients. -/
theorem block (b : ℕ) (inb : ∀ a, (![b, 0] : Fin 2 → Nat) a + S1024x128.size a ≤ S4096x128.size a) (V : Vec Ideal S144x1024 .f32)
    (hV : ∀ (r : Fin 144) (j : Fin 1024), V (ix2 r j) = row x0 x1 x2 (b + j) r) (x : S1024x128.Idx) :
    k0_pay67 (F := Ideal) V x
      = (fun y : S4096x128.Idx => quot x0 x1 x2 (y 0).val (y 1)) ((Rect.unit (s := S4096x128) ![b, 0] S1024x128.size inb).emb x) := by
  obtain ⟨j, d, rfl⟩ : ∃ (j : Fin 1024) (d : Fin 128), x = ix2 j d := ⟨x 0, x 1, by funext a; fin_cases a <;> rfl⟩
  rw [quot_apply b V hV]
  show quot _ _ _ _ _ = quot _ _ _ _ _
  congr 1
  · show _ = ((Rect.unit (s := S4096x128) ![b, 0] S1024x128.size inb).idx (ix2 j d) 0).val
    simp
  · show _ = (Rect.unit (s := S4096x128) ![b, 0] S1024x128.size inb).idx (ix2 j d) 1
    exact Fin.ext (by simp)

theorem out5 (h : Finite x0 x1) :
    out0_A_5 (F := Ideal) c i arg2 harg2 arg3 harg3 arg4 harg4 arg5 harg5 arg6 harg6 arg7 harg7 arg8 harg8 arg9 harg9 arg10 harg10 arg11 harg11 arg12 harg12 arg13 harg13 x0 x1 x2 x3 x4
      = fun y => quot x0 x1 x2 (y 0).val (y 1) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 x0 x1 x2 x3 x4)]
  funext y
  refine View.canon_apply_of_pieces (fun y : S4096x128.Idx => quot x0 x1 x2 (y 0).val (y 1)) _ ?_ y
    (cover0_A_5 c i arg2 harg2 arg3 harg3 arg4 harg4 arg5 harg5 arg6 harg6 arg7 harg7 arg8 harg8 arg9 harg9 arg10 harg10 arg11 harg11 arg12 harg12 arg13 harg13 x0 x1 x2 x3 x4 y)
  unfold kernelRun0_A
  dsimp only
  refine View.PiecesOf.mem (Val := Elt Ideal) (s := S4096x128) (e := .bf16) (G := fun y : S4096x128.Idx => quot x0 x1 x2 (y 0).val (y 1)) ?_
  refine ⟨?_, ?_, ?_, ?_, trivial⟩
  · exact block x0 x1 x2 3072 inb_S4096x128_S1024x128_3072_0 _ (full 3072 (by omega) (step66 h) (step67 h) (step70 h) (step71 h))
  · exact block x0 x1 x2 2048 inb_S4096x128_S1024x128_2048_0 _ (full 2048 (by omega) (step36 h) (step37 h) (step40 h) (step41 h))
  · exact block x0 x1 x2 1024 inb_S4096x128_S1024x128_1024_0 _ (full 1024 (by omega) (step14 h) (step15 h) (step18 h) (step19 h))
  · exact block x0 x1 x2 0 inb_S4096x128_S1024x128_0_0 _ (full 0 (by omega) (step0 h) (step1 h) (step4 h) (step5 h))

theorem out6 :
    out0_A_6 (F := Ideal) c i arg2 harg2 arg3 harg3 arg4 harg4 arg5 harg5 arg6 harg6 arg7 harg7 arg8 harg8 arg9 harg9 arg10 harg10 arg11 harg11 arg12 harg12 arg13 harg13 x0 x1 x2 x3 x4
      = x3 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 x0 x1 x2 x3 x4)]
  unfold kernelRun0_A
  dsimp only
  rw [View.canon_cons_unit_lit _ _ _ (by decide)]
  refine funext fun y => ?_
  show View.readAt (Elt Ideal) arg5.view (Rect.unit (s := S64x4096) ![0, 0] S64x4096.size inb_S64x4096_S64x4096_0_0).toLoadRect (harg5.unread x3) y = x3 y
  rw [View.readAt_eq_ld, harg5.read_unread]
  refine congrArg x3 (funext fun b => ?_)
  fin_cases b <;> exact Fin.ext (by simp)

theorem out7 :
    out0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4
      = x4 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 x0 x1 x2 x3 x4)]
  unfold kernelRun0_A
  dsimp only
  rw [View.canon_cons_unit_lit _ _ _ (by decide)]
  refine funext fun y => ?_
  show View.readAt (Elt Ideal) arg6.view (Rect.unit (s := S64x4096) ![0, 0] S64x4096.size inb_S64x4096_S64x4096_0_0).toLoadRect (harg6.unread x4) y = x4 y
  rw [View.readAt_eq_ld, harg6.read_unread]
  refine congrArg x4 (funext fun b => ?_)
  fin_cases b <;> exact Fin.ext (by simp)

end

end Cert.Attn
-- ==== Proof.Arrays.lean ====
/-
  The three arrays the attention call leaves, as functions of its argument arrays: block by block the windows place each
  grid point's output, point (batch, head) reading that batch's queries and keys and that head's values.
-/
module

public import proofs.«01_k».proof.Proof.OutBlock
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.Attn

open Cert.KernelIdeal Cert.KernelIdeal.Gen

/-- The queries (or keys) of batch `b` and head `h`. -/
def headOf (X : Vec Ideal S16384x4096 .bf16) (b h : ℕ) : Vec Ideal S4096x256 .bf16 :=
  fun y => X (ix2 (Fin.ofNat 16384 (b * 4096 + (y 0).val)) (Fin.ofNat 4096 (h * 256 + (y 1).val)))

/-- The transposed values of batch `b` and head `h`, with their row of ones and padding. -/
def valsOf (X : Vec Ideal S2304x16384 .bf16) (b h : ℕ) : Vec Ideal S144x4096 .bf16 :=
  fun y => X (ix2 (Fin.ofNat 2304 (h * 144 + (y 0).val)) (Fin.ofNat 16384 (b * 4096 + (y 1).val)))

/-- The attention's result: row `4096·batch + query`, column `128·head + feature`. -/
def attn (q k : Vec Ideal S16384x4096 .bf16) (v : Vec Ideal S2304x16384 .bf16) : Vec Ideal S16384x2048 .bf16 :=
  fun y => quot (headOf q ((y 0).val / 4096) ((y 1).val / 128)) (headOf k ((y 0).val / 4096) ((y 1).val / 128))
    (valsOf v ((y 0).val / 4096) ((y 1).val / 128)) ((y 0).val % 4096) (Fin.ofNat 128 (y 1).val)

variable (m : (ℓ : Loc nD τ sig) → Buf (Elt Ideal) ℓ)

/-- Grid point `t` is batch `t / 16`, head `t % 16`. -/
def bt (t : Fin cfg0.N) : ℕ := (grid0.coords t 0).val
def hd (t : Fin cfg0.N) : ℕ := (grid0.coords t 1).val

theorem bt_lt (t : Fin cfg0.N) : bt t < 4 := (grid0.coords t 0).isLt
theorem hd_lt (t : Fin cfg0.N) : hd t < 16 := (grid0.coords t 1).isLt

theorem idx0 : ∀ t : Fin cfg0.N, win0_0.index t = ![bt t, hd t] := (by decide +kernel : ∀ t : Fin grid0.N, _)
theorem idx1 : ∀ t : Fin cfg0.N, win0_1.index t = ![bt t, hd t] := (by decide +kernel : ∀ t : Fin grid0.N, _)
theorem idx2 : ∀ t : Fin cfg0.N, win0_2.index t = ![hd t, bt t] := (by decide +kernel : ∀ t : Fin grid0.N, _)
theorem idx3 : ∀ t : Fin cfg0.N, win0_3.index t = ![bt t * 16 + hd t, 0] := (by decide +kernel : ∀ t : Fin grid0.N, _)
theorem idx4 : ∀ t : Fin cfg0.N, win0_4.index t = ![bt t * 16 + hd t, 0] := (by decide +kernel : ∀ t : Fin grid0.N, _)
theorem idx5 : ∀ t : Fin cfg0.N, win0_5.index t = ![bt t, hd t] := (by decide +kernel : ∀ t : Fin grid0.N, _)
theorem idx6 : ∀ t : Fin cfg0.N, win0_6.index t = ![bt t * 16 + hd t, 0] := (by decide +kernel : ∀ t : Fin grid0.N, _)
theorem idx7 : ∀ t : Fin cfg0.N, win0_7.index t = ![bt t * 16 + hd t, 0] := (by decide +kernel : ∀ t : Fin grid0.N, _)

theorem iblk0 (c : Dev nD) (t : Fin cfg0.N) : iblk m c 0 t = headOf (m ((c : Thread nD τ).loc main_arg0)) (bt t) (hd t) := by
  have := bt_lt t
  have := hd_lt t
  funext y
  blk_simp [iblk, V_main_arg0, headOf]
  congr 1
  blk_ext [idx0 t, Fin.val_ofNat]

theorem iblk1 (c : Dev nD) (t : Fin cfg0.N) : iblk m c 1 t = headOf (m ((c : Thread nD τ).loc main_arg1)) (bt t) (hd t) := by
  have := bt_lt t
  have := hd_lt t
  funext y
  blk_simp [iblk, V_main_arg1, headOf]
  congr 1
  blk_ext [idx1 t, Fin.val_ofNat]

theorem iblk2 (c : Dev nD) (t : Fin cfg0.N) : iblk m c 2 t = valsOf (m ((c : Thread nD τ).loc main_arg2)) (bt t) (hd t) := by
  have := bt_lt t
  have := hd_lt t
  funext y
  blk_simp [iblk, V_main_arg2, valsOf]
  congr 1
  blk_ext [idx2 t, Fin.val_ofNat]

/-- Every head's scores are real. -/
def AllFinite (q k : Vec Ideal S16384x4096 .bf16) : Prop := ∀ b h, Finite (headOf q b h) (headOf k b h)

theorem final5 (c : Dev nD) (h : AllFinite (m ((c : Thread nD τ).loc main_arg0)) (m ((c : Thread nD τ).loc main_arg1))) :
    (dats m 0 c).arrAt 5 cfg0.N
      = attn (m ((c : Thread nD τ).loc main_arg0)) (m ((c : Thread nD τ).loc main_arg1)) (m ((c : Thread nD τ).loc main_arg2)) := by
  refine (dats m 0 c).arrAt_eq_of_covers 5 _ (by decide +kernel) fun t hf y => ?_
  have hb := bt_lt t
  have hh := hd_lt t
  blk_simp
  rw [after0_5]
  unfold outsAt0
  dsimp only
  rw [iblk0, iblk1, iblk2, out5 _ _ _ _ _ _ _ _ _ _ _ _ _ _ _ _ _ _ _ _ _ _ _ _ _ _ _ _ _ _ _ (h _ _)]
  have e0 : ((win0_5.blk t).view.emb y 0 : ℕ) = bt t * 4096 + (y 0).val := by blk_simp [idx5 t]
  have e1 : ((win0_5.blk t).view.emb y 1 : ℕ) = hd t * 128 + (y 1).val := by blk_simp [idx5 t]
  unfold attn
  have y0 : (y 0).val < 4096 := (y 0).isLt
  have y1 : (y 1).val < 128 := (y 1).isLt
  rw [e0, e1, show (bt t * 4096 + (y 0).val) / 4096 = bt t by omega, show (hd t * 128 + (y 1).val) / 128 = hd t by omega,
    show (bt t * 4096 + (y 0).val) % 4096 = (y 0).val by omega]
  exact congrArg (quot _ _ _ _) (Fin.ext (by rw [Fin.val_ofNat]; omega))

theorem final6 (c : Dev nD) : (dats m 0 c).arrAt 6 cfg0.N = m ((c : Thread nD τ).loc main_arg3) := by
  refine (dats m 0 c).arrAt_eq_of_covers 6 _ (by decide +kernel) fun t hf y => ?_
  blk_simp
  rw [after0_6]
  unfold outsAt0
  dsimp only
  rw [out6]
  blk_simp [iblk, V_main_arg3]
  congr 1
  blk_ext [idx3 t, idx6 t]

theorem final7 (c : Dev nD) : (dats m 0 c).arrAt 7 cfg0.N = m ((c : Thread nD τ).loc main_arg4) := by
  refine (dats m 0 c).arrAt_eq_of_covers 7 _ (by decide +kernel) fun t hf y => ?_
  blk_simp
  rw [after0_7]
  unfold outsAt0
  dsimp only
  rw [out7]
  blk_simp [iblk, V_main_arg4]
  congr 1
  blk_ext [idx4 t, idx7 t]

end Cert.Attn
-- ==== Proof.Reference.lean ====
/-
  The reference's results, read at an index at the ideal values: the softmax average of the values, equal to the
  attention call's result wherever the scores are real and the row of ones holds ones.
-/
module

public import proofs.«01_k».proof.Proof.Arrays
public import proofs.«01_k».proof.Proof.Gen.ReferenceIdeal.Read
public import Idealize.ShloMosaic.Lib.KernelVsHost

@[expose] public section

set_option maxRecDepth 16384

noncomputable section

open Idealize.ShloMosaic Idealize.ShloMosaic.TcCoe Idealize.SL.Sem

namespace Cert.Attn

open Cert.ReferenceIdeal Cert.ReferenceIdeal.Gen Cert.ReferenceIdeal.Read

variable (q k : Vec Ideal S16384x4096 .bf16) (v : Vec Ideal S2304x16384 .bf16)

/-- The natural logarithm the reference scales its scores by. -/
def ln2 : EReal := (Real.log 2 : ℝ)

theorem log_two : (FloatOps.hostUnary (F := Ideal) (φ := .f32) .log (FloatOps.ofBits .f32 0x40000000#32) : EReal) = ln2 := by
  have : (FloatOps.ofBits (F := Ideal) .f32 0x40000000#32 : EReal) = ((2 : ℝ) : EReal) := by
    show Ideal.ofBits .f32 0x40000000#32 = _
    simp [Ideal.ofBits, Ideal.ieee]
    rw [← EReal.coe_mul]
    norm_num
  rw [this]
  show (if (2 : ℝ) ≤ 0 then (⊥ : EReal) else (Real.log 2 : ℝ)) = _
  rw [if_neg (by norm_num)]
  rfl

/-- A query read through the reference's reshape. -/
theorem query_at (j : S4x4096x16x256.Idx) : (val_main_v1 (F := Ideal) q j : EReal)
    = headOf q (j 0).val (j 2).val (ix2 (Fin.ofNat 4096 (j 1).val) (j 3)) := by
  rw [val_main_v1_apply, val_main_v0_apply]
  have h0 : (j 0).val < 4 := (j 0).isLt
  have h1 : (j 1).val < 4096 := (j 1).isLt
  have h2 : (j 2).val < 16 := (j 2).isLt
  have h3 : (j 3).val < 256 := (j 3).isLt
  show q _ = q _
  congr 1
  funext a
  fin_cases a
  · refine Fin.ext ?_
    show _ = ((j 0).val * 4096 + (j 1).val % 4096) % 16384
    show ((((j 0).val * 4096 + (j 1).val) * 16 + (j 2).val) * 256 + (j 3).val) / 4096 = _
    omega
  · refine Fin.ext ?_
    show ((((j 0).val * 4096 + (j 1).val) * 16 + (j 2).val) * 256 + (j 3).val) % 4096 = ((j 2).val * 256 + (j 3).val) % 4096
    omega

/-- A value read through the reference's reshape and slice. -/
theorem value_at (j : S16x128x4x4096.Idx) : (val_main_v6 (F := Ideal) v j : EReal)
    = vl (valsOf v (j 2).val (j 0).val) ⟨(j 1).val, by have h1 : (j 1).val < 128 := (j 1).isLt; omega⟩ (j 3).val := by
  rw [val_main_v6_apply, val_main_v5_apply, val_main_v4_apply]
  have h0 : (j 0).val < 16 := (j 0).isLt
  have h1 : (j 1).val < 128 := (j 1).isLt
  have h2 : (j 2).val < 4 := (j 2).isLt
  have h3 : (j 3).val < 4096 := (j 3).isLt
  show v _ = v _
  congr 1
  funext a
  fin_cases a
  · refine Fin.ext ?_
    show ((((j 0).val * 144 + (j 1).val) * 4 + (j 2).val) * 4096 + (j 3).val) / 16384 = ((j 0).val * 144 + (j 1).val) % 2304
    omega
  · refine Fin.ext ?_
    show ((((j 0).val * 144 + (j 1).val) * 4 + (j 2).val) * 4096 + (j 3).val) % 16384 = ((j 2).val * 4096 + (j 3).val % 4096) % 16384
    omega

theorem sle_word (a b : ℕ) (ha : a < 4096) (hb : b < 4096) (x : EReal) :
    Scalar.select (IntOp.cmpi CmpIPredicate.sle (BitVec.ofNat 32 a) (BitVec.ofNat 32 b)) x (Ideal.ofBits FTy.f32 4286578688#32)
      = if a ≤ b then x else ⊥ := by
  have h3 : BitVec.sle (BitVec.ofNat 32 a) (BitVec.ofNat 32 b) = decide (a ≤ b) := by
    rw [BitVec.sle_eq_decide, BitVec.toInt_eq_toNat_of_lt (by simp only [BitVec.toNat_ofNat]; omega),
      BitVec.toInt_eq_toNat_of_lt (by simp only [BitVec.toNat_ofNat]; omega)]
    simp only [BitVec.toNat_ofNat]
    congr 1
    rw [Nat.mod_eq_of_lt (by omega), Nat.mod_eq_of_lt (by omega)]
    exact propext Int.ofNat_le
  simp only [IntOp.cmpi, h3, Scalar.select]
  have hb := ofBits_bot
  by_cases h : a ≤ b <;> simp [h] <;> exact hb

/-- The scaled, masked score. -/
theorem score_at (j : S4x16x4096x4096.Idx) : (val_main_v17 (F := Ideal) q k j : EReal)
    = fs (headOf q (j 0).val (j 1).val) (headOf k (j 0).val (j 1).val) (j 2).val (j 3).val * ln2 := by
  have h2 : (j 2).val < 4096 := (j 2).isLt
  have h3 : (j 3).val < 4096 := (j 3).isLt
  have hl : (⊥ : EReal) * ln2 = ⊥ := EReal.bot_mul_coe_of_pos (Real.log_pos (by norm_num))
  have e : (val_main_v10 (F := Ideal) q k j : EReal)
      = sc (headOf q (j 0).val (j 1).val) (headOf k (j 0).val (j 1).val) (j 2).val (j 3).val * ln2 := by
    rw [val_main_v10_apply, val_main_v9_apply, val_main_v8_apply, val_main_cst_apply, log_two, val_main_v7_apply]
    show _ * _ = _ * _
    congr 1
    refine Finset.sum_congr rfl fun d _ => ?_
    rw [query_at, show val_main_v3 (F := Ideal) k = val_main_v1 (F := Ideal) k from rfl, query_at, mul_comm]
    rfl
  rw [val_main_v17_apply, val_main_call0_v1_apply, val_main_v16_apply, val_main_v14_apply, val_main_v15_apply, val_main_v12_apply,
    val_main_v13_apply, val_main_v11_apply, val_main_v11_apply, val_main_call0_v2_apply, val_main_call0_v0_apply, val_main_cst_0_apply, e]
  refine (sle_word (j 3).val (j 2).val h3 h2 _).trans ?_
  unfold fs
  by_cases h : (j 3).val ≤ (j 2).val
  · rw [if_pos h, if_pos h]
  · rw [if_neg h, if_neg h, hl]

/-- The maximum over the last axis, from −∞. -/
theorem reduce_max (x : FVec Ideal S4x16x4096x4096 .f32) (hr : S4x16x4096x4096.Reduces [3] S4x16x4096) (j : S4x16x4096.Idx) :
    (Host.reduce (FloatOps.maximumf (F := Ideal) (φ := .f32)) x (constant (F := Ideal) S_ .f32 0xFF800000#32)
      reducesTo_S4x16x4096x4096_S4x16x4096_d3 h_S_ : FVec Ideal S4x16x4096 .f32) j = Finset.univ.sup fun n : Fin 4096 => (x (hr.lift j n) : EReal) := by
  rw [Host.reduce_eq_fold_single _ _ _ _ hr]
  exact fold_sup (n := 4096) fun n => x (hr.lift j n)

/-- The greatest scaled score of a query. -/
theorem max_at (j : S4x16x4096.Idx) : (val_main_v18 (F := Ideal) q k j : EReal)
    = Finset.univ.sup fun n : Fin 4096 =>
        fs (headOf q (j 0).val (j 1).val) (headOf k (j 0).val (j 1).val) (j 2).val n.val * ln2 := by
  have hr : S4x16x4096x4096.Reduces [3] S4x16x4096 := by decide
  unfold val_main_v18 val_main_cst_1
  rw [reduce_max _ hr]
  refine Finset.sup_congr rfl fun n _ => ?_
  refine (score_at q k (hr.lift j n)).trans ?_
  have e0 : (hr.lift j n 0).val = (j 0).val := hr.lift_val j n _
  have e1 : (hr.lift j n 1).val = (j 1).val := hr.lift_val j n _
  have e2 : (hr.lift j n 2).val = (j 2).val := hr.lift_val j n _
  have e3 : (hr.lift j n 3).val = n.val := hr.lift_val j n _
  rw [e0, e1, e2, e3]

/-- One exponential, its score against the greatest. -/
theorem exp_at (j : S4x16x4096x4096.Idx) : (val_main_v24 (F := Ideal) q k j : EReal)
    = Ideal.exp (fs (headOf q (j 0).val (j 1).val) (headOf k (j 0).val (j 1).val) (j 2).val (j 3).val * ln2
        - Finset.univ.sup fun n : Fin 4096 =>
          fs (headOf q (j 0).val (j 1).val) (headOf k (j 0).val (j 1).val) (j 2).val n.val * ln2) := by
  rw [val_main_v24_apply, val_main_v23_apply, val_main_v22_apply, val_main_v21_apply, val_main_v20_apply, val_main_v19_apply,
    val_main_cst_2_apply, score_at, max_at]
  show Ideal.exp (_ - max (Ideal.ofBits .f32 0xFF800000#32) _) = _
  rw [show Ideal.ofBits .f32 0xFF800000#32 = (⊥ : EReal) from ofBits_bot, max_eq_right bot_le]

/-- One weight of the softmax: batch `b`, head `h`, query `i`, key `n`. -/
def weight (b h i n : ℕ) : EReal :=
  Ideal.div (Ideal.exp (fs (headOf q b h) (headOf k b h) i n * ln2
      - Finset.univ.sup fun n : Fin 4096 => fs (headOf q b h) (headOf k b h) i n.val * ln2))
    (∑ n' : Fin 4096, Ideal.exp (fs (headOf q b h) (headOf k b h) i n'.val * ln2
      - Finset.univ.sup fun n : Fin 4096 => fs (headOf q b h) (headOf k b h) i n.val * ln2))

theorem weight_at (j : S4x16x4096x4096.Idx) : (val_main_v30 (F := Ideal) q k j : EReal)
    = weight q k (j 0).val (j 1).val (j 2).val (j 3).val := by
  unfold weight
  rw [val_main_v30_apply, val_main_v29_apply, val_main_v28_apply, val_main_v27_apply, val_main_v26_apply, val_main_v25_apply, exp_at]
  show Ideal.div _ (Ideal.ofBits .f32 0x00000000#32 + _) = _
  rw [show Ideal.ofBits .f32 0x00000000#32 = (0 : EReal) by simp [Ideal.ofBits, Ideal.ieee], zero_add]
  congr 1
  refine Finset.sum_congr rfl fun n _ => ?_
  rw [exp_at]

/-- Where the scores are real and row 128 of every head's values holds ones, the reference's first result is the
    attention's. -/
theorem result (hf : AllFinite q k) (h1 : ∀ b h n, b < 4 → h < 16 → vl (valsOf v b h) 128 n = 1) (y : S16384x2048.Idx) :
    (val_main_v34 (F := Ideal) q k v y : EReal) = attn q k v y := by
  have h0 : (y 0).val < 16384 := (y 0).isLt
  have h2 : (y 1).val < 2048 := (y 1).isLt
  have a0 : ((y 0).val * 2048 + (y 1).val) / 8388608 = (y 0).val / 4096 := by omega
  have a1 : ((y 0).val * 2048 + (y 1).val) / 2048 % 4096 = (y 0).val % 4096 := by omega
  have a2 : ((y 0).val * 2048 + (y 1).val) / 128 % 16 = (y 1).val / 128 := by omega
  have a3 : ((y 0).val * 2048 + (y 1).val) % 128 = (y 1).val % 128 := by omega
  rw [val_main_v34_apply, val_main_v33_apply, val_main_v32_apply, val_main_v31_apply]
  unfold attn quot row
  rw [show vl (valsOf v ((y 0).val / 4096) ((y 1).val / 128)) 128 = fun _ => 1 from funext fun n => h1 _ _ n (by omega) (by omega),
    Flash.softmax _ _ 4096 (by omega)]
  · show (∑ n : Fin 4096, _ : EReal) = _
    refine Finset.sum_congr rfl fun n _ => ?_
    rw [value_at, weight_at]
    show vl (valsOf v (((y 0).val * 2048 + (y 1).val) / 8388608) (((y 0).val * 2048 + (y 1).val) / 128 % 16))
        ⟨((y 0).val * 2048 + (y 1).val) % 128, _⟩ n.val
        * weight q k (((y 0).val * 2048 + (y 1).val) / 8388608) (((y 0).val * 2048 + (y 1).val) / 128 % 16)
          (((y 0).val * 2048 + (y 1).val) / 2048 % 4096) n.val
      = vl (valsOf v ((y 0).val / 4096) ((y 1).val / 128)) ⟨(y 1).val % 128, _⟩ n.val
        * weight q k ((y 0).val / 4096) ((y 1).val / 128) ((y 0).val % 4096) n.val
    simp only [a0, a1, a2, a3]
  · intro n
    unfold fs
    split_ifs
    · exact (hf _ _ _ _).2
    · exact bot_ne_top
  · rw [fs, if_pos (Nat.zero_le _)]
    exact (hf _ _ _ _).1

end Cert.Attn
-- ==== Proof.Pre.lean ====
/-
  What the precondition says of the arrays: every query and key is a real number, so every score is one, and row 128 of
  every head's values holds ones.
-/
module

public import proofs.«01_k».proof.Defs
public import proofs.«01_k».proof.Proof.Arrays
public import Idealize.ShloMosaic.Lib.KernelVsHost

@[expose] public section

set_option maxRecDepth 16384

noncomputable section

open Idealize.ShloMosaic Idealize.ShloMosaic.TcCoe Idealize.SL.Sem

namespace Cert.Attn

open Cert.Pre_queries_keys_finite_ones_row

instance preFacts : Cert.Pre_queries_keys_finite_ones_row.Facts where
  bitsLt_bf16_f32 := by decide
  shapeCasts_S2304x16384_S16x144x16384 := by decide
  slices_S16x144x16384_S16x1x16384_0_128_0 := by decide
  shapeCasts_S16x1x16384_S16x16384 := by decide
  bcast_S_S16384x4096 := by decide
  bcast_S_S16x16384 := by decide

theorem ofBits_top : (Ideal.ofBits .f32 0x7F800000#32 : EReal) = ⊤ := by
  simp [Ideal.ofBits, Ideal.ieee]

theorem ofBits_one : (Ideal.ofBits .f32 0x3F800000#32 : EReal) = 1 := by
  simp [Ideal.ofBits, Ideal.ieee]
  rw [← EReal.coe_mul]
  norm_num

theorem andi_ofBool (p r : Bool) : IntOp.andi (BitVec.ofBool p) (BitVec.ofBool r) = BitVec.ofBool (p && r) := by
  cases p <;> cases r <;> decide

theorem ofBool_one (p : Bool) : (BitVec.ofBool p = 1#1) ↔ p = true := by cases p <;> decide

variable {q k : FVec Ideal S16384x4096 .bf16} {v : FVec Ideal S2304x16384 .bf16} {w w' : FVec Ideal S4096x4096 .f32}

/-- Every query and key lies strictly between the infinities. -/
theorem real_of_pre (h : (fn (F := Ideal) q k v w w').1 = fun _ => 1#1) (i : S16384x4096.Idx) :
    ((q i : EReal) ≠ ⊥ ∧ (q i : EReal) ≠ ⊤) ∧ ((k i : EReal) ≠ ⊥ ∧ (k i : EReal) ≠ ⊤) := by
  have e := congrFun h i
  obtain ⟨a, b, rfl⟩ : ∃ (a : Fin 16384) (b : Fin 4096), i = ix2 a b := ⟨i 0, i 1, by funext a; fin_cases a <;> rfl⟩
  unfold fn at e
  dsimp only at e
  pointwise at e
  rw [show Ideal.ofBits FTy.f32 4286578688#32 = (⊥ : EReal) from ofBits_bot,
    show Ideal.ofBits FTy.f32 2139095040#32 = (⊤ : EReal) from ofBits_top] at e
  simp only [andi_ofBool, ofBool_one, Bool.and_eq_true, decide_eq_true_eq] at e
  obtain ⟨⟨⟨e1, e2⟩, e3⟩, e4⟩ := e
  exact ⟨⟨e1.ne', e2.ne⟩, e3.ne', e4.ne⟩

/-- A sum of products of real numbers is one. -/
theorem sum_real {n : ℕ} (f g : Fin n → EReal) (hf : ∀ i, f i ≠ ⊥ ∧ f i ≠ ⊤) (hg : ∀ i, g i ≠ ⊥ ∧ g i ≠ ⊤) :
    (∑ i, f i * g i) ≠ ⊥ ∧ (∑ i, f i * g i) ≠ ⊤ := by
  have e : ∃ r : ℝ, (∑ i, f i * g i) = (r : EReal) := by
    refine Finset.sum_induction _ (fun x : EReal => ∃ r : ℝ, x = r) ?_ ⟨0, rfl⟩ fun i _ => ?_
    · rintro _ _ ⟨a, rfl⟩ ⟨b, rfl⟩
      exact ⟨a + b, (EReal.coe_add a b).symm⟩
    · exact ⟨(f i).toReal * (g i).toReal, by rw [EReal.coe_mul, EReal.coe_toReal (hf i).2 (hf i).1, EReal.coe_toReal (hg i).2 (hg i).1]⟩
  obtain ⟨r, e⟩ := e
  rw [e]
  exact ⟨EReal.coe_ne_bot _, EReal.coe_ne_top _⟩

theorem finite_of_pre (h : (fn (F := Ideal) q k v w w').1 = fun _ => 1#1) : AllFinite q k := fun _ _ _ _ =>
  sum_real _ _ (fun _ => (real_of_pre h _).2) (fun _ => (real_of_pre h _).1)

/-- Row 128 of every head's values holds ones. -/
theorem ones_of_pre (h : (fn (F := Ideal) q k v w w').2 = fun _ => 1#1) (b hd n : ℕ) (hb : b < 4) (hh : hd < 16) :
    vl (valsOf v b hd) 128 n = 1 := by
  have e := congrFun h (ix2 (Fin.ofNat 16 hd) (Fin.ofNat 16384 (b * 4096 + n % 4096)))
  unfold fn at e
  dsimp only at e
  pointwise at e
  rw [ofBool_one, decide_eq_true_eq] at e
  refine Eq.trans (congrArg v (funext fun a => ?_)) e
  fin_cases a
  · refine Fin.ext ?_
    show (hd * 144 + 128) % 2304 = hd % 16 * 144 + 128
    omega
  · rfl

end Cert.Attn
-- ==== Proof.Claims.lean ====
/- The value claim of the attention, and the frames of its reference. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Reference
public import proofs.«01_k».proof.Proof.Pre
public import Idealize.ShloMosaic.Lib.Claim
public import Idealize.ShloMosaic.Lib.Quiescent

@[expose] public section

set_option maxRecDepth 16384

noncomputable section

namespace Cert.Attn

open Idealize.ShloMosaic Idealize.SL.Sem

/-- The reference runs, keeps its arguments and ends with every counter at zero: it has none. -/
theorem reference_frame : Cert.quiescent_ReferenceIdeal := by
  intro m g _
  exact (θ_run _ _ _).mono (fun r h => ⟨fun c => (h c).2.2.2, sem_eq_zero_of_no_sems (by decide) r.2⟩)
    (Cert.ReferenceIdeal.Value.run m g)

/-- Over the extended reals the attention and its reference leave the same three arrays. -/
theorem algebraic : Cert.algebraic_KernelIdeal_ReferenceIdeal_pre_queries_keys_finite_ones_row := by
  pair_intro
  · run_from Cert.KernelIdeal.Value.run_blocks m g
  · run_from Cert.ReferenceIdeal.Value.run m' g'
    · obtain ⟨e0, e1, e2, -, -⟩ := hagree c
      obtain ⟨p1, p2⟩ := hpre c
      have hf := finite_of_pre p1
      refine (Cert.ReferenceIdeal.Read.val_main_v34_eq m' c).trans ((funext fun y => ?_).trans (final5 m c hf).symm)
      rw [e0, e1, e2]
      exact result _ _ _ hf (fun b hd n hb hh => ones_of_pre p2 b hd n hb hh) y
    · exact (final6 m c).symm
    · exact (final7 m c).symm

end Cert.Attn

end
-- ==== Proof.Scale.lean ====
/-
  The mathematics the products share: the row factor rsqrt(s / 4096 + EPS) of a sum of squares, which is a real number when the sum is
  not negative, so that it moves across the product; and the logistic function written with tanh.
-/
module

public import Idealize.ShloMosaic.PureOps.Ideal
public import Idealize.ShloMosaic.Lib.Pointwise.Index
public import Idealize.ShloMosaic.Lib.Pipeline.Value
public import proofs.«01_k».proof.Proof.Flash

@[expose] public section

noncomputable section

namespace Cert.Scale

open Idealize.ShloMosaic

theorem ofBits_zero : (Ideal.ofBits .f32 0x00000000#32 : EReal) = 0 := by simp [Ideal.ofBits, Ideal.ieee]

theorem ofBits_4096 : (Ideal.ofBits .f32 0x45800000#32 : EReal) = ((4096 : ℝ) : EReal) := by
  simp [Ideal.ofBits, Ideal.ieee]
  rw [← EReal.coe_mul]
  norm_num

theorem ofBits_one : (Ideal.ofBits .f32 0x3F800000#32 : EReal) = 1 := by
  simp [Ideal.ofBits, Ideal.ieee]
  rw [← EReal.coe_mul]
  norm_num

theorem ofBits_half : (Ideal.ofBits .f32 0x3F000000#32 : EReal) = ((1 / 2 : ℝ) : EReal) := by
  simp [Ideal.ofBits, Ideal.ieee]
  rw [← EReal.coe_mul]
  norm_num

theorem ofBits_eps : ∃ e : ℝ, 0 < e ∧ (Ideal.ofBits .f32 0x358637BD#32 : EReal) = e := by
  refine ⟨_, ?_, by simp [Ideal.ofBits, Ideal.ieee]; rw [← EReal.coe_mul]⟩
  norm_num

/-- The factor a row's sum of squares gives. -/
def row (s : EReal) : EReal := Ideal.rsqrt (Ideal.div s (Ideal.ofBits .f32 0x45800000#32) + Ideal.ofBits .f32 0x358637BD#32)

theorem row_real {s : EReal} (h : 0 ≤ s) : ∃ r : ℝ, 0 ≤ r ∧ row s = r := by
  obtain ⟨e, he, e1⟩ := ofBits_eps
  unfold row
  rw [ofBits_4096, e1]
  have hd : ∀ x : EReal, Ideal.div x ((4096 : ℝ) : EReal) = x * ((4096⁻¹ : ℝ) : EReal) := fun x => by
    unfold Ideal.div
    rw [if_neg (by exact_mod_cast (by norm_num : (4096 : ℝ) ≠ 0)), ← EReal.coe_inv]
  rw [hd]
  induction s with
  | bot => exact absurd h (by simp)
  | top =>
    rw [EReal.top_mul_coe_of_pos (by norm_num), EReal.top_add_coe, Ideal.rsqrt_top]
    exact ⟨0, le_rfl, by simp⟩
  | coe x =>
    have hx : 0 ≤ x := by exact_mod_cast h
    rw [← EReal.coe_mul, ← EReal.coe_add, Ideal.rsqrt_coe]
    have hp : 0 < x * 4096⁻¹ + e := by positivity
    rw [if_neg hp.le.not_gt, if_neg hp.ne']
    exact ⟨_, inv_nonneg.2 (Real.sqrt_nonneg _), rfl⟩

/-- Scaling a row before the product is scaling the product after. -/
theorem row_sum {ι : Type} [Fintype ι] {s : EReal} (h : 0 ≤ s) (a w : ι → EReal) :
    ∑ k, a k * row s * w k = (∑ k, a k * w k) * row s := by
  obtain ⟨r, hr, e⟩ := row_real h
  rw [e, mul_comm _ (r : EReal), Flash.coe_mul_sum r hr]
  exact Finset.sum_congr rfl fun k _ => by rw [mul_comm (a k) (r : EReal), mul_assoc]

theorem ofBool_one {p : Prop} [Decidable p] : (BitVec.ofBool (decide p) = 1#1) ↔ p := by
  by_cases h : p <;> simp [h]

theorem exists_ix2 {p q : ℕ} (y : (⟨2, ![p, q]⟩ : Shape).Idx) : ∃ (i : Fin p) (j : Fin q), y = ix2 i j :=
  ⟨y 0, y 1, by funext a; fin_cases a <;> rfl⟩

/-- A load of part of a buffer, at an index of the part. -/
theorem ld_apply {S : Shape} {Val : EltTy → Type} {e : EltTy} (X : S.Idx → Val e) (off size : Fin S.rank → ℕ)
    (inb : ∀ a, off a + size a ≤ S.size a) (y : (⟨S.rank, size⟩ : Shape).Idx) (z : S.Idx) (h : ∀ a, (z a).val = off a + (y a).val) :
    View.ld X (Rect.unit off size inb) y = X z :=
  congrArg X (funext fun a => Fin.ext ((congrArg (off a + ·) (Nat.one_mul (y a).val)).trans (h a).symm))

/-- A sum over `n + 1` blocks of `b`: over `n` of them, and the last. -/
theorem sum_block (f : ℕ → EReal) (b n : ℕ) :
    ∑ k ∈ Finset.range (b * (n + 1)), f k = ∑ k ∈ Finset.range (b * n), f k + ∑ j : Fin b, f (b * n + j) := by
  rw [Nat.mul_succ, Finset.sum_range_add, Finset.sum_range (n := b)]

/-- A matrix as a function of two numbers. -/
def nat2 {p q : ℕ} (G : Fin p → Fin q → EReal) (i j : ℕ) : EReal := if h : i < p ∧ j < q then G ⟨i, h.1⟩ ⟨j, h.2⟩ else 0

theorem nat2_eq {p q : ℕ} (G : Fin p → Fin q → EReal) {i j : ℕ} (hi : i < p) (hj : j < q) : nat2 G i j = G ⟨i, hi⟩ ⟨j, hj⟩ :=
  dif_pos ⟨hi, hj⟩

theorem sum_nat2 {p q : ℕ} (G : Fin p → Fin q → EReal) (i : Fin p) : ∑ k ∈ Finset.range q, nat2 G i k = ∑ j, G i j := by
  rw [Finset.sum_range]
  exact Finset.sum_congr rfl fun j _ => nat2_eq G i.isLt j.isLt

/-- The logistic function by the hyperbolic tangent of the half. -/
theorem gate (x : EReal) :
    Ideal.ofBits .f32 0x3F000000#32 + Ideal.ofBits .f32 0x3F000000#32 * Ideal.tanh (Ideal.ofBits .f32 0x3F000000#32 * x) = Ideal.logistic x := by
  rw [ofBits_half]
  have h2 : ((1 / 2 : ℝ) : EReal) + ((1 / 2 : ℝ) : EReal) = 1 := by rw [← EReal.coe_add]; norm_num
  induction x with
  | bot =>
    rw [EReal.coe_mul_bot_of_pos (by norm_num), Ideal.tanh_bot]
    rw [Ideal.logistic_bot, mul_neg, mul_one, ← EReal.coe_neg, ← EReal.coe_add, add_neg_cancel, EReal.coe_zero]
  | top =>
    rw [EReal.coe_mul_top_of_pos (by norm_num), Ideal.tanh_top, mul_one, h2, Ideal.logistic_top]
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have ha := Real.exp_pos (1 / 2 * r)
    have e1 : Real.exp (-(1 / 2 * r)) = (Real.exp (1 / 2 * r))⁻¹ := Real.exp_neg _
    have e2 : Real.exp (-r) = (Real.exp (1 / 2 * r))⁻¹ * (Real.exp (1 / 2 * r))⁻¹ := by
      rw [← Real.exp_neg, ← Real.exp_add]; congr 1; ring
    rw [e1, e2]
    generalize Real.exp (1 / 2 * r) = a at ha
    field_simp
    ring

end Cert.Scale

end
-- ==== Proof.MlpUp.lean ====
/-
  The two arrays the MLP's first product leaves: the squared positive part of the scaled product, and the next weight matrix recast.
-/
module

public import proofs.«01_k».proof.Defs
public import proofs.«01_k».proof.Proof.Gen.MlpUpIdeal.Value
public import proofs.«01_k».proof.Proof.Gen.MlpUpReferenceIdeal.Run
public import proofs.«01_k».proof.Proof.Gen.MlpUpReferenceIdeal.Read
public import proofs.«01_k».proof.Proof.Scale
public import Idealize.ShloMosaic.Lib.Pipeline.ValueKit
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MlpUpValue

open Cert.MlpUpIdeal Cert.MlpUpIdeal.Gen

instance preFacts : Cert.Pre_squares_up.Facts where
  slices_S16384x128_S16384x1_0_0 := by decide
  bcast_S_S16384x1 := by decide

theorem sq_of_pre {a : Vec Ideal S16384x4096 .bf16} {s : Vec Ideal S16384x128 .f32} {w : Vec Ideal S4096x16384 .bf16}
    {n : Vec Ideal S16384x4096 .f32} (h : Cert.Pre_squares_up.fn (F := Ideal) a s w n = fun _ => 1#1) (i : Fin 16384) :
    (0 : EReal) ≤ s (ix2 i 0) := by
  have e := congrFun h (ix2 i 0)
  unfold Cert.Pre_squares_up.fn at e
  dsimp only at e
  pointwise at e
  exact Scale.ofBool_one.1 e

/-- The product of the rows with the columns, scaled by the row factors; its positive part squared. -/
def up (a : Vec Ideal S16384x4096 .bf16) (s : Vec Ideal S16384x128 .f32) (w : Vec Ideal S4096x16384 .bf16) (i j : Fin 16384) : EReal :=
  max ((∑ k : Fin 4096, (a (ix2 i k) : EReal) * w (ix2 k j)) * Scale.row (s (ix2 i 0))) 0
    * max ((∑ k : Fin 4096, (a (ix2 i k) : EReal) * w (ix2 k j)) * Scale.row (s (ix2 i 0))) 0

theorem pay1_apply (a : Vec Ideal S1024x4096 .bf16) (w : Vec Ideal S4096x1024 .bf16) (s : Vec Ideal S1024x1 .f32) (i j : Fin 1024) :
    k0_pay1 a w s (ix2 i j) = (max ((∑ k : Fin 4096, (a (ix2 i k) : EReal) * w (ix2 k j)) * Scale.row (s (ix2 i 0))) 0
      * max ((∑ k : Fin 4096, (a (ix2 i k) : EReal) * w (ix2 k j)) * Scale.row (s (ix2 i 0))) 0 : EReal) := by
  unfold k0_pay1
  pointwise
  rfl

variable (m : (ℓ : Loc nD τ sig) → Buf (Elt Ideal) ℓ)

/-- Grid point `t` is row block `t / 16`, column block `t % 16`. -/
def p0 (t : Fin cfg0.N) : ℕ := (grid0.coords t 0).val
def p1 (t : Fin cfg0.N) : ℕ := (grid0.coords t 1).val
theorem p0_lt (t : Fin cfg0.N) : p0 t < 16 := (grid0.coords t 0).isLt
theorem p1_lt (t : Fin cfg0.N) : p1 t < 16 := (grid0.coords t 1).isLt

theorem idx0 : ∀ t : Fin cfg0.N, win0_0.index t = ![p0 t, 0] := (by decide +kernel : ∀ t : Fin grid0.N, _)
theorem idx1 : ∀ t : Fin cfg0.N, win0_1.index t = ![0, p1 t] := (by decide +kernel : ∀ t : Fin grid0.N, _)
theorem idx2 : ∀ t : Fin cfg0.N, win0_2.index t = ![p0 t, 0] := (by decide +kernel : ∀ t : Fin grid0.N, _)
theorem idx3 : ∀ t : Fin cfg0.N, win0_3.index t = ![p0 t * 16 + p1 t, 0] := (by decide +kernel : ∀ t : Fin grid0.N, _)
theorem idx4 : ∀ t : Fin cfg0.N, win0_4.index t = ![p0 t, p1 t] := (by decide +kernel : ∀ t : Fin grid0.N, _)
theorem idx5 : ∀ t : Fin cfg0.N, win0_5.index t = ![p0 t * 16 + p1 t, 0] := (by decide +kernel : ∀ t : Fin grid0.N, _)

theorem final4 (c : Dev nD) : (dats m 0 c).arrAt 4 cfg0.N = fun y => up (m ((c : Thread nD τ).loc main_arg0))
    (m ((c : Thread nD τ).loc main_arg1)) (m ((c : Thread nD τ).loc main_arg2)) (y 0) (y 1) := by
  refine (dats m 0 c).arrAt_eq_of_covers 4 _ (by decide +kernel) fun t hf y => ?_
  have h0 := p0_lt t
  have h1 := p1_lt t
  obtain ⟨i, j, rfl⟩ := Scale.exists_ix2 (p := 1024) (q := 1024) y
  blk_simp
  rw [after0_4]
  unfold out0_4 up
  rw [View.canon_unit_zero (by decide), View.ld_unit_zero (by decide), View.ld_unit_zero (by decide), pay1_apply]
  have ea : ∀ k : Fin 4096, iblk m c 0 t (ix2 i k) = m ((c : Thread nD τ).loc main_arg0) (ix2 ((win0_4.blk t).view.emb (ix2 i j) 0) k) := by
    intro k
    blk_simp [iblk, V_main_arg0]
    congr 1
    blk_ext [idx0 t, idx4 t]
  have ew : ∀ k : Fin 4096, iblk m c 1 t (ix2 k j) = m ((c : Thread nD τ).loc main_arg2) (ix2 k ((win0_4.blk t).view.emb (ix2 i j) 1)) := by
    intro k
    blk_simp [iblk, V_main_arg2]
    congr 1
    blk_ext [idx1 t, idx4 t]
  have es : View.ld (iblk m c 2 t) r0_2 (ix2 i 0) = m ((c : Thread nD τ).loc main_arg1) (ix2 ((win0_4.blk t).view.emb (ix2 i j) 0) 0) := by
    rw [Scale.ld_apply _ _ _ _ _ (ix2 i 0) (fun a => by fin_cases a <;> simp)]
    blk_simp [iblk, V_main_arg1]
    congr 1
    blk_ext [idx2 t, idx4 t]
  simp only [ea, ew]
  rw [es]

theorem final5 (c : Dev nD) : (dats m 0 c).arrAt 5 cfg0.N = (m ((c : Thread nD τ).loc main_arg3) : S16384x4096.Idx → EReal) := by
  refine (dats m 0 c).arrAt_eq_of_covers 5 _ (by decide +kernel) fun t hf y => ?_
  blk_simp
  rw [after0_5]
  unfold out0_5
  rw [View.canon_unit_zero (by decide), View.ld_unit_zero (by decide)]
  show iblk m c 3 t y = _
  blk_simp [iblk, V_main_arg3]
  congr 1
  blk_ext [idx3 t, idx5 t]

open Cert.MlpUpReferenceIdeal.Read in
theorem reference (a : Vec Ideal S16384x4096 .bf16) (s : Vec Ideal S16384x128 .f32) (w : Vec Ideal S4096x16384 .bf16)
    (h : ∀ i, (0 : EReal) ≤ s (ix2 i 0)) (i j : Fin 16384) : val_main_v14 (F := Ideal) a s w (ix2 i j) = up a s w i j := by
  rw [val_main_v14_apply, val_main_v13_apply, val_main_v12_apply, val_main_v11_apply, val_main_cst_1_apply, val_main_v10_apply]
  simp only [val_main_v9_apply, val_main_v8_apply, val_main_v7_apply, val_main_v6_apply, val_main_v5_apply, val_main_v4_apply,
    val_main_v3_apply, val_main_v2_apply, val_main_v1_apply, val_main_v0_apply, val_main_cst_apply, val_main_cst_0_apply]
  have el : ∀ k, lidx_main_v10 (ix2 i j) k = ix2 i k := fun k => by funext a; fin_cases a <;> rfl
  have er : ∀ k, ridx_main_v10 (ix2 i j) k = ix2 k j := fun k => by funext a; fin_cases a <;> rfl
  have es : ∀ k, idx_main_v1 (idx_main_v7 (ix2 i k)) = ix2 i 0 := fun k => by funext a; fin_cases a <;> rfl
  simp only [el, er, es]
  show (max (∑ k, (a (ix2 i k) : EReal) * Scale.row (s (ix2 i 0)) * w (ix2 k j)) (Ideal.ofBits .f32 0#32)
    * max (∑ k, (a (ix2 i k) : EReal) * Scale.row (s (ix2 i 0)) * w (ix2 k j)) (Ideal.ofBits .f32 0#32) : EReal) = _
  rw [Scale.row_sum (h i), Scale.ofBits_zero]
  rfl

/-- The reference runs, keeps its arguments and ends with every counter at zero: it has none. -/
theorem reference_frame : Cert.quiescent_MlpUpReferenceIdeal := by
  intro m g _
  exact (θ_run _ _ _).mono (fun r h => ⟨fun c => (h c).2.2, sem_eq_zero_of_no_sems (by decide) r.2⟩)
    (Cert.MlpUpReferenceIdeal.Value.run m g)

theorem algebraic : Cert.algebraic_MlpUpIdeal_MlpUpReferenceIdeal_pre_squares_up := by
  pair_intro
  · run_from Cert.MlpUpIdeal.Value.run_blocks m g
  · run_from Cert.MlpUpReferenceIdeal.Value.run m' g'
    · refine (Cert.MlpUpReferenceIdeal.Read.val_main_v14_eq _ _ _).trans ((funext fun y => ?_).trans (final4 m c).symm)
      obtain ⟨i, j, rfl⟩ := Scale.exists_ix2 (p := 16384) (q := 16384) y
      exact reference _ _ _ (sq_of_pre (hpre c)) i j
    · exact (final5 m c).symm

end Cert.MlpUpValue

end
-- ==== Proof.MlpDown.lean ====
/-
  The three arrays the second half of the MLP leaves: the residual plus the product, that times the next norm's gain, and its rows' sums of
  squares. The body adds the product up over eight blocks of the inner axis in a buffer it keeps between points, writes the first two at the
  last of the eight, and adds up the squares over the four column blocks of a row.
-/
module

public import proofs.«01_k».proof.Defs
public import proofs.«01_k».proof.Proof.Gen.MlpDownIdeal.Value
public import proofs.«01_k».proof.Proof.Gen.MlpDownReferenceIdeal.Run
public import proofs.«01_k».proof.Proof.Gen.MlpDownReferenceIdeal.Read
public import proofs.«01_k».proof.Proof.Scale
public import Idealize.ShloMosaic.Lib.Pipeline.ValueKit
public import Idealize.ShloMosaic.Lib.Pipeline.ReadBack
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MlpDownValue

open Cert.MlpDownIdeal Cert.MlpDownIdeal.Gen

section

variable (x0 : Vec Ideal S1024x2048 .bf16) (x1 : Vec Ideal S2048x1024 .bf16) (x3 : Vec Ideal S1x1024 .f32) (s : Vec Ideal S1024x1024 .f32)
  (q : Vec Ideal S1024x128 .f32)

/-- What is kept, plus one block's products. -/
def step : Vec Ideal S1024x1024 .f32 := fun y => (s y + ∑ k : Fin 2048, (x0 (ix2 (y 0) k) * x1 (ix2 k (y 1)) : EReal) : EReal)

/-- The normed copy and the squares of the finished block. -/
def blk5 : Vec Ideal S1024x1024 .bf16 := fun y => (step x0 x1 s y * x3 (ix2 0 (y 1)) : EReal)
def blk6 : Vec Ideal S1024x128 .f32 :=
  fun y => (q y + ∑ j : Fin 1024, (step x0 x1 s (ix2 (y 0) j) * step x0 x1 s (ix2 (y 0) j) : EReal) : EReal)

theorem pay3_eq : k0_pay3 (F := Ideal) s x0 x1 = step x0 x1 s := by
  funext y
  obtain ⟨i, j, rfl⟩ := Scale.exists_ix2 (p := 1024) (q := 1024) y
  unfold k0_pay3 step
  pointwise

theorem pay1_eq : k0_pay1 (F := Ideal) s x0 x1 = step x0 x1 s := by
  funext y
  obtain ⟨i, j, rfl⟩ := Scale.exists_ix2 (p := 1024) (q := 1024) y
  unfold k0_pay1 step
  pointwise

theorem pay2_eq : k0_pay2 (F := Ideal) s x0 x1 = step x0 x1 s := by
  funext y
  obtain ⟨i, j, rfl⟩ := Scale.exists_ix2 (p := 1024) (q := 1024) y
  unfold k0_pay2 step
  pointwise

theorem pay4_eq : k0_pay4 (F := Ideal) s x0 x1 x3 = blk5 x0 x1 x3 s := by
  funext y
  obtain ⟨i, j, rfl⟩ := Scale.exists_ix2 (p := 1024) (q := 1024) y
  unfold k0_pay4 blk5
  rw [pay3_eq]
  pointwise

theorem pay6_eq : k0_pay6 (F := Ideal) s x0 x1 q = blk6 x0 x1 s q := by
  funext y
  obtain ⟨i, l, rfl⟩ := Scale.exists_ix2 (p := 1024) (q := 128) y
  unfold k0_pay6 blk6
  rw [pay3_eq]
  pointwise

end

section

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x1024 .f32) (harg10 : arg10.IsWhole)
  (x0 : Vec Ideal S1024x2048 .bf16) (x1 : Vec Ideal S2048x1024 .bf16) (x2 : Vec Ideal S1024x1024 .f32) (x3 : Vec Ideal S1x1024 .f32)
  (xo6 : Vec Ideal S1024x128 .f32) (xs0 : Vec Ideal S1024x1024 .f32)

theorem SA (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 arg10 harg10 hc0 hc1 hc2 x0 x1 x2 x3 = step x0 x1 x2 := by
  unfold sout0_A_0
  rw [View.read_writes_eq_canon _ _ _ (scover0_A_0 c i arg3 harg3 arg4 harg4 arg5 harg5 arg6 harg6 arg7 harg7 arg8 harg8 arg9 harg9 arg10 harg10 hc0 hc1 hc2 x0 x1 x2 x3)]
  unfold kernelRun0_A
  dsimp only
  rw [View.canon_cons_unit_lit _ _ _ (by decide)]
  simp only [View.readAt_eq_ld, harg3.read_unread, harg4.read_unread, harg5.read_unread]
  rw [View.ld_unit_zero (by decide), View.ld_unit_zero (by decide), View.ld_unit_zero (by decide), pay1_eq]

theorem SB (hc0 : ¬cond0_0 i) (hc1 : cond0_1 i) (hc2 : ¬cond0_2 i) :
    sout0_B_0 (F := Ideal) c i arg3 harg3 arg4 harg4 arg5 harg5 arg6 harg6 arg7 harg7 arg8 harg8 arg9 harg9 arg10 harg10 hc0 hc1 hc2 x0 x1 x2 x3 xs0 = step x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 hc2 x0 x1 x2 x3 xs0)]
  unfold kernelRun0_B
  dsimp only
  rw [View.canon_cons_unit_lit _ _ _ (by decide)]
  simp only [View.readAt_eq_ld, harg3.read_unread, harg4.read_unread, harg10.read_unread]
  rw [View.ld_unit_zero (by decide), View.ld_unit_zero (by decide), View.ld_unit_zero (by decide), pay2_eq]

theorem C4 (hc0 : ¬cond0_0 i) (hc1 : ¬cond0_1 i) (hc2 : cond0_2 i) (hc3 : cond0_3 i) :
    out0_C_4 (F := Ideal) c i arg3 harg3 arg4 harg4 arg5 harg5 arg6 harg6 arg7 harg7 arg8 harg8 arg9 harg9 arg10 harg10 hc0 hc1 hc2 hc3 x0 x1 x2 x3 xs0 = step x0 x1 xs0 := by
  unfold out0_C_4
  rw [View.read_writes_eq_canon _ _ _ (cover0_C_4 c i arg3 harg3 arg4 harg4 arg5 harg5 arg6 harg6 arg7 harg7 arg8 harg8 arg9 harg9 arg10 harg10 hc0 hc1 hc2 hc3 x0 x1 x2 x3 xs0)]
  unfold kernelRun0_C
  dsimp only
  rw [View.canon_cons_unit_lit _ _ _ (by decide)]
  simp only [View.readAt_eq_ld, harg3.read_unread, harg4.read_unread, harg10.read_unread]
  rw [View.ld_unit_zero (by decide), View.ld_unit_zero (by decide), View.ld_unit_zero (by decide), pay3_eq]

theorem C5 (hc0 : ¬cond0_0 i) (hc1 : ¬cond0_1 i) (hc2 : cond0_2 i) (hc3 : cond0_3 i) :
    out0_C_5 (F := Ideal) c i arg3 harg3 arg4 harg4 arg5 harg5 arg6 harg6 arg7 harg7 arg8 harg8 arg9 harg9 arg10 harg10 hc0 hc1 hc2 hc3 x0 x1 x2 x3 xs0 = blk5 x0 x1 x3 xs0 := by
  unfold out0_C_5
  rw [View.read_writes_eq_canon _ _ _ (cover0_C_5 c i arg3 harg3 arg4 harg4 arg5 harg5 arg6 harg6 arg7 harg7 arg8 harg8 arg9 harg9 arg10 harg10 hc0 hc1 hc2 hc3 x0 x1 x2 x3 xs0)]
  unfold kernelRun0_C
  dsimp only
  rw [View.canon_cons_unit_lit _ _ _ (by decide)]
  simp only [View.readAt_eq_ld, harg3.read_unread, harg4.read_unread, harg6.read_unread, harg10.read_unread]
  rw [View.ld_unit_zero (by decide), View.ld_unit_zero (by decide), View.ld_unit_zero (by decide), View.ld_unit_zero (by decide), pay4_eq]

theorem D4 (hc0 : ¬cond0_0 i) (hc1 : ¬cond0_1 i) (hc2 : cond0_2 i) (hc3 : ¬cond0_3 i) :
    out0_D_4 (F := Ideal) c i arg3 harg3 arg4 harg4 arg5 harg5 arg6 harg6 arg7 harg7 arg8 harg8 arg9 harg9 arg10 harg10 hc0 hc1 hc2 hc3 x0 x1 x2 x3 xo6 xs0 = step x0 x1 xs0 := by
  unfold out0_D_4
  rw [View.read_writes_eq_canon _ _ _ (cover0_D_4 c i arg3 harg3 arg4 harg4 arg5 harg5 arg6 harg6 arg7 harg7 arg8 harg8 arg9 harg9 arg10 harg10 hc0 hc1 hc2 hc3 x0 x1 x2 x3 xo6 xs0)]
  unfold kernelRun0_D
  dsimp only
  rw [View.canon_cons_unit_lit _ _ _ (by decide)]
  simp only [View.readAt_eq_ld, harg3.read_unread, harg4.read_unread, harg10.read_unread]
  rw [View.ld_unit_zero (by decide), View.ld_unit_zero (by decide), View.ld_unit_zero (by decide), pay3_eq]

theorem D5 (hc0 : ¬cond0_0 i) (hc1 : ¬cond0_1 i) (hc2 : cond0_2 i) (hc3 : ¬cond0_3 i) :
    out0_D_5 (F := Ideal) c i arg3 harg3 arg4 harg4 arg5 harg5 arg6 harg6 arg7 harg7 arg8 harg8 arg9 harg9 arg10 harg10 hc0 hc1 hc2 hc3 x0 x1 x2 x3 xo6 xs0 = blk5 x0 x1 x3 xs0 := by
  unfold out0_D_5
  rw [View.read_writes_eq_canon _ _ _ (cover0_D_5 c i arg3 harg3 arg4 harg4 arg5 harg5 arg6 harg6 arg7 harg7 arg8 harg8 arg9 harg9 arg10 harg10 hc0 hc1 hc2 hc3 x0 x1 x2 x3 xo6 xs0)]
  unfold kernelRun0_D
  dsimp only
  rw [View.canon_cons_unit_lit _ _ _ (by decide)]
  simp only [View.readAt_eq_ld, harg3.read_unread, harg4.read_unread, harg6.read_unread, harg10.read_unread]
  rw [View.ld_unit_zero (by decide), View.ld_unit_zero (by decide), View.ld_unit_zero (by decide), View.ld_unit_zero (by decide), pay4_eq]

theorem D6 (hc0 : ¬cond0_0 i) (hc1 : ¬cond0_1 i) (hc2 : cond0_2 i) (hc3 : ¬cond0_3 i) :
    out0_D_6 (F := Ideal) c i arg3 harg3 arg4 harg4 arg5 harg5 arg6 harg6 arg7 harg7 arg8 harg8 arg9 harg9 arg10 harg10 hc0 hc1 hc2 hc3 x0 x1 x2 x3 xo6 xs0 = blk6 x0 x1 xs0 xo6 := by
  unfold out0_D_6
  rw [View.read_writes_eq_canon _ _ _ (cover0_D_6 c i arg3 harg3 arg4 harg4 arg5 harg5 arg6 harg6 arg7 harg7 arg8 harg8 arg9 harg9 arg10 harg10 hc0 hc1 hc2 hc3 x0 x1 x2 x3 xo6 xs0)]
  unfold kernelRun0_D
  dsimp only
  rw [View.canon_cons_unit_lit _ _ _ (by decide)]
  simp only [View.readAt_eq_ld, harg3.read_unread, harg4.read_unread, harg9.read_unread, harg10.read_unread]
  rw [View.ld_unit_zero (by decide), View.ld_unit_zero (by decide), View.ld_unit_zero (by decide), View.ld_unit_zero (by decide), pay6_eq]

/-- The squares' block starts at zero. -/
theorem zero_ld (inb : ∀ b, (![0, 0] : Fin 2 → ℕ) b + S1024x128.size b ≤ S1024x128.size b) :
    arg9.view.readCov (kernelRun0_C.sl.H6_1 (F := Ideal)) (Rect.unit (s := S1024x128) ![0, 0] S1024x128.size inb).toLoadRect
      = fun _ => (0 : EReal) := by
  rw [View.readCov_eq_canon']
  funext z
  unfold kernelRun0_C.sl.H6_1
  rw [View.canon_cons_unit_lit _ _ _ (by decide)]
  show Ideal.ofBits .f32 0x00000000#32 = 0
  exact Scale.ofBits_zero

theorem C6 (hc0 : ¬cond0_0 i) (hc1 : ¬cond0_1 i) (hc2 : cond0_2 i) (hc3 : cond0_3 i) :
    out0_C_6 (F := Ideal) c i arg3 harg3 arg4 harg4 arg5 harg5 arg6 harg6 arg7 harg7 arg8 harg8 arg9 harg9 arg10 harg10 hc0 hc1 hc2 hc3 x0 x1 x2 x3 xs0 = blk6 x0 x1 xs0 (fun _ => (0 : EReal)) := by
  unfold out0_C_6
  rw [View.read_writes_eq_canon _ _ _ (cover0_C_6 c i arg3 harg3 arg4 harg4 arg5 harg5 arg6 harg6 arg7 harg7 arg8 harg8 arg9 harg9 arg10 harg10 hc0 hc1 hc2 hc3 x0 x1 x2 x3 xs0)]
  unfold kernelRun0_C
  dsimp only
  rw [View.canon_cons_unit_lit _ _ _ (by decide)]
  unfold kernelRun0_C.sl.v26
  rw [zero_ld]
  simp only [View.readAt_eq_ld, harg3.read_unread, harg4.read_unread, harg10.read_unread]
  rw [View.ld_unit_zero (by decide), View.ld_unit_zero (by decide), View.ld_unit_zero (by decide), pay6_eq]
  rfl

end

variable (m : (ℓ : Loc nD τ sig) → Buf (Elt Ideal) ℓ)

/-- Grid point `t` is row block `t / 32`, column block `t / 8 % 4`, inner block `t % 8`. -/
theorem idx0 : ∀ t : Fin cfg0.N, win0_0.index t = ![t.val / 32, t.val % 8] := (by decide +kernel : ∀ t : Fin grid0.N, _)
theorem idx1 : ∀ t : Fin cfg0.N, win0_1.index t = ![t.val % 8, t.val / 8 % 4] := (by decide +kernel : ∀ t : Fin grid0.N, _)
theorem idx2 : ∀ t : Fin cfg0.N, win0_2.index t = ![t.val / 32, t.val / 8 % 4] := (by decide +kernel : ∀ t : Fin grid0.N, _)
theorem idx3 : ∀ t : Fin cfg0.N, win0_3.index t = ![0, t.val / 8 % 4] := (by decide +kernel : ∀ t : Fin grid0.N, _)
theorem idx4 : ∀ t : Fin cfg0.N, win0_4.index t = ![t.val / 32, t.val / 8 % 4] := (by decide +kernel : ∀ t : Fin grid0.N, _)
theorem idx5 : ∀ t : Fin cfg0.N, win0_5.index t = ![t.val / 32, t.val / 8 % 4] := (by decide +kernel : ∀ t : Fin grid0.N, _)
theorem idx6 : ∀ t : Fin cfg0.N, win0_6.index t = ![t.val / 32, 0] := (by decide +kernel : ∀ t : Fin grid0.N, _)
theorem lt_N : ∀ t : Fin cfg0.N, t.val < 512 := (by decide +kernel : ∀ t : Fin grid0.N, _)

/-- The three arguments the product and its sum read, by natural numbers. -/
def X (c : Dev nD) : ℕ → ℕ → EReal :=
  Scale.nat2 fun (i : Fin 16384) (k : Fin 16384) => (m ((c : Thread nD τ).loc main_arg0) (ix2 i k) : EReal)
def W (c : Dev nD) : ℕ → ℕ → EReal :=
  Scale.nat2 fun (k : Fin 16384) (j : Fin 4096) => (m ((c : Thread nD τ).loc main_arg1) (ix2 k j) : EReal)
def H (c : Dev nD) : ℕ → ℕ → EReal :=
  Scale.nat2 fun (i : Fin 16384) (j : Fin 4096) => (m ((c : Thread nD τ).loc main_arg2) (ix2 i j) : EReal)

/-- The residual plus the first `n` products, and with all of them. -/
def upto (c : Dev nD) (i j n : ℕ) : EReal := H m c i j + ∑ k ∈ Finset.range n, X m c i k * W m c k j
def R (c : Dev nD) (i j : ℕ) : EReal := upto m c i j 16384

/-- One block's products are the next 2048. -/
theorem step_at (c : Dev nD) (t : Fin cfg0.N) (s : Vec Ideal S1024x1024 .f32) (i j : Fin 1024)
    (hs : s (ix2 i j) = upto m c (1024 * (t.val / 32) + i) (1024 * (t.val / 8 % 4) + j) (2048 * (t.val % 8))) :
    step (iblk m c 0 t) (iblk m c 1 t) s (ix2 i j)
      = upto m c (1024 * (t.val / 32) + i) (1024 * (t.val / 8 % 4) + j) (2048 * (t.val % 8 + 1)) := by
  have ht := lt_N t
  unfold step upto
  rw [Scale.sum_block, hs]
  unfold upto
  rw [← add_assoc]
  dsimp only [ix2_0, ix2_1]
  refine congrArg₂ (· + · : EReal → EReal → EReal) rfl (Finset.sum_congr rfl fun k _ => ?_)
  unfold X W
  rw [Scale.nat2_eq _ (by omega) (by omega), Scale.nat2_eq _ (by omega) (by omega)]
  have ea : iblk m c 0 t (ix2 i k) = m ((c : Thread nD τ).loc main_arg0) (ix2 ⟨1024 * (t.val / 32) + i, by omega⟩ ⟨2048 * (t.val % 8) + k, by omega⟩) := by
    blk_simp [iblk, V_main_arg0]
    congr 1
    blk_ext [idx0 t]
  have ew : iblk m c 1 t (ix2 k j) = m ((c : Thread nD τ).loc main_arg1) (ix2 ⟨2048 * (t.val % 8) + k, by omega⟩ ⟨1024 * (t.val / 8 % 4) + j, by omega⟩) := by
    blk_simp [iblk, V_main_arg1]
    congr 1
    blk_ext [idx1 t]
  rw [ea, ew]

/-- The block of the residual is the sum without products. -/
theorem start_at (c : Dev nD) (t : Fin cfg0.N) (i j : Fin 1024) :
    iblk m c 2 t (ix2 i j) = upto m c (1024 * (t.val / 32) + i) (1024 * (t.val / 8 % 4) + j) 0 := by
  have ht := lt_N t
  unfold upto H
  rw [Finset.range_zero, Finset.sum_empty, add_zero, Scale.nat2_eq _ (by omega) (by omega)]
  blk_simp [iblk, V_main_arg2]
  congr 1
  blk_ext [idx2 t]

/-- Before the last inner block the kept buffer holds the sum so far. -/
theorem kept (c : Dev nD) : ∀ (n : ℕ) (hn : n < cfg0.N) (h7 : n % 8 ≤ 6) (i j : Fin 1024), (outsAt0 m c n hn).2.2.2 (ix2 i j)
    = upto m c (1024 * (n / 32) + i) (1024 * (n / 8 % 4) + j) (2048 * (n % 8 + 1)) := by
  intro n
  induction n using Nat.strong_induction_on with
  | _ n ih =>
    intro hn h7 i j
    by_cases h0 : n % 8 = 0
    · refine (congrFun (congrArg (fun p => p.2.2.2) (outsAt0_A m c ⟨n, hn⟩ h0 (by dsimp only; omega) (by dsimp only; omega))) (ix2 i j)).trans ?_
      dsimp only
      rw [SA]
      refine step_at m c ⟨n, hn⟩ _ i j ?_
      rw [start_at]
      dsimp only
      rw [h0]
    · refine (congrFun (congrArg (fun p => p.2.2.2) (outsAt0_B m c ⟨n, hn⟩ h0 (by dsimp only; omega) (by dsimp only; omega))) (ix2 i j)).trans ?_
      dsimp only
      rw [SB]
      refine step_at m c ⟨n, hn⟩ _ i j ?_
      dsimp only
      rw [ih (n - 1) (by omega) _ (by omega), show (n - 1) % 8 + 1 = n % 8 by omega, show (n - 1) / 32 = n / 32 by omega,
        show (n - 1) / 8 % 4 = n / 8 % 4 by omega]

/-- At the last inner block the sum is whole. -/
theorem last_at (c : Dev nD) (t : Fin cfg0.N) (h7 : t.val % 8 = 7) (hp : t.val - 1 < cfg0.N) (i j : Fin 1024) :
    step (iblk m c 0 t) (iblk m c 1 t) (outsAt0 m c (t.val - 1) hp).2.2.2 (ix2 i j)
      = R m c (1024 * (t.val / 32) + i) (1024 * (t.val / 8 % 4) + j) := by
  rw [step_at m c t _ i j, h7]
  · rfl
  · rw [kept m c (t.val - 1) _ (by omega), show (t.val - 1) % 8 + 1 = t.val % 8 by omega, show (t.val - 1) / 32 = t.val / 32 by omega,
      show (t.val - 1) / 8 % 4 = t.val / 8 % 4 by omega]

theorem outs4 (c : Dev nD) (t : Fin cfg0.N) (h7 : t.val % 8 = 7) (i j : Fin 1024) :
    (outsAt0 m c t.val t.isLt).1 (ix2 i j) = R m c (1024 * (t.val / 32) + i) (1024 * (t.val / 8 % 4) + j) := by
  by_cases h3 : t.val / 8 % 4 = 0
  · rw [outsAt0_C m c t (by omega) (by omega) h7 h3]
    dsimp only
    rw [C4]
    exact last_at m c t h7 _ i j
  · rw [outsAt0_D m c t (by omega) (by omega) h7 h3]
    dsimp only
    rw [D4]
    exact last_at m c t h7 _ i j

set_option maxRecDepth 65536 in
theorem gains (c : Dev nD) (j : Fin 4096) : V m c main_v0 (ix2 0 j) = m ((c : Thread nD τ).loc main_arg3) (ix1 j) := by
  entry_read
  show shapeCast S1x4096 (m ((c : Thread nD τ).loc main_arg3) : Vec Ideal S4096 .f32) shapeCasts_S4096_S1x4096 (ix2 0 j) = _
  pointwise

theorem blk5_at (c : Dev nD) (t : Fin cfg0.N) (h7 : t.val % 8 = 7) (hp : t.val - 1 < cfg0.N) (i j : Fin 1024)
    (hj : 1024 * (t.val / 8 % 4) + j < 4096) :
    blk5 (iblk m c 0 t) (iblk m c 1 t) (iblk m c 3 t) (outsAt0 m c (t.val - 1) hp).2.2.2 (ix2 i j)
      = (R m c (1024 * (t.val / 32) + i) (1024 * (t.val / 8 % 4) + j)
        * m ((c : Thread nD τ).loc main_arg3) (ix1 ⟨1024 * (t.val / 8 % 4) + j, hj⟩) : EReal) := by
  unfold blk5
  rw [last_at m c t h7]
  refine congrArg (R m c _ _ * ·) ?_
  rw [← gains m c]
  blk_simp [iblk]
  congr 1
  blk_ext [idx3 t]

theorem outs5 (c : Dev nD) (t : Fin cfg0.N) (h7 : t.val % 8 = 7) (i j : Fin 1024) (hj : 1024 * (t.val / 8 % 4) + j < 4096) :
    (outsAt0 m c t.val t.isLt).2.1 (ix2 i j) = (R m c (1024 * (t.val / 32) + i) (1024 * (t.val / 8 % 4) + j)
        * m ((c : Thread nD τ).loc main_arg3) (ix1 ⟨1024 * (t.val / 8 % 4) + j, hj⟩) : EReal) := by
  by_cases h3 : t.val / 8 % 4 = 0
  · rw [outsAt0_C m c t (by omega) (by omega) h7 h3]
    dsimp only
    rw [C5]
    exact blk5_at m c t h7 _ i j hj
  · rw [outsAt0_D m c t (by omega) (by omega) h7 h3]
    dsimp only
    rw [D5]
    exact blk5_at m c t h7 _ i j hj

/-- One square of the new residual. -/
def sq (c : Dev nD) (i j : ℕ) : EReal := R m c i j * R m c i j

theorem blk6_at (c : Dev nD) (t : Fin cfg0.N) (h7 : t.val % 8 = 7) (hp : t.val - 1 < cfg0.N) (q : Vec Ideal S1024x128 .f32) (i : Fin 1024) (l : Fin 128)
    (hq : q (ix2 i l) = ∑ k ∈ Finset.range (1024 * (t.val / 8 % 4)), sq m c (1024 * (t.val / 32) + i) k) :
    blk6 (iblk m c 0 t) (iblk m c 1 t) (outsAt0 m c (t.val - 1) hp).2.2.2 q (ix2 i l)
      = ∑ k ∈ Finset.range (1024 * (t.val / 8 % 4 + 1)), sq m c (1024 * (t.val / 32) + i) k := by
  unfold blk6
  dsimp only [ix2_0, ix2_1]
  simp only [last_at m c t h7]
  rw [Scale.sum_block, hq]
  rfl

/-- From the first finished block of a row on, the row's squares are summed over its finished blocks. -/
theorem outs6 (c : Dev nD) : ∀ (n : ℕ) (hn : n < cfg0.N) (h7 : 7 ≤ n % 32) (i : Fin 1024) (l : Fin 128), (outsAt0 m c n hn).2.2.1 (ix2 i l)
    = ∑ k ∈ Finset.range (1024 * ((n % 32 + 1) / 8)), sq m c (1024 * (n / 32) + i) k := by
  intro n
  induction n using Nat.strong_induction_on with
  | _ n ih =>
    intro hn h7 i l
    by_cases h2 : n % 8 = 7
    · by_cases h3 : n / 8 % 4 = 0
      · refine (congrFun (congrArg (fun p => p.2.2.1) (outsAt0_C m c ⟨n, hn⟩ (by dsimp only; omega) (by dsimp only; omega) h2 h3)) (ix2 i l)).trans ?_
        dsimp only
        rw [C6]
        refine (blk6_at m c ⟨n, hn⟩ h2 _ _ i l ?_).trans ?_
        · dsimp only
          rw [h3]
          rfl
        · dsimp only
          rw [show n / 8 % 4 + 1 = (n % 32 + 1) / 8 by omega]
      · refine (congrFun (congrArg (fun p => p.2.2.1) (outsAt0_D m c ⟨n, hn⟩ (by dsimp only; omega) (by dsimp only; omega) h2 h3)) (ix2 i l)).trans ?_
        dsimp only
        rw [D6]
        refine (blk6_at m c ⟨n, hn⟩ h2 _ _ i l ?_).trans ?_
        · dsimp only
          rw [ih (n - 1) (by omega) _ (by omega), show ((n - 1) % 32 + 1) / 8 = n / 8 % 4 by omega, show (n - 1) / 32 = n / 32 by omega]
        · dsimp only
          rw [show n / 8 % 4 + 1 = (n % 32 + 1) / 8 by omega]
    · have e : (outsAt0 m c n hn).2.2.1 = (outsAt0 m c (n - 1) (by omega)).2.2.1 := by
        by_cases h0 : n % 8 = 0
        · refine (congrArg (fun p => p.2.2.1) (outsAt0_A m c ⟨n, hn⟩ h0 (by dsimp only; omega) h2)).trans ?_
          dsimp only
          rfl
        · refine (congrArg (fun p => p.2.2.1) (outsAt0_B m c ⟨n, hn⟩ h0 (by dsimp only; omega) h2)).trans ?_
          dsimp only
          rfl
      rw [e, ih (n - 1) (by omega) _ (by omega), show ((n - 1) % 32 + 1) / 8 = (n % 32 + 1) / 8 by omega, show (n - 1) / 32 = n / 32 by omega]

/-- The three results. -/
def out4 (c : Dev nD) (y : S16384x4096.Idx) : EReal := R m c (y 0).val (y 1).val
def out5 (c : Dev nD) (y : S16384x4096.Idx) : EReal := R m c (y 0).val (y 1).val * m ((c : Thread nD τ).loc main_arg3) (ix1 (y 1))
def out6 (c : Dev nD) (y : S16384x128.Idx) : EReal := ∑ k ∈ Finset.range 4096, sq m c (y 0).val k

theorem final4 (c : Dev nD) : (dats m 0 c).arrAt 4 cfg0.N = out4 m c := by
  refine (dats m 0 c).arrAt_eq_of_covers 4 _ (by decide +kernel) fun t hf y => ?_
  obtain ⟨i, j, rfl⟩ := Scale.exists_ix2 (p := 1024) (q := 1024) y
  have ht := lt_N t
  blk_simp
  rw [after0_4, outs4 m c t ((flush0_4 t).mp hf)]
  unfold out4
  have e0 : ((win0_4.blk t).view.emb (ix2 i j) 0 : Fin 16384) = (⟨1024 * (t.val / 32) + i.val, by omega⟩ : Fin 16384) := by
    apply Fin.ext
    blk_simp [idx4 t]
    show t.val / 32 * 1024 + i.val = 1024 * (t.val / 32) + i.val
    omega
  have e1 : ((win0_4.blk t).view.emb (ix2 i j) 1 : Fin 4096) = (⟨1024 * (t.val / 8 % 4) + j.val, by omega⟩ : Fin 4096) := by
    apply Fin.ext
    blk_simp [idx4 t]
    show t.val / 8 % 4 * 1024 + j.val = 1024 * (t.val / 8 % 4) + j.val
    omega
  rw [e0, e1]

theorem final5 (c : Dev nD) : (dats m 0 c).arrAt 5 cfg0.N = out5 m c := by
  refine (dats m 0 c).arrAt_eq_of_covers 5 _ (by decide +kernel) fun t hf y => ?_
  obtain ⟨i, j, rfl⟩ := Scale.exists_ix2 (p := 1024) (q := 1024) y
  have ht := lt_N t
  blk_simp
  rw [after0_5, outs5 m c t ((flush0_5 t).mp hf) i j (by omega)]
  unfold out5
  have e0 : ((win0_5.blk t).view.emb (ix2 i j) 0 : Fin 16384) = (⟨1024 * (t.val / 32) + i.val, by omega⟩ : Fin 16384) := by
    apply Fin.ext
    blk_simp [idx5 t]
    show t.val / 32 * 1024 + i.val = 1024 * (t.val / 32) + i.val
    omega
  have e1 : ((win0_5.blk t).view.emb (ix2 i j) 1 : Fin 4096) = (⟨1024 * (t.val / 8 % 4) + j.val, by omega⟩ : Fin 4096) := by
    apply Fin.ext
    blk_simp [idx5 t]
    show t.val / 8 % 4 * 1024 + j.val = 1024 * (t.val / 8 % 4) + j.val
    omega
  rw [e0, e1]

theorem final6 (c : Dev nD) : (dats m 0 c).arrAt 6 cfg0.N = out6 m c := by
  refine (dats m 0 c).arrAt_eq_of_covers 6 _ (by decide +kernel) fun t hf y => ?_
  obtain ⟨i, l, rfl⟩ := Scale.exists_ix2 (p := 1024) (q := 128) y
  have ht := lt_N t
  have h31 := (flush0_6 t).mp hf
  blk_simp
  rw [after0_6, outs6 m c t.val t.isLt (by omega), h31]
  unfold out6
  have e0 : ((win0_6.blk t).view.emb (ix2 i l) 0 : Fin 16384) = (⟨1024 * (t.val / 32) + i.val, by omega⟩ : Fin 16384) := by
    apply Fin.ext
    blk_simp [idx6 t]
    show t.val / 32 * 1024 + i.val = 1024 * (t.val / 32) + i.val
    omega
  rw [e0]

section

variable (a : Vec Ideal S16384x16384 .bf16) (w : Vec Ideal S16384x4096 .bf16) (h : Vec Ideal S16384x4096 .f32) (g : Vec Ideal S4096 .f32)

open Cert.MlpDownReferenceIdeal.Read Cert.MlpDownReferenceIdeal.Gen

/-- The new residual, of the arguments. -/
def res (i : Fin 16384) (j : Fin 4096) : EReal := h (ix2 i j) + ∑ k : Fin 16384, (a (ix2 i k) * w (ix2 k j) : EReal)

theorem reference3 (i : Fin 16384) (j : Fin 4096) : val_main_v3 (F := Ideal) a w h (ix2 i j) = res a w h i j := by
  rw [val_main_v3_apply, val_main_v2_apply]
  simp only [val_main_v0_apply, val_main_v1_apply]
  have el : ∀ k, lidx_main_v2 (ix2 i j) k = ix2 i k := fun k => by funext a; fin_cases a <;> rfl
  have er : ∀ k, ridx_main_v2 (ix2 i j) k = ix2 k j := fun k => by funext a; fin_cases a <;> rfl
  simp only [el, er]
  rfl

theorem reference10 (i : Fin 16384) (j : Fin 4096) : val_main_v10 (F := Ideal) a w h g (ix2 i j) = (res a w h i j * g (ix1 j) : EReal) := by
  rw [val_main_v10_apply, val_main_v9_apply, val_main_v8_apply, val_main_v7_apply, reference3]
  have eg : idx_main_v7 (idx_main_v8 (ix2 i j)) = ix1 j := by funext a; fin_cases a; rfl
  rw [eg]
  rfl

theorem reference11 (i : Fin 16384) (l : Fin 128) : val_main_v11 (F := Ideal) a w h (ix2 i l) = ∑ j, (res a w h i j * res a w h i j : EReal) := by
  rw [val_main_v11_apply, val_main_v6_apply, val_main_v5_apply, val_main_cst_apply]
  have el : ∀ k, idx_main_v5 (idx_main_v6 (idx_main_v11 (ix2 i l))) k = ix2 i k := fun k => by funext a; fin_cases a <;> rfl
  simp only [el, val_main_v4_apply, reference3]
  exact (congrArg (· + _ : EReal → EReal) Scale.ofBits_zero).trans (zero_add _)

end

/-- The sum over natural numbers is the one over the indices. -/
theorem R_eq (c : Dev nD) (i : Fin 16384) (j : Fin 4096) : R m c i.val j.val
    = res (m ((c : Thread nD τ).loc main_arg0)) (m ((c : Thread nD τ).loc main_arg1)) (m ((c : Thread nD τ).loc main_arg2)) i j := by
  unfold R upto res H
  rw [Finset.sum_range, Scale.nat2_eq _ i.isLt j.isLt]
  refine congrArg₂ (· + · : EReal → EReal → EReal) rfl (Finset.sum_congr rfl fun k _ => ?_)
  unfold X W
  rw [Scale.nat2_eq _ i.isLt k.isLt, Scale.nat2_eq _ k.isLt j.isLt]

/-- The reference runs, keeps its arguments and ends with every counter at zero: it has none. -/
theorem reference_frame : Cert.quiescent_MlpDownReferenceIdeal := by
  intro m g _
  exact (θ_run _ _ _).mono (fun r h => ⟨fun c => (h c).2.2.2, sem_eq_zero_of_no_sems (by decide) r.2⟩)
    (Cert.MlpDownReferenceIdeal.Value.run m g)

theorem reference_run (m : (ℓ : Loc Cert.MlpDownReferenceIdeal.nD Cert.MlpDownReferenceIdeal.τ Cert.MlpDownReferenceIdeal.sig) → Buf (Elt Ideal) ℓ)
    (g : Dev Cert.MlpDownReferenceIdeal.nD → PrngReg) :
    θ_run Cert.MlpDownReferenceIdeal.defs (onTc (τ := Cert.MlpDownReferenceIdeal.τ) (Cert.MlpDownReferenceIdeal.main (F := Ideal))) ⟨m, fun _ => 0, g⟩
      fun r => ∀ c : Dev Cert.MlpDownReferenceIdeal.nD,
        r.2.mem ((c.tc : Thread Cert.MlpDownReferenceIdeal.nD Cert.MlpDownReferenceIdeal.τ).loc Cert.MlpDownReferenceIdeal.main_v3)
          = Cert.MlpDownReferenceIdeal.Read.val_main_v3 (F := Ideal) (m ((c.tc : Thread _ _).loc Cert.MlpDownReferenceIdeal.main_arg0))
            (m ((c.tc : Thread _ _).loc Cert.MlpDownReferenceIdeal.main_arg1)) (m ((c.tc : Thread _ _).loc Cert.MlpDownReferenceIdeal.main_arg2))
        ∧ r.2.mem ((c.tc : Thread Cert.MlpDownReferenceIdeal.nD Cert.MlpDownReferenceIdeal.τ).loc Cert.MlpDownReferenceIdeal.main_v10)
          = Cert.MlpDownReferenceIdeal.Read.val_main_v10 (F := Ideal) (m ((c.tc : Thread _ _).loc Cert.MlpDownReferenceIdeal.main_arg0))
            (m ((c.tc : Thread _ _).loc Cert.MlpDownReferenceIdeal.main_arg1)) (m ((c.tc : Thread _ _).loc Cert.MlpDownReferenceIdeal.main_arg2))
            (m ((c.tc : Thread _ _).loc Cert.MlpDownReferenceIdeal.main_arg3))
        ∧ r.2.mem ((c.tc : Thread Cert.MlpDownReferenceIdeal.nD Cert.MlpDownReferenceIdeal.τ).loc Cert.MlpDownReferenceIdeal.main_v11)
          = Cert.MlpDownReferenceIdeal.Read.val_main_v11 (F := Ideal) (m ((c.tc : Thread _ _).loc Cert.MlpDownReferenceIdeal.main_arg0))
            (m ((c.tc : Thread _ _).loc Cert.MlpDownReferenceIdeal.main_arg1)) (m ((c.tc : Thread _ _).loc Cert.MlpDownReferenceIdeal.main_arg2))
        ∧ r.2.mem ((c.tc : Thread _ _).loc Cert.MlpDownReferenceIdeal.main_arg0) = m ((c.tc : Thread _ _).loc Cert.MlpDownReferenceIdeal.main_arg0)
        ∧ r.2.mem ((c.tc : Thread _ _).loc Cert.MlpDownReferenceIdeal.main_arg1) = m ((c.tc : Thread _ _).loc Cert.MlpDownReferenceIdeal.main_arg1)
        ∧ r.2.mem ((c.tc : Thread _ _).loc Cert.MlpDownReferenceIdeal.main_arg2) = m ((c.tc : Thread _ _).loc Cert.MlpDownReferenceIdeal.main_arg2)
        ∧ r.2.mem ((c.tc : Thread _ _).loc Cert.MlpDownReferenceIdeal.main_arg3) = m ((c.tc : Thread _ _).loc Cert.MlpDownReferenceIdeal.main_arg3) :=
  (θ_run _ _ _).mono (fun r h c => ⟨(h c).1.trans (Cert.MlpDownReferenceIdeal.Read.val_main_v3_eq _ _ _),
    (h c).2.1.trans (Cert.MlpDownReferenceIdeal.Read.val_main_v10_eq _ _ _ _),
    (h c).2.2.1.trans (Cert.MlpDownReferenceIdeal.Read.val_main_v11_eq _ _ _), (h c).2.2.2⟩) (Cert.MlpDownReferenceIdeal.Value.run m g)

set_option maxRecDepth 65536 in
theorem algebraic : Cert.algebraic_MlpDownIdeal_MlpDownReferenceIdeal := by
  pair_intro
  · run_from Cert.MlpDownIdeal.Value.run m g
  · run_from reference_run m' g'
    · refine Eq.trans (funext fun y => ?_) ((final4 m c).symm.trans (Cert.MlpDownIdeal.Value.final4 m c))
      obtain ⟨i, j, rfl⟩ := Scale.exists_ix2 (p := 16384) (q := 4096) y
      exact (reference3 _ _ _ i j).trans (R_eq m c i j).symm
    · refine Eq.trans (funext fun y => ?_) ((final5 m c).symm.trans (Cert.MlpDownIdeal.Value.final5 m c))
      obtain ⟨i, j, rfl⟩ := Scale.exists_ix2 (p := 16384) (q := 4096) y
      exact (reference10 _ _ _ _ i j).trans (congrArg (· * _ : EReal → EReal) (R_eq m c i j).symm)
    · refine Eq.trans (funext fun y => ?_) ((final6 m c).symm.trans (Cert.MlpDownIdeal.Value.final6 m c))
      obtain ⟨i, l, rfl⟩ := Scale.exists_ix2 (p := 16384) (q := 128) y
      refine (reference11 _ _ _ i l).trans (Eq.trans ?_ (Finset.sum_range _).symm)
      exact Finset.sum_congr rfl fun j _ => (congrArg₂ (· * · : EReal → EReal → EReal) (R_eq m c i j) (R_eq m c i j)).symm

end Cert.MlpDownValue

end
-- ==== Proof.InProj.lean ====
/-
  The two arrays the input product leaves: the scaled product with the rows of the weights, and the next weight matrix recast.
-/
module

public import proofs.«01_k».proof.Defs
public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.Scale
public import Idealize.ShloMosaic.Lib.Pipeline.ValueKit
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.InProjValue

open Cert.InProjIdeal Cert.InProjIdeal.Gen

instance preFacts : Cert.Pre_squares_in.Facts where
  slices_S16384x128_S16384x1_0_0 := by decide
  bcast_S_S16384x1 := by decide

theorem sq_of_pre {a : Vec Ideal S16384x4096 .bf16} {s : Vec Ideal S16384x128 .f32} {w : Vec Ideal S8192x4096 .bf16}
    {n : Vec Ideal S4096x16384 .f32} (h : Cert.Pre_squares_in.fn (F := Ideal) a s w n = fun _ => 1#1) (i : Fin 16384) :
    (0 : EReal) ≤ s (ix2 i 0) := by
  have e := congrFun h (ix2 i 0)
  unfold Cert.Pre_squares_in.fn at e
  dsimp only at e
  pointwise at e
  exact Scale.ofBool_one.1 e

/-- The product of the rows with the rows of the weights, scaled by the row factors. -/
def proj (a : Vec Ideal S16384x4096 .bf16) (s : Vec Ideal S16384x128 .f32) (w : Vec Ideal S8192x4096 .bf16) (i : Fin 16384) (j : Fin 8192) : EReal :=
  (∑ k : Fin 4096, (a (ix2 i k) : EReal) * w (ix2 j k)) * Scale.row (s (ix2 i 0))

theorem pay1_apply (a : Vec Ideal S1024x4096 .bf16) (w : Vec Ideal S1024x4096 .bf16) (s : Vec Ideal S1024x1 .f32) (i j : Fin 1024) :
    k0_pay1 a w s (ix2 i j) = ((∑ k : Fin 4096, (a (ix2 i k) : EReal) * w (ix2 j k)) * Scale.row (s (ix2 i 0)) : EReal) := by
  unfold k0_pay1
  pointwise
  rfl

variable (m : (ℓ : Loc nD τ sig) → Buf (Elt Ideal) ℓ)

/-- Grid point `t` is row block `t / 8`, column block `t % 8`. -/
def p0 (t : Fin cfg0.N) : ℕ := (grid0.coords t 0).val
def p1 (t : Fin cfg0.N) : ℕ := (grid0.coords t 1).val
theorem p0_lt (t : Fin cfg0.N) : p0 t < 16 := (grid0.coords t 0).isLt
theorem p1_lt (t : Fin cfg0.N) : p1 t < 8 := (grid0.coords t 1).isLt

theorem idx0 : ∀ t : Fin cfg0.N, win0_0.index t = ![p0 t, 0] := (by decide +kernel : ∀ t : Fin grid0.N, _)
theorem idx1 : ∀ t : Fin cfg0.N, win0_1.index t = ![p1 t, 0] := (by decide +kernel : ∀ t : Fin grid0.N, _)
theorem idx2 : ∀ t : Fin cfg0.N, win0_2.index t = ![p0 t, 0] := (by decide +kernel : ∀ t : Fin grid0.N, _)
theorem idx3 : ∀ t : Fin cfg0.N, win0_3.index t = ![p0 t * 8 + p1 t, 0] := (by decide +kernel : ∀ t : Fin grid0.N, _)
theorem idx4 : ∀ t : Fin cfg0.N, win0_4.index t = ![p0 t, p1 t] := (by decide +kernel : ∀ t : Fin grid0.N, _)
theorem idx5 : ∀ t : Fin cfg0.N, win0_5.index t = ![p0 t * 8 + p1 t, 0] := (by decide +kernel : ∀ t : Fin grid0.N, _)

theorem final4 (c : Dev nD) : (dats m 0 c).arrAt 4 cfg0.N = fun y => proj (m ((c : Thread nD τ).loc main_arg0))
    (m ((c : Thread nD τ).loc main_arg1)) (m ((c : Thread nD τ).loc main_arg2)) (y 0) (y 1) := by
  refine (dats m 0 c).arrAt_eq_of_covers 4 _ (by decide +kernel) fun t hf y => ?_
  have h0 := p0_lt t
  have h1 := p1_lt t
  obtain ⟨i, j, rfl⟩ := Scale.exists_ix2 (p := 1024) (q := 1024) y
  blk_simp
  rw [after0_4]
  unfold out0_4 proj
  rw [View.canon_unit_zero (by decide), View.ld_unit_zero (by decide), View.ld_unit_zero (by decide), pay1_apply]
  have ea : ∀ k : Fin 4096, iblk m c 0 t (ix2 i k) = m ((c : Thread nD τ).loc main_arg0) (ix2 ((win0_4.blk t).view.emb (ix2 i j) 0) k) := by
    intro k
    blk_simp [iblk, V_main_arg0]
    congr 1
    blk_ext [idx0 t, idx4 t]
  have ew : ∀ k : Fin 4096, iblk m c 1 t (ix2 j k) = m ((c : Thread nD τ).loc main_arg2) (ix2 ((win0_4.blk t).view.emb (ix2 i j) 1) k) := by
    intro k
    blk_simp [iblk, V_main_arg2]
    congr 1
    blk_ext [idx1 t, idx4 t]
  have es : View.ld (iblk m c 2 t) r0_1 (ix2 i 0) = m ((c : Thread nD τ).loc main_arg1) (ix2 ((win0_4.blk t).view.emb (ix2 i j) 0) 0) := by
    rw [Scale.ld_apply _ _ _ _ _ (ix2 i 0) (fun a => by fin_cases a <;> simp)]
    blk_simp [iblk, V_main_arg1]
    congr 1
    blk_ext [idx2 t, idx4 t]
  simp only [ea, ew]
  rw [es]

theorem final5 (c : Dev nD) : (dats m 0 c).arrAt 5 cfg0.N = (m ((c : Thread nD τ).loc main_arg3) : S4096x16384.Idx → EReal) := by
  refine (dats m 0 c).arrAt_eq_of_covers 5 _ (by decide +kernel) fun t hf y => ?_
  blk_simp
  rw [after0_5]
  unfold out0_5
  rw [View.canon_unit_zero (by decide), View.ld_unit_zero (by decide)]
  show iblk m c 3 t y = _
  blk_simp [iblk, V_main_arg3]
  congr 1
  blk_ext [idx3 t, idx5 t]

open Cert.InProjReferenceIdeal.Read in
theorem reference (a : Vec Ideal S16384x4096 .bf16) (s : Vec Ideal S16384x128 .f32) (w : Vec Ideal S8192x4096 .bf16)
    (h : ∀ i, (0 : EReal) ≤ s (ix2 i 0)) (i : Fin 16384) (j : Fin 8192) : val_main_v11 (F := Ideal) a s w (ix2 i j) = proj a s w i j := by
  rw [val_main_v11_apply]
  simp only [val_main_v10_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply]
  have el : ∀ k, lidx_main_v11 (ix2 i j) k = ix2 i k := fun k => by funext a; fin_cases a <;> rfl
  have er : ∀ k, idx_main_v10 (ridx_main_v11 (ix2 i j) k) = ix2 j k := fun k => by funext a; fin_cases a <;> rfl
  have es : ∀ k, idx_main_v1 (idx_main_v7 (ix2 i k)) = ix2 i 0 := fun k => by funext a; fin_cases a <;> rfl
  simp only [el, er, es]
  exact Scale.row_sum (h i) (fun k => (a (ix2 i k) : EReal)) fun k => w (ix2 j k)

/-- The reference runs, keeps its arguments and ends with every counter at zero: it has none. -/
theorem reference_frame : Cert.quiescent_InProjReferenceIdeal := by
  intro m g _
  exact (θ_run _ _ _).mono (fun r h => ⟨fun c => (h c).2.2, sem_eq_zero_of_no_sems (by decide) r.2⟩)
    (Cert.InProjReferenceIdeal.Value.run m g)

set_option maxRecDepth 65536 in
theorem algebraic : Cert.algebraic_InProjIdeal_InProjReferenceIdeal_pre_squares_in := by
  pair_intro
  · run_from Cert.InProjIdeal.Value.run_blocks m g
  · run_from Cert.InProjReferenceIdeal.Value.run m' g'
    · refine (Cert.InProjReferenceIdeal.Read.val_main_v11_eq (F := Ideal) _ _ _).trans ((funext fun y => ?_).trans (final4 m c).symm)
      obtain ⟨i, j, rfl⟩ := Scale.exists_ix2 (p := 16384) (q := 8192) y
      exact reference _ _ _ (sq_of_pre (hpre c)) i j
    · exact (final5 m c).symm

end Cert.InProjValue

end
-- ==== Proof.OutProj.lean ====
/-
  The three arrays the output projection leaves: the residual plus the projected concatenation, that times the next norm's gain, and its
  rows' sums of squares. The body treats its block as two halves of 512 rows, by the same formulas, and adds up the squares over the
  eight column blocks of a row.
-/
module

public import proofs.«01_k».proof.Defs
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Scale
public import Idealize.ShloMosaic.Lib.Pipeline.ValueKit
public import Idealize.ShloMosaic.Lib.Pipeline.ReadBack
public import Idealize.ShloMosaic.Lib.Pipeline.RowLoads
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.OutProjValue

open Cert.OutProjIdeal Cert.OutProjIdeal.Gen

/-- One element of the new residual. -/
def elt (h : EReal) (a b w w' : Fin 2048 → EReal) : EReal := h + (∑ k, a k * w k + ∑ k, b k * w' k)

theorem pay5_apply (a : Vec Ideal S512x2048 .bf16) (w : Vec Ideal S2048x512 .bf16) (b : Vec Ideal S512x2048 .bf16) (w' : Vec Ideal S2048x512 .bf16)
    (h : Vec Ideal S512x512 .f32) (i j : Fin 512) : k0_pay5 a w b w' h (ix2 i j)
      = elt (h (ix2 i j)) (fun k => a (ix2 i k)) (fun k => b (ix2 i k)) (fun k => w (ix2 k j)) (fun k => w' (ix2 k j)) := by
  unfold k0_pay5 elt
  pointwise

theorem pay6_apply (a : Vec Ideal S512x2048 .bf16) (w : Vec Ideal S2048x512 .bf16) (b : Vec Ideal S512x2048 .bf16) (w' : Vec Ideal S2048x512 .bf16)
    (h : Vec Ideal S512x512 .f32) (g : Vec Ideal S1x512 .f32) (i j : Fin 512) :
    k0_pay6 a w b w' h g (ix2 i j) = (k0_pay5 a w b w' h (ix2 i j) * g (ix2 0 j) : EReal) := by
  unfold k0_pay6
  pointwise

theorem pay7_apply (a : Vec Ideal S512x2048 .bf16) (w : Vec Ideal S2048x512 .bf16) (b : Vec Ideal S512x2048 .bf16) (w' : Vec Ideal S2048x512 .bf16)
    (h : Vec Ideal S512x512 .f32) (s : Vec Ideal S512x128 .f32) (i : Fin 512) (l : Fin 128) :
    k0_pay7 a w b w' h s (ix2 i l)
      = (s (ix2 i l) + ∑ j : Fin 512, (k0_pay5 a w b w' h (ix2 i j) * k0_pay5 a w b w' h (ix2 i j) : EReal) : EReal) := by
  unfold k0_pay7
  pointwise

section

variable (x0 x1 : Vec Ideal S1024x2048 .bf16) (x2 x3 : Vec Ideal S2048x512 .bf16) (x4 : Vec Ideal S1024x512 .f32) (x5 : Vec Ideal S1x512 .f32)
  (x8 : Vec Ideal S1024x128 .f32)

/-- The three output blocks from the blocks read and, for the squares, from what the block before left. -/
def blk6 : Vec Ideal S1024x512 .f32 :=
  fun y => elt (x4 y) (fun k => x0 (ix2 (y 0) k)) (fun k => x1 (ix2 (y 0) k)) (fun k => x2 (ix2 k (y 1))) (fun k => x3 (ix2 k (y 1)))
def blk7 : Vec Ideal S1024x512 .bf16 := fun y => (blk6 x0 x1 x2 x3 x4 y * x5 (ix2 0 (y 1)) : EReal)
def blk8 : Vec Ideal S1024x128 .f32 :=
  fun y => (x8 y + ∑ j : Fin 512, (blk6 x0 x1 x2 x3 x4 (ix2 (y 0) j) * blk6 x0 x1 x2 x3 x4 (ix2 (y 0) j) : EReal) : EReal)

/-- The rows of a block from row `o` on. -/
theorem emb_half {n : ℕ} (o : ℕ) (ho : o ≤ 512) (i3) (i : Fin 512) (j : Fin n) :
    (Rect.unit (s := (⟨2, ![1024, n]⟩ : Shape)) ![o, 0] ![512, n] i3).emb (ix2 i j) = ix2 (⟨o + i.val, by omega⟩ : Fin 1024) j := by
  funext a
  apply Fin.ext
  show (![o, 0] : Fin 2 → ℕ) a + 1 * ((ix2 i j : (⟨2, ![512, n]⟩ : Shape).Idx) a).val = _
  fin_cases a <;> simp

theorem half5 (o : ℕ) (ho : o ≤ 512) (i0 i3) (i j : Fin 512) :
    k0_pay5 (View.ld x0 (Rect.unit (s := S1024x2048) ![o, 0] S512x2048.size i0)) x2
        (View.ld x1 (Rect.unit (s := S1024x2048) ![o, 0] S512x2048.size i0)) x3
        (View.ld x4 (Rect.unit (s := S1024x512) ![o, 0] S512x512.size i3)) (ix2 i j)
      = blk6 x0 x1 x2 x3 x4 (ix2 (⟨o + i.val, by omega⟩ : Fin 1024) j) := by
  rw [pay5_apply]
  unfold blk6
  dsimp only [ix2_0, ix2_1]
  rw [Scale.ld_apply x4 _ _ _ _ (ix2 (⟨o + i.val, by omega⟩ : Fin 1024) j) (fun a => by fin_cases a <;> simp)]
  refine congrArg₂ (fun f g => elt _ f g _ _) (funext fun k => ?_) (funext fun k => ?_)
  · exact Scale.ld_apply x0 _ _ _ _ (ix2 (⟨o + i.val, by omega⟩ : Fin 1024) k) (fun a => by fin_cases a <;> simp)
  · exact Scale.ld_apply x1 _ _ _ _ (ix2 (⟨o + i.val, by omega⟩ : Fin 1024) k) (fun a => by fin_cases a <;> simp)

theorem store6 (o : ℕ) (ho : o ≤ 512) (i0 i3) (z : S512x512.Idx) :
    k0_pay5 (View.ld x0 (Rect.unit (s := S1024x2048) ![o, 0] S512x2048.size i0)) x2
        (View.ld x1 (Rect.unit (s := S1024x2048) ![o, 0] S512x2048.size i0)) x3
        (View.ld x4 (Rect.unit (s := S1024x512) ![o, 0] S512x512.size i3)) z
      = blk6 x0 x1 x2 x3 x4 ((Rect.unit (s := S1024x512) ![o, 0] S512x512.size i3).emb z) := by
  obtain ⟨i, j, rfl⟩ := Scale.exists_ix2 (p := 512) (q := 512) z
  rw [half5 x0 x1 x2 x3 x4 o ho]
  exact congrArg _ (emb_half o ho _ i j).symm

theorem store7 (o : ℕ) (ho : o ≤ 512) (i0 i3) (z : S512x512.Idx) :
    k0_pay6 (View.ld x0 (Rect.unit (s := S1024x2048) ![o, 0] S512x2048.size i0)) x2
        (View.ld x1 (Rect.unit (s := S1024x2048) ![o, 0] S512x2048.size i0)) x3
        (View.ld x4 (Rect.unit (s := S1024x512) ![o, 0] S512x512.size i3)) x5 z
      = blk7 x0 x1 x2 x3 x4 x5 ((Rect.unit (s := S1024x512) ![o, 0] S512x512.size i3).emb z) := by
  obtain ⟨i, j, rfl⟩ := Scale.exists_ix2 (p := 512) (q := 512) z
  rw [pay6_apply, half5 x0 x1 x2 x3 x4 o ho]
  exact congrArg (blk7 x0 x1 x2 x3 x4 x5) (emb_half o ho _ i j).symm

theorem store8 (o : ℕ) (ho : o ≤ 512) (i0 i3 i8) (s : Vec Ideal S512x128 .f32)
    (hs : s = View.ld x8 (Rect.unit (s := S1024x128) ![o, 0] S512x128.size i8)) (z : S512x128.Idx) :
    k0_pay7 (View.ld x0 (Rect.unit (s := S1024x2048) ![o, 0] S512x2048.size i0)) x2
        (View.ld x1 (Rect.unit (s := S1024x2048) ![o, 0] S512x2048.size i0)) x3
        (View.ld x4 (Rect.unit (s := S1024x512) ![o, 0] S512x512.size i3)) s z
      = blk8 x0 x1 x2 x3 x4 x8 ((Rect.unit (s := S1024x128) ![o, 0] S512x128.size i8).emb z) := by
  obtain ⟨i, l, rfl⟩ := Scale.exists_ix2 (p := 512) (q := 128) z
  rw [pay7_apply, hs]
  simp only [half5 x0 x1 x2 x3 x4 o ho]
  rw [Scale.ld_apply x8 _ _ _ _ (ix2 (⟨o + i.val, by omega⟩ : Fin 1024) l) (fun a => by fin_cases a <;> simp)]
  exact congrArg (blk8 x0 x1 x2 x3 x4 x8) (emb_half o ho _ i l).symm

/-- The second half's formulas are the first's. -/
theorem pay1_eq : k0_pay1 (F := Ideal) = k0_pay5 := rfl
theorem pay2_eq : k0_pay2 (F := Ideal) = k0_pay6 := rfl
theorem pay3_eq : k0_pay3 (F := Ideal) = k0_pay7 := rfl

end

section

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole)
  (x0 x1 : Vec Ideal S1024x2048 .bf16) (x2 x3 : Vec Ideal S2048x512 .bf16) (x4 : Vec Ideal S1024x512 .f32) (x5 : Vec Ideal S1x512 .f32)
  (x8 : Vec Ideal S1024x128 .f32)

theorem A6 (hc0 : cond0_0 i) :
    out0_A_6 (F := Ideal) c i arg2 harg2 arg3 harg3 arg4 harg4 arg5 harg5 arg6 harg6 arg7 harg7 arg8 harg8 arg9 harg9 arg10 harg10 hc0 x0 x1 x2 x3 x4 x5
      = blk6 x0 x1 x2 x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  funext y
  refine View.canon_apply_of_pieces (blk6 x0 x1 x2 x3 x4) _ ?_ y (cover0_A_6 c i arg2 harg2 arg3 harg3 arg4 harg4 arg5 harg5 arg6 harg6 arg7 harg7 arg8 harg8 arg9 harg9 arg10 harg10 hc0 x0 x1 x2 x3 x4 x5 y)
  unfold kernelRun0_A
  dsimp only
  refine View.PiecesOf.mem (Val := Elt Ideal) (s := S1024x512) (e := .f32) (G := blk6 x0 x1 x2 x3 x4) ?_
  simp only [View.readAt_eq_ld, harg2.read_unread, harg3.read_unread, harg4.read_unread, harg5.read_unread, harg6.read_unread,
    harg7.read_unread, pay1_eq, pay2_eq]
  rw [View.ld_unit_zero (by decide), View.ld_unit_zero (by decide)]
  exact ⟨store6 x0 x1 x2 x3 x4 512 (by omega) _ _, store6 x0 x1 x2 x3 x4 0 (by omega) _ _, trivial⟩

theorem A7 (hc0 : cond0_0 i) :
    out0_A_7 (F := Ideal) c i arg2 harg2 arg3 harg3 arg4 harg4 arg5 harg5 arg6 harg6 arg7 harg7 arg8 harg8 arg9 harg9 arg10 harg10 hc0 x0 x1 x2 x3 x4 x5
      = blk7 x0 x1 x2 x3 x4 x5 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5)]
  funext y
  refine View.canon_apply_of_pieces (blk7 x0 x1 x2 x3 x4 x5) _ ?_ y (cover0_A_7 c i arg2 harg2 arg3 harg3 arg4 harg4 arg5 harg5 arg6 harg6 arg7 harg7 arg8 harg8 arg9 harg9 arg10 harg10 hc0 x0 x1 x2 x3 x4 x5 y)
  unfold kernelRun0_A
  dsimp only
  refine View.PiecesOf.mem (Val := Elt Ideal) (s := S1024x512) (e := .bf16) (G := blk7 x0 x1 x2 x3 x4 x5) ?_
  simp only [View.readAt_eq_ld, harg2.read_unread, harg3.read_unread, harg4.read_unread, harg5.read_unread, harg6.read_unread,
    harg7.read_unread, pay1_eq, pay2_eq]
  rw [View.ld_unit_zero (by decide), View.ld_unit_zero (by decide), View.ld_unit_zero (by decide)]
  exact ⟨store7 x0 x1 x2 x3 x4 x5 512 (by omega) _ _, store7 x0 x1 x2 x3 x4 x5 0 (by omega) _ _, trivial⟩

theorem B6 (hc0 : ¬cond0_0 i) :
    out0_B_6 (F := Ideal) c i arg2 harg2 arg3 harg3 arg4 harg4 arg5 harg5 arg6 harg6 arg7 harg7 arg8 harg8 arg9 harg9 arg10 harg10 hc0 x0 x1 x2 x3 x4 x5 x8
      = blk6 x0 x1 x2 x3 x4 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 x8)]
  funext y
  refine View.canon_apply_of_pieces (blk6 x0 x1 x2 x3 x4) _ ?_ y (cover0_B_6 c i arg2 harg2 arg3 harg3 arg4 harg4 arg5 harg5 arg6 harg6 arg7 harg7 arg8 harg8 arg9 harg9 arg10 harg10 hc0 x0 x1 x2 x3 x4 x5 x8 y)
  unfold kernelRun0_B
  dsimp only
  refine View.PiecesOf.mem (Val := Elt Ideal) (s := S1024x512) (e := .f32) (G := blk6 x0 x1 x2 x3 x4) ?_
  simp only [View.readAt_eq_ld, harg2.read_unread, harg3.read_unread, harg4.read_unread, harg5.read_unread, harg6.read_unread,
    harg7.read_unread, pay1_eq, pay2_eq]
  rw [View.ld_unit_zero (by decide), View.ld_unit_zero (by decide)]
  exact ⟨store6 x0 x1 x2 x3 x4 512 (by omega) _ _, store6 x0 x1 x2 x3 x4 0 (by omega) _ _, trivial⟩

theorem B7 (hc0 : ¬cond0_0 i) :
    out0_B_7 (F := Ideal) c i arg2 harg2 arg3 harg3 arg4 harg4 arg5 harg5 arg6 harg6 arg7 harg7 arg8 harg8 arg9 harg9 arg10 harg10 hc0 x0 x1 x2 x3 x4 x5 x8
      = blk7 x0 x1 x2 x3 x4 x5 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x8)]
  funext y
  refine View.canon_apply_of_pieces (blk7 x0 x1 x2 x3 x4 x5) _ ?_ y (cover0_B_7 c i arg2 harg2 arg3 harg3 arg4 harg4 arg5 harg5 arg6 harg6 arg7 harg7 arg8 harg8 arg9 harg9 arg10 harg10 hc0 x0 x1 x2 x3 x4 x5 x8 y)
  unfold kernelRun0_B
  dsimp only
  refine View.PiecesOf.mem (Val := Elt Ideal) (s := S1024x512) (e := .bf16) (G := blk7 x0 x1 x2 x3 x4 x5) ?_
  simp only [View.readAt_eq_ld, harg2.read_unread, harg3.read_unread, harg4.read_unread, harg5.read_unread, harg6.read_unread,
    harg7.read_unread, pay1_eq, pay2_eq]
  rw [View.ld_unit_zero (by decide), View.ld_unit_zero (by decide), View.ld_unit_zero (by decide)]
  exact ⟨store7 x0 x1 x2 x3 x4 x5 512 (by omega) _ _, store7 x0 x1 x2 x3 x4 x5 0 (by omega) _ _, trivial⟩

/-- The squares' block starts at zero. -/
theorem zero_ld (o : ℕ) (inb : ∀ b, (![o, 0] : Fin 2 → ℕ) b + S512x128.size b ≤ S1024x128.size b) :
    arg10.view.readCov (kernelRun0_A.sl.H8_1 (F := Ideal)) (Rect.unit (s := S1024x128) ![o, 0] S512x128.size inb).toLoadRect
      = View.ld (fun _ : S1024x128.Idx => (0 : EReal)) (Rect.unit (s := S1024x128) ![o, 0] S512x128.size inb) := by
  rw [View.readCov_eq_canon']
  funext z
  unfold kernelRun0_A.sl.H8_1
  rw [View.canon_cons_unit_lit _ _ _ (by decide)]
  show Ideal.ofBits .f32 0x00000000#32 = 0
  exact Scale.ofBits_zero

theorem A8 (hc0 : cond0_0 i) :
    out0_A_8 (F := Ideal) c i arg2 harg2 arg3 harg3 arg4 harg4 arg5 harg5 arg6 harg6 arg7 harg7 arg8 harg8 arg9 harg9 arg10 harg10 hc0 x0 x1 x2 x3 x4 x5
      = blk8 x0 x1 x2 x3 x4 (fun _ => (0 : EReal)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5)]
  funext y
  unfold kernelRun0_A
  dsimp only
  unfold kernelRun0_A.sl.v43 kernelRun0_A.sl.H8_2 kernelRun0_A.sl.v19
  rw [zero_ld, View.readCov_cons_of_rows_disjoint (m := 1024) (n := 128) (k := 512) (k' := 512) arg10.view 0 512 (by omega), zero_ld]
  refine View.canon_append_of_piecesOf (blk8 x0 x1 x2 x3 x4 (fun _ => (0 : EReal))) _ [_, _] ?_ y ?_
  · simp only [View.readAt_eq_ld, harg2.read_unread, harg3.read_unread, harg4.read_unread, harg5.read_unread, harg6.read_unread, pay3_eq]
    rw [View.ld_unit_zero (by decide), View.ld_unit_zero (by decide)]
    exact ⟨store8 x0 x1 x2 x3 x4 _ 512 (by omega) _ _ _ _ rfl, store8 x0 x1 x2 x3 x4 _ 0 (by omega) _ _ _ _ rfl, trivial⟩
  · exact View.cover_of_tiledL (s := S1024x128) _ S512x128.size (by sl_kernel_rfl) y

theorem B8 (hc0 : ¬cond0_0 i) :
    out0_B_8 (F := Ideal) c i arg2 harg2 arg3 harg3 arg4 harg4 arg5 harg5 arg6 harg6 arg7 harg7 arg8 harg8 arg9 harg9 arg10 harg10 hc0 x0 x1 x2 x3 x4 x5 x8
      = blk8 x0 x1 x2 x3 x4 x8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x8)]
  funext y
  refine View.canon_apply_of_pieces (blk8 x0 x1 x2 x3 x4 x8) _ ?_ y (cover0_B_8 c i arg2 harg2 arg3 harg3 arg4 harg4 arg5 harg5 arg6 harg6 arg7 harg7 arg8 harg8 arg9 harg9 arg10 harg10 hc0 x0 x1 x2 x3 x4 x5 x8 y)
  unfold kernelRun0_B
  dsimp only
  unfold kernelRun0_B.sl.v43
  refine View.PiecesOf.mem (Val := Elt Ideal) (s := S1024x128) (e := .f32) (G := blk8 x0 x1 x2 x3 x4 x8) ?_
  simp only [View.readAt_eq_ld, harg2.read_unread, harg3.read_unread, harg4.read_unread, harg5.read_unread, harg6.read_unread,
    harg10.read_unread, pay3_eq]
  rw [View.ld_unit_zero (by decide), View.ld_unit_zero (by decide)]
  exact ⟨store8 x0 x1 x2 x3 x4 x8 512 (by omega) _ _ _ _ rfl, store8 x0 x1 x2 x3 x4 x8 0 (by omega) _ _ _ _ rfl, trivial⟩

end

variable (m : (ℓ : Loc nD τ sig) → Buf (Elt Ideal) ℓ)

/-- Grid point `t` is row block `t / 8`, column block `t % 8`. -/
theorem idx0 : ∀ t : Fin cfg0.N, win0_0.index t = ![t.val / 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![0, t.val % 8] := (by decide +kernel : ∀ t : Fin grid0.N, _)
theorem idx3 : ∀ t : Fin cfg0.N, win0_3.index t = ![1, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![0, t.val % 8] := (by decide +kernel : ∀ t : Fin grid0.N, _)
theorem idx6 : ∀ t : Fin cfg0.N, win0_6.index t = ![t.val / 8, t.val % 8] := (by decide +kernel : ∀ t : Fin grid0.N, _)
theorem idx7 : ∀ t : Fin cfg0.N, win0_7.index t = ![t.val / 8, t.val % 8] := (by decide +kernel : ∀ t : Fin grid0.N, _)
theorem idx8 : ∀ t : Fin cfg0.N, win0_8.index t = ![t.val / 8, 0] := (by decide +kernel : ∀ t : Fin grid0.N, _)
theorem last8 : ∀ t : Fin cfg0.N, win0_8.flush t = true → t.val % 8 = 7 := (by decide +kernel : ∀ t : Fin grid0.N, _)
theorem lt_N : ∀ t : Fin cfg0.N, t.val < 128 := (by decide +kernel : ∀ t : Fin grid0.N, _)

/-- The new residual. -/
def res (a b : Vec Ideal S16384x2048 .bf16) (w : Vec Ideal S4096x4096 .bf16) (h : Vec Ideal S16384x4096 .f32) (i : Fin 16384) (j : Fin 4096) : EReal :=
  elt (h (ix2 i j)) (fun k => a (ix2 i k)) (fun k => b (ix2 i k)) (fun k => w (ix2 ⟨k.val, by omega⟩ j)) (fun k => w (ix2 ⟨2048 + k.val, by omega⟩ j))

/-- Of the arguments of one device. -/
def R (c : Dev nD) : Fin 16384 → Fin 4096 → EReal :=
  res (m ((c : Thread nD τ).loc main_arg0)) (m ((c : Thread nD τ).loc main_arg1)) (m ((c : Thread nD τ).loc main_arg2)) (m ((c : Thread nD τ).loc main_arg3))

theorem blk6_at (c : Dev nD) (t : Fin cfg0.N) (i : Fin 1024) (j : Fin 512) :
    blk6 (iblk m c 0 t) (iblk m c 1 t) (iblk m c 2 t) (iblk m c 3 t) (iblk m c 4 t) (ix2 i j)
      = Scale.nat2 (R m c) (1024 * (t.val / 8) + i) (512 * (t.val % 8) + j) := by
  have ht := lt_N t
  rw [Scale.nat2_eq (R m c) (by omega) (by omega)]
  unfold R res blk6
  dsimp only [ix2_0, ix2_1]
  have ea : ∀ k : Fin 2048, iblk m c 0 t (ix2 i k) = m ((c : Thread nD τ).loc main_arg0) (ix2 ⟨1024 * (t.val / 8) + i, by omega⟩ k) := by
    intro k
    blk_simp [iblk, V_main_arg0]
    congr 1
    blk_ext [idx0 t]
  have eb : ∀ k : Fin 2048, iblk m c 1 t (ix2 i k) = m ((c : Thread nD τ).loc main_arg1) (ix2 ⟨1024 * (t.val / 8) + i, by omega⟩ k) := by
    intro k
    blk_simp [iblk, V_main_arg1]
    congr 1
    blk_ext [idx1 t]
  have ew : ∀ k : Fin 2048, iblk m c 2 t (ix2 k j) = m ((c : Thread nD τ).loc main_arg2) (ix2 ⟨k.val, by omega⟩ ⟨512 * (t.val % 8) + j, by omega⟩) := by
    intro k
    blk_simp [iblk, V_main_arg2]
    congr 1
    blk_ext [idx2 t]
  have ew' : ∀ k : Fin 2048, iblk m c 3 t (ix2 k j)
      = m ((c : Thread nD τ).loc main_arg2) (ix2 ⟨2048 + k.val, by omega⟩ ⟨512 * (t.val % 8) + j, by omega⟩) := by
    intro k
    blk_simp [iblk, V_main_arg2]
    congr 1
    blk_ext [idx3 t]
  have eh : iblk m c 4 t (ix2 i j)
      = m ((c : Thread nD τ).loc main_arg3) (ix2 ⟨1024 * (t.val / 8) + i, by omega⟩ ⟨512 * (t.val % 8) + j, by omega⟩) := by
    blk_simp [iblk, V_main_arg3]
    congr 1
    blk_ext [idx4 t]
  simp only [ea, eb, ew, ew', eh]

set_option maxRecDepth 65536 in
theorem gains (c : Dev nD) (j : Fin 4096) : V m c main_v0 (ix2 0 j) = m ((c : Thread nD τ).loc main_arg4) (ix1 j) := by
  entry_read
  show shapeCast S1x4096 (m ((c : Thread nD τ).loc main_arg4) : Vec Ideal S4096 .f32) shapeCasts_S4096_S1x4096 (ix2 0 j) = _
  pointwise

theorem blk7_at (c : Dev nD) (t : Fin cfg0.N) (i : Fin 1024) (j : Fin 512) (hj : 512 * (t.val % 8) + j < 4096) :
    blk7 (iblk m c 0 t) (iblk m c 1 t) (iblk m c 2 t) (iblk m c 3 t) (iblk m c 4 t) (iblk m c 5 t) (ix2 i j)
      = (Scale.nat2 (R m c) (1024 * (t.val / 8) + i) (512 * (t.val % 8) + j)
        * m ((c : Thread nD τ).loc main_arg4) (ix1 ⟨512 * (t.val % 8) + j, hj⟩) : EReal) := by
  unfold blk7
  rw [blk6_at]
  refine congrArg (Scale.nat2 (R m c) _ _ * ·) ?_
  rw [← gains m c]
  blk_simp [iblk]
  congr 1
  blk_ext [idx5 t]

/-- What a point leaves of the residual and of its normed copy does not depend on the point before. -/
theorem outs6 (c : Dev nD) (t : Fin cfg0.N) :
    (outsAt0 m c t.val t.isLt).1 = blk6 (iblk m c 0 t) (iblk m c 1 t) (iblk m c 2 t) (iblk m c 3 t) (iblk m c 4 t) := by
  by_cases h0 : t.val % 8 = 0
  · rw [outsAt0_A m c t h0]
    dsimp only
    rw [A6]
  · rw [outsAt0_B m c t h0]
    dsimp only
    rw [B6]

theorem outs7 (c : Dev nD) (t : Fin cfg0.N) : (outsAt0 m c t.val t.isLt).2.1
    = blk7 (iblk m c 0 t) (iblk m c 1 t) (iblk m c 2 t) (iblk m c 3 t) (iblk m c 4 t) (iblk m c 5 t) := by
  by_cases h0 : t.val % 8 = 0
  · rw [outsAt0_A m c t h0]
    dsimp only
    rw [A7]
  · rw [outsAt0_B m c t h0]
    dsimp only
    rw [B7]

/-- One square of the new residual. -/
def sq (c : Dev nD) (i j : ℕ) : EReal := Scale.nat2 (R m c) i j * Scale.nat2 (R m c) i j

/-- After a point a row's squares are summed over the column blocks up to the point's. -/
theorem outs8 (c : Dev nD) : ∀ (n : ℕ) (hn : n < cfg0.N) (i : Fin 1024) (l : Fin 128), (outsAt0 m c n hn).2.2 (ix2 i l)
    = ∑ k ∈ Finset.range (512 * (n % 8 + 1)), sq m c (1024 * (n / 8) + i) k := by
  intro n
  induction n using Nat.strong_induction_on with
  | _ n ih =>
    intro hn i l
    rw [Scale.sum_block]
    by_cases h0 : n % 8 = 0
    · refine (congrFun (congrArg (fun p => p.2.2) (outsAt0_A m c ⟨n, hn⟩ h0)) (ix2 i l)).trans ?_
      dsimp only
      rw [A8]
      unfold blk8
      dsimp only [ix2_0, ix2_1]
      simp only [blk6_at]
      rw [h0]
      rfl
    · refine (congrFun (congrArg (fun p => p.2.2) (outsAt0_B m c ⟨n, hn⟩ h0)) (ix2 i l)).trans ?_
      dsimp only
      rw [B8]
      unfold blk8
      dsimp only [ix2_0, ix2_1]
      simp only [blk6_at]
      rw [ih (n - 1) (by omega), show (n - 1) % 8 + 1 = n % 8 by omega, show (n - 1) / 8 = n / 8 by omega]
      rfl

/-- The three results. -/
def out6 (c : Dev nD) (y : S16384x4096.Idx) : EReal := R m c (y 0) (y 1)
def out7 (c : Dev nD) (y : S16384x4096.Idx) : EReal := R m c (y 0) (y 1) * m ((c : Thread nD τ).loc main_arg4) (ix1 (y 1))
def out8 (c : Dev nD) (y : S16384x128.Idx) : EReal := ∑ j, R m c (y 0) j * R m c (y 0) j

theorem final6 (c : Dev nD) : (dats m 0 c).arrAt 6 cfg0.N = out6 m c := by
  refine (dats m 0 c).arrAt_eq_of_covers 6 _ (by decide +kernel) fun t hf y => ?_
  obtain ⟨i, j, rfl⟩ := Scale.exists_ix2 (p := 1024) (q := 512) y
  have ht := lt_N t
  blk_simp
  rw [after0_6, outs6, blk6_at, Scale.nat2_eq (R m c) (by omega) (by omega)]
  unfold out6
  have e0 : ((win0_6.blk t).view.emb (ix2 i j) 0 : Fin 16384) = (⟨1024 * (t.val / 8) + i.val, by omega⟩ : Fin 16384) := by
    apply Fin.ext
    blk_simp [idx6 t]
    show t.val / 8 * 1024 + i.val = 1024 * (t.val / 8) + i.val
    omega
  have e1 : ((win0_6.blk t).view.emb (ix2 i j) 1 : Fin 4096) = (⟨512 * (t.val % 8) + j.val, by omega⟩ : Fin 4096) := by
    apply Fin.ext
    blk_simp [idx6 t]
    show t.val % 8 * 512 + j.val = 512 * (t.val % 8) + j.val
    omega
  rw [e0, e1]

theorem final7 (c : Dev nD) : (dats m 0 c).arrAt 7 cfg0.N = out7 m c := by
  refine (dats m 0 c).arrAt_eq_of_covers 7 _ (by decide +kernel) fun t hf y => ?_
  obtain ⟨i, j, rfl⟩ := Scale.exists_ix2 (p := 1024) (q := 512) y
  have ht := lt_N t
  blk_simp
  rw [after0_7, outs7, blk7_at m c t i j (by omega), Scale.nat2_eq (R m c) (by omega) (by omega)]
  unfold out7
  have e0 : ((win0_7.blk t).view.emb (ix2 i j) 0 : Fin 16384) = (⟨1024 * (t.val / 8) + i.val, by omega⟩ : Fin 16384) := by
    apply Fin.ext
    blk_simp [idx7 t]
    show t.val / 8 * 1024 + i.val = 1024 * (t.val / 8) + i.val
    omega
  have e1 : ((win0_7.blk t).view.emb (ix2 i j) 1 : Fin 4096) = (⟨512 * (t.val % 8) + j.val, by omega⟩ : Fin 4096) := by
    apply Fin.ext
    blk_simp [idx7 t]
    show t.val % 8 * 512 + j.val = 512 * (t.val % 8) + j.val
    omega
  rw [e0, e1]

theorem final8 (c : Dev nD) : (dats m 0 c).arrAt 8 cfg0.N = out8 m c := by
  refine (dats m 0 c).arrAt_eq_of_covers 8 _ (by decide +kernel) fun t hf y => ?_
  obtain ⟨i, l, rfl⟩ := Scale.exists_ix2 (p := 1024) (q := 128) y
  have ht := lt_N t
  blk_simp
  rw [after0_8, outs8 m c, last8 t hf]
  unfold out8
  have e0 : ((win0_8.blk t).view.emb (ix2 i l) 0 : Fin 16384) = (⟨1024 * (t.val / 8) + i.val, by omega⟩ : Fin 16384) := by
    apply Fin.ext
    blk_simp [idx8 t]
    show t.val / 8 * 1024 + i.val = 1024 * (t.val / 8) + i.val
    omega
  rw [e0, Finset.sum_range]
  refine (Finset.sum_congr rfl fun j _ => ?_ : (∑ j : Fin 4096, sq m c (1024 * (t.val / 8) + i) j : EReal)
    = ∑ j, R m c ⟨1024 * (t.val / 8) + i, by omega⟩ j * R m c ⟨1024 * (t.val / 8) + i, by omega⟩ j)
  unfold sq
  rw [Scale.nat2_eq (R m c) (by omega) j.isLt]

section

variable (a b : Vec Ideal S16384x2048 .bf16) (w : Vec Ideal S4096x4096 .bf16) (h : Vec Ideal S16384x4096 .f32) (g : Vec Ideal S4096 .f32)

open Cert.OutProjReferenceIdeal.Read Cert.OutProjReferenceIdeal.Gen

theorem cat_left (i : Fin 16384) (k : Fin 2048) : val_main_v2 (F := Ideal) a b (ix2 i ⟨k.val, by omega⟩) = a (ix2 i k) := by
  unfold val_main_v2
  exact concatenate_pair_apply_left (α := EReal) (t := S16384x4096) (s₁ := S16384x2048) (s₂ := S16384x2048) 1 a b
    concatenates_S16384x2048_S16384x2048_S16384x4096_d1 (ix2 i ⟨k.val, by omega⟩) rfl (ix2 i k) (fun b => by fin_cases b <;> rfl)

theorem cat_right (i : Fin 16384) (k : Fin 2048) : val_main_v2 (F := Ideal) a b (ix2 i ⟨2048 + k.val, by omega⟩) = b (ix2 i k) := by
  unfold val_main_v2
  exact concatenate_pair_apply_right (α := EReal) (t := S16384x4096) (s₁ := S16384x2048) (s₂ := S16384x2048) 1 a b
    concatenates_S16384x2048_S16384x2048_S16384x4096_d1 (ix2 i ⟨2048 + k.val, by omega⟩) rfl rfl (ix2 i k)
    (fun b hb => by
      fin_cases b
      · rfl
      · exact absurd rfl hb)
    (Nat.add_comm _ _)

theorem reference5 (i : Fin 16384) (j : Fin 4096) : val_main_v5 (F := Ideal) a b w h (ix2 i j) = res a b w h i j := by
  rw [val_main_v5_apply, val_main_v4_apply]
  simp only [val_main_v3_apply]
  have el : ∀ k, lidx_main_v4 (ix2 i j) k = ix2 i k := fun k => by funext a; fin_cases a <;> rfl
  have er : ∀ k, ridx_main_v4 (ix2 i j) k = ix2 k j := fun k => by funext a; fin_cases a <;> rfl
  simp only [el, er]
  refine congrArg (h (ix2 i j) + · : EReal → EReal) ?_
  refine (Fin.sum_univ_add (M := EReal) (a := 2048) (b := 2048) _).trans ?_
  refine congrArg₂ (· + · : EReal → EReal → EReal) (Finset.sum_congr rfl fun k _ => ?_) (Finset.sum_congr rfl fun k _ => ?_)
  · exact congrArg (· * _ : EReal → EReal) (cat_left a b i k)
  · exact congrArg (· * _ : EReal → EReal) (cat_right a b i k)

theorem reference12 (i : Fin 16384) (j : Fin 4096) : val_main_v12 (F := Ideal) a b w h g (ix2 i j) = (res a b w h i j * g (ix1 j) : EReal) := by
  rw [val_main_v12_apply, val_main_v11_apply, val_main_v10_apply, val_main_v9_apply, reference5]
  have eg : idx_main_v9 (idx_main_v10 (ix2 i j)) = ix1 j := by funext a; fin_cases a; rfl
  rw [eg]
  rfl

theorem reference13 (i : Fin 16384) (l : Fin 128) : val_main_v13 (F := Ideal) a b w h (ix2 i l) = ∑ j, (res a b w h i j * res a b w h i j : EReal) := by
  rw [val_main_v13_apply, val_main_v8_apply, val_main_v7_apply, val_main_cst_apply]
  have el : ∀ k, idx_main_v7 (idx_main_v8 (idx_main_v13 (ix2 i l))) k = ix2 i k := fun k => by funext a; fin_cases a <;> rfl
  simp only [el, val_main_v6_apply, reference5]
  exact (congrArg (· + _ : EReal → EReal) Scale.ofBits_zero).trans (zero_add _)

end

/-- The reference runs, keeps its arguments and ends with every counter at zero: it has none. -/
theorem reference_frame : Cert.quiescent_OutProjReferenceIdeal := by
  intro m g _
  exact (θ_run _ _ _).mono (fun r h => ⟨fun c => (h c).2.2.2, sem_eq_zero_of_no_sems (by decide) r.2⟩)
    (Cert.OutProjReferenceIdeal.Value.run m g)

theorem reference_run (m : (ℓ : Loc Cert.OutProjReferenceIdeal.nD Cert.OutProjReferenceIdeal.τ Cert.OutProjReferenceIdeal.sig) → Buf (Elt Ideal) ℓ)
    (g : Dev Cert.OutProjReferenceIdeal.nD → PrngReg) :
    θ_run Cert.OutProjReferenceIdeal.defs (onTc (τ := Cert.OutProjReferenceIdeal.τ) (Cert.OutProjReferenceIdeal.main (F := Ideal))) ⟨m, fun _ => 0, g⟩
      fun r => ∀ c : Dev Cert.OutProjReferenceIdeal.nD,
        r.2.mem ((c.tc : Thread Cert.OutProjReferenceIdeal.nD Cert.OutProjReferenceIdeal.τ).loc Cert.OutProjReferenceIdeal.main_v5)
          = Cert.OutProjReferenceIdeal.Read.val_main_v5 (F := Ideal) (m ((c.tc : Thread _ _).loc Cert.OutProjReferenceIdeal.main_arg0))
            (m ((c.tc : Thread _ _).loc Cert.OutProjReferenceIdeal.main_arg1)) (m ((c.tc : Thread _ _).loc Cert.OutProjReferenceIdeal.main_arg2))
            (m ((c.tc : Thread _ _).loc Cert.OutProjReferenceIdeal.main_arg3))
        ∧ r.2.mem ((c.tc : Thread Cert.OutProjReferenceIdeal.nD Cert.OutProjReferenceIdeal.τ).loc Cert.OutProjReferenceIdeal.main_v12)
          = Cert.OutProjReferenceIdeal.Read.val_main_v12 (F := Ideal) (m ((c.tc : Thread _ _).loc Cert.OutProjReferenceIdeal.main_arg0))
            (m ((c.tc : Thread _ _).loc Cert.OutProjReferenceIdeal.main_arg1)) (m ((c.tc : Thread _ _).loc Cert.OutProjReferenceIdeal.main_arg2))
            (m ((c.tc : Thread _ _).loc Cert.OutProjReferenceIdeal.main_arg3)) (m ((c.tc : Thread _ _).loc Cert.OutProjReferenceIdeal.main_arg4))
        ∧ r.2.mem ((c.tc : Thread Cert.OutProjReferenceIdeal.nD Cert.OutProjReferenceIdeal.τ).loc Cert.OutProjReferenceIdeal.main_v13)
          = Cert.OutProjReferenceIdeal.Read.val_main_v13 (F := Ideal) (m ((c.tc : Thread _ _).loc Cert.OutProjReferenceIdeal.main_arg0))
            (m ((c.tc : Thread _ _).loc Cert.OutProjReferenceIdeal.main_arg1)) (m ((c.tc : Thread _ _).loc Cert.OutProjReferenceIdeal.main_arg2))
            (m ((c.tc : Thread _ _).loc Cert.OutProjReferenceIdeal.main_arg3))
        ∧ r.2.mem ((c.tc : Thread _ _).loc Cert.OutProjReferenceIdeal.main_arg0) = m ((c.tc : Thread _ _).loc Cert.OutProjReferenceIdeal.main_arg0)
        ∧ r.2.mem ((c.tc : Thread _ _).loc Cert.OutProjReferenceIdeal.main_arg1) = m ((c.tc : Thread _ _).loc Cert.OutProjReferenceIdeal.main_arg1)
        ∧ r.2.mem ((c.tc : Thread _ _).loc Cert.OutProjReferenceIdeal.main_arg2) = m ((c.tc : Thread _ _).loc Cert.OutProjReferenceIdeal.main_arg2)
        ∧ r.2.mem ((c.tc : Thread _ _).loc Cert.OutProjReferenceIdeal.main_arg3) = m ((c.tc : Thread _ _).loc Cert.OutProjReferenceIdeal.main_arg3)
        ∧ r.2.mem ((c.tc : Thread _ _).loc Cert.OutProjReferenceIdeal.main_arg4) = m ((c.tc : Thread _ _).loc Cert.OutProjReferenceIdeal.main_arg4) :=
  (θ_run _ _ _).mono (fun r h c => ⟨(h c).1.trans (Cert.OutProjReferenceIdeal.Read.val_main_v5_eq _ _ _ _),
    (h c).2.1.trans (Cert.OutProjReferenceIdeal.Read.val_main_v12_eq _ _ _ _ _),
    (h c).2.2.1.trans (Cert.OutProjReferenceIdeal.Read.val_main_v13_eq _ _ _ _), (h c).2.2.2⟩) (Cert.OutProjReferenceIdeal.Value.run m g)

set_option maxRecDepth 65536 in
theorem algebraic : Cert.algebraic_OutProjIdeal_OutProjReferenceIdeal := by
  pair_intro
  · run_from Cert.OutProjIdeal.Value.run_blocks m g
  · run_from reference_run m' g'
    · refine Eq.trans (funext fun y => ?_) (final6 m c).symm
      obtain ⟨i, j, rfl⟩ := Scale.exists_ix2 (p := 16384) (q := 4096) y
      exact reference5 _ _ _ _ i j
    · refine Eq.trans (funext fun y => ?_) (final7 m c).symm
      obtain ⟨i, j, rfl⟩ := Scale.exists_ix2 (p := 16384) (q := 4096) y
      exact reference12 _ _ _ _ _ i j
    · refine Eq.trans (funext fun y => ?_) (final8 m c).symm
      obtain ⟨i, l, rfl⟩ := Scale.exists_ix2 (p := 16384) (q := 128) y
      exact reference13 _ _ _ _ i l

end Cert.OutProjValue

end
-- ==== Proof.PleGate.lean ====
/-
  The array the embedding gate leaves: the residual plus the logistic of the scaled product times the embedding. The body treats its
  block as two halves of 512 rows, by the same formula.
-/
module

public import proofs.«01_k».proof.Defs
public import proofs.«01_k».proof.Proof.Gen.PleGateIdeal.Value
public import proofs.«01_k».proof.Proof.Gen.PleGateReferenceIdeal.Run
public import proofs.«01_k».proof.Proof.Gen.PleGateReferenceIdeal.Read
public import proofs.«01_k».proof.Proof.Scale
public import Idealize.ShloMosaic.Lib.Pipeline.ValueKit
public import Idealize.ShloMosaic.Lib.Pipeline.ReadBack
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.PleGateValue

open Cert.PleGateIdeal Cert.PleGateIdeal.Gen

instance preFacts : Cert.Pre_squares_gate.Facts where
  slices_S16384x128_S16384x1_0_0 := by decide
  bcast_S_S16384x1 := by decide

theorem sq_of_pre {a : Vec Ideal S16384x4096 .bf16} {s : Vec Ideal S16384x128 .f32} {w : Vec Ideal S4096x4096 .bf16}
    {h e : Vec Ideal S16384x4096 .f32} (hp : Cert.Pre_squares_gate.fn (F := Ideal) a s w h e = fun _ => 1#1) (i : Fin 16384) :
    (0 : EReal) ≤ s (ix2 i 0) := by
  have e := congrFun hp (ix2 i 0)
  unfold Cert.Pre_squares_gate.fn at e
  dsimp only at e
  pointwise at e
  exact Scale.ofBool_one.1 e

/-- One element: the residual `h`, a row `a` and a column `w`, the row's sum of squares `s`, and the embedding `e`. -/
def gated (h : EReal) (a w : Fin 4096 → EReal) (s e : EReal) : EReal :=
  h + Ideal.logistic ((∑ k, a k * w k) * Scale.row s) * e

theorem pay2_apply (s : Vec Ideal S512x1 .f32) (a : Vec Ideal S512x4096 .bf16) (w : Vec Ideal S4096x512 .bf16) (h e : Vec Ideal S512x512 .f32)
    (i j : Fin 512) : k0_pay2 s a w h e (ix2 i j)
      = gated (h (ix2 i j)) (fun k => a (ix2 i k)) (fun k => w (ix2 k j)) (s (ix2 i 0)) (e (ix2 i j)) := by
  unfold k0_pay2 gated
  rw [← Scale.gate]
  pointwise
  rfl

theorem pay1_apply (s : Vec Ideal S512x1 .f32) (a : Vec Ideal S512x4096 .bf16) (w : Vec Ideal S4096x512 .bf16) (h e : Vec Ideal S512x512 .f32) :
    k0_pay1 (k0_pay3 s) a w h e = k0_pay2 s a w h e := rfl

/-- The output block from the blocks read. -/
def blockOf (x0 : Vec Ideal S1024x4096 .bf16) (x1 : Vec Ideal S4096x512 .bf16) (x2 : Vec Ideal S1024x128 .f32) (x3 x4 : Vec Ideal S1024x512 .f32) :
    Vec Ideal S1024x512 .f32 :=
  fun y => gated (x3 y) (fun k => x0 (ix2 (y 0) k)) (fun k => x1 (ix2 k (y 1))) (x2 (ix2 (y 0) 0)) (x4 y)

/-- One half's store is the rows of the block from row `o` on. -/
theorem half (x0 : Vec Ideal S1024x4096 .bf16) (x1 : Vec Ideal S4096x512 .bf16) (x2 : Vec Ideal S1024x128 .f32) (x3 x4 : Vec Ideal S1024x512 .f32)
    (o : ℕ) (ho : o ≤ 512) (i0 i2 i3) (z : S512x512.Idx) :
    k0_pay2 (View.ld x2 (Rect.unit (s := S1024x128) ![o, 0] S512x1.size i2)) (View.ld x0 (Rect.unit (s := S1024x4096) ![o, 0] S512x4096.size i0)) x1
        (View.ld x3 (Rect.unit (s := S1024x512) ![o, 0] S512x512.size i3)) (View.ld x4 (Rect.unit (s := S1024x512) ![o, 0] S512x512.size i3)) z
      = blockOf x0 x1 x2 x3 x4 ((Rect.unit (s := S1024x512) ![o, 0] S512x512.size i3).emb z) := by
  obtain ⟨i, j, rfl⟩ := Scale.exists_ix2 (p := 512) (q := 512) z
  have hi := i.isLt
  have e : (Rect.unit (s := S1024x512) ![o, 0] S512x512.size i3).emb (ix2 i j) = ix2 (⟨o + i.val, by omega⟩ : Fin 1024) j := by
    funext a
    apply Fin.ext
    show (![o, 0] : Fin 2 → ℕ) a + 1 * ((ix2 i j : S512x512.Idx) a).val = _
    fin_cases a <;> simp
  rw [e, pay2_apply]
  unfold blockOf
  dsimp only [ix2_0, ix2_1]
  rw [Scale.ld_apply x2 _ _ _ _ (ix2 (⟨o + i.val, by omega⟩ : Fin 1024) 0) (fun a => by fin_cases a <;> simp),
    Scale.ld_apply x3 _ _ _ _ (ix2 (⟨o + i.val, by omega⟩ : Fin 1024) j) (fun a => by fin_cases a <;> simp),
    Scale.ld_apply x4 _ _ _ _ (ix2 (⟨o + i.val, by omega⟩ : Fin 1024) j) (fun a => by fin_cases a <;> simp)]
  refine congrArg (fun f => gated _ f _ _ _) (funext fun k => ?_)
  exact Scale.ld_apply x0 _ _ _ _ (ix2 (⟨o + i.val, by omega⟩ : Fin 1024) k) (fun a => by fin_cases a <;> simp)

theorem out_apply (x0 : Vec Ideal S1024x4096 .bf16) (x1 : Vec Ideal S4096x512 .bf16) (x2 : Vec Ideal S1024x128 .f32) (x3 x4 : Vec Ideal S1024x512 .f32) :
    out0_5 x0 x1 x2 x3 x4 = blockOf x0 x1 x2 x3 x4 := by
  funext y
  unfold out0_5
  refine View.canon_apply_of_pieces (blockOf x0 x1 x2 x3 x4) _ ?_ y (cover0_5 _ _ y)
  refine View.PiecesOf.mem (Val := Elt Ideal) (s := S1024x512) (e := .f32) (G := blockOf x0 x1 x2 x3 x4) ?_
  rw [pay1_apply, View.ld_unit_zero (by decide)]
  exact ⟨half x0 x1 x2 x3 x4 512 (by omega) _ _ _, half x0 x1 x2 x3 x4 0 (by omega) _ _ _, trivial⟩

variable (m : (ℓ : Loc nD τ sig) → Buf (Elt Ideal) ℓ)

/-- Grid point `t` is row block `t / 8`, column block `t % 8`. -/
def p0 (t : Fin cfg0.N) : ℕ := (grid0.coords t 0).val
def p1 (t : Fin cfg0.N) : ℕ := (grid0.coords t 1).val
theorem p0_lt (t : Fin cfg0.N) : p0 t < 16 := (grid0.coords t 0).isLt
theorem p1_lt (t : Fin cfg0.N) : p1 t < 8 := (grid0.coords t 1).isLt

theorem idx0 : ∀ t : Fin cfg0.N, win0_0.index t = ![p0 t, 0] := (by decide +kernel : ∀ t : Fin grid0.N, _)
theorem idx1 : ∀ t : Fin cfg0.N, win0_1.index t = ![0, p1 t] := (by decide +kernel : ∀ t : Fin grid0.N, _)
theorem idx2 : ∀ t : Fin cfg0.N, win0_2.index t = ![p0 t, 0] := (by decide +kernel : ∀ t : Fin grid0.N, _)
theorem idx3 : ∀ t : Fin cfg0.N, win0_3.index t = ![p0 t, p1 t] := (by decide +kernel : ∀ t : Fin grid0.N, _)
theorem idx4 : ∀ t : Fin cfg0.N, win0_4.index t = ![p0 t, p1 t] := (by decide +kernel : ∀ t : Fin grid0.N, _)
theorem idx5 : ∀ t : Fin cfg0.N, win0_5.index t = ![p0 t, p1 t] := (by decide +kernel : ∀ t : Fin grid0.N, _)

/-- The whole result. -/
def gateOf (a : Vec Ideal S16384x4096 .bf16) (s : Vec Ideal S16384x128 .f32) (w : Vec Ideal S4096x4096 .bf16)
    (h e : Vec Ideal S16384x4096 .f32) (y : S16384x4096.Idx) : EReal :=
  gated (h y) (fun k => a (ix2 (y 0) k)) (fun k => w (ix2 k (y 1))) (s (ix2 (y 0) 0)) (e y)

theorem final5 (c : Dev nD) : (dats m 0 c).arrAt 5 cfg0.N = gateOf (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have h0 := p0_lt t
  have h1 := p1_lt t
  obtain ⟨i, j, rfl⟩ := Scale.exists_ix2 (p := 1024) (q := 512) y
  blk_simp
  rw [after0_5, out_apply]
  unfold gateOf blockOf
  have ea : ∀ k : Fin 4096, iblk m c 0 t (ix2 i k) = m ((c : Thread nD τ).loc main_arg0) (ix2 ((win0_5.blk t).view.emb (ix2 i j) 0) k) := by
    intro k
    blk_simp [iblk, V_main_arg0]
    congr 1
    blk_ext [idx0 t, idx5 t]
  have ew : ∀ k : Fin 4096, iblk m c 1 t (ix2 k j) = m ((c : Thread nD τ).loc main_arg2) (ix2 k ((win0_5.blk t).view.emb (ix2 i j) 1)) := by
    intro k
    blk_simp [iblk, V_main_arg2]
    congr 1
    blk_ext [idx1 t, idx5 t]
  have es : iblk m c 2 t (ix2 i 0) = m ((c : Thread nD τ).loc main_arg1) (ix2 ((win0_5.blk t).view.emb (ix2 i j) 0) 0) := by
    blk_simp [iblk, V_main_arg1]
    congr 1
    blk_ext [idx2 t, idx5 t]
  have eh : iblk m c 3 t (ix2 i j) = m ((c : Thread nD τ).loc main_arg3) ((win0_5.blk t).view.emb (ix2 i j)) := by
    blk_simp [iblk, V_main_arg3]
    congr 1
    blk_ext [idx3 t, idx5 t]
  have ee : iblk m c 4 t (ix2 i j) = m ((c : Thread nD τ).loc main_arg4) ((win0_5.blk t).view.emb (ix2 i j)) := by
    blk_simp [iblk, V_main_arg4]
    congr 1
    blk_ext [idx4 t, idx5 t]
  simp only [ix2_0, ix2_1, ea, ew, es, eh, ee]

open Cert.PleGateReferenceIdeal.Read in
theorem reference (a : Vec Ideal S16384x4096 .bf16) (s : Vec Ideal S16384x128 .f32) (w : Vec Ideal S4096x4096 .bf16)
    (h e : Vec Ideal S16384x4096 .f32) (hs : ∀ i, (0 : EReal) ≤ s (ix2 i 0)) (i : Fin 16384) (j : Fin 4096) :
    val_main_v18 (F := Ideal) a s w h e (ix2 i j) = gateOf a s w h e (ix2 i j) := by
  rw [val_main_v18_apply, val_main_v17_apply, val_main_v16_apply, val_main_v15_apply, val_main_v14_apply, val_main_v13_apply,
    val_main_v12_apply, val_main_v11_apply, val_main_cst_1_apply, val_main_cst_2_apply, val_main_v10_apply]
  simp only [val_main_v9_apply, val_main_v8_apply, val_main_v7_apply, val_main_v6_apply, val_main_v5_apply, val_main_v4_apply,
    val_main_v3_apply, val_main_v2_apply, val_main_v1_apply, val_main_v0_apply, val_main_cst_apply, val_main_cst_0_apply]
  have el : ∀ k, lidx_main_v10 (ix2 i j) k = ix2 i k := fun k => by funext a; fin_cases a <;> rfl
  have er : ∀ k, ridx_main_v10 (ix2 i j) k = ix2 k j := fun k => by funext a; fin_cases a <;> rfl
  have es : ∀ k, idx_main_v1 (idx_main_v7 (ix2 i k)) = ix2 i 0 := fun k => by funext a; fin_cases a <;> rfl
  simp only [el, er, es]
  show (h (ix2 i j) + Ideal.div (Ideal.ofBits .f32 0x3F800000#32) (Ideal.ofBits .f32 0x3F800000#32
    + Ideal.exp (-(∑ k, (a (ix2 i k) : EReal) * Scale.row (s (ix2 i 0)) * w (ix2 k j)))) * e (ix2 i j) : EReal) = _
  rw [Scale.row_sum (hs i), Scale.ofBits_one]
  rfl

/-- The reference runs, keeps its arguments and ends with every counter at zero: it has none. -/
theorem reference_frame : Cert.quiescent_PleGateReferenceIdeal := by
  intro m g _
  exact (θ_run _ _ _).mono (fun r h => ⟨fun c => (h c).2, sem_eq_zero_of_no_sems (by decide) r.2⟩)
    (Cert.PleGateReferenceIdeal.Value.run m g)

set_option maxRecDepth 65536 in
theorem algebraic : Cert.algebraic_PleGateIdeal_PleGateReferenceIdeal_pre_squares_gate := by
  pair_intro
  · run_from Cert.PleGateIdeal.Value.run_blocks m g
  · run_from Cert.PleGateReferenceIdeal.Value.run m' g'
    refine (Cert.PleGateReferenceIdeal.Read.val_main_v18_eq (F := Ideal) _ _ _ _ _).trans ((funext fun y => ?_).trans (final5 m c).symm)
    obtain ⟨i, j, rfl⟩ := Scale.exists_ix2 (p := 16384) (q := 4096) y
    exact reference _ _ _ _ _ (sq_of_pre (hpre c)) i j

end Cert.PleGateValue

end
-- ==== Proof.FinalNorm.lean ====
/- The array the last normalisation leaves: each row times its row factor and the gain of its column. -/
module

public import proofs.«01_k».proof.Defs
public import proofs.«01_k».proof.Proof.Gen.FinalNormIdeal.Value
public import proofs.«01_k».proof.Proof.Gen.FinalNormReferenceIdeal.Run
public import proofs.«01_k».proof.Proof.Gen.FinalNormReferenceIdeal.Read
public import proofs.«01_k».proof.Proof.Scale
public import Idealize.ShloMosaic.Lib.Pipeline.ValueKit
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.FinalNormValue

open Cert.FinalNormIdeal Cert.FinalNormIdeal.Gen

/-- The normalised rows. -/
def norm (h : Vec Ideal S16384x4096 .f32) (g : Vec Ideal S4096 .f32) (i : Fin 16384) (j : Fin 4096) : EReal :=
  h (ix2 i j) * Scale.row (∑ k : Fin 4096, (h (ix2 i k) : EReal) * h (ix2 i k)) * g (ix1 j)

theorem pay1_apply (h : Vec Ideal S256x4096 .f32) (g : Vec Ideal S1x4096 .f32) (i : Fin 256) (j : Fin 4096) :
    k0_pay1 h g (ix2 i j) = (h (ix2 i j) * Scale.row (∑ k : Fin 4096, (h (ix2 i k) : EReal) * h (ix2 i k)) * g (ix2 0 j) : EReal) := by
  unfold k0_pay1
  pointwise
  rfl

variable (m : (ℓ : Loc nD τ sig) → Buf (Elt Ideal) ℓ)

set_option maxRecDepth 65536 in
/-- The gains as the call reads them: one row of the argument. -/
theorem gains (c : Dev nD) (j : Fin 4096) : V m c main_v0 (ix2 0 j) = m ((c : Thread nD τ).loc main_arg1) (ix1 j) := by
  entry_read
  show shapeCast S1x4096 (m ((c : Thread nD τ).loc main_arg1) : Vec Ideal S4096 .f32) shapeCasts_S4096_S1x4096 (ix2 0 j) = _
  pointwise

def p0 (t : Fin cfg0.N) : ℕ := (grid0.coords t 0).val
theorem p0_lt (t : Fin cfg0.N) : p0 t < 64 := (grid0.coords t 0).isLt

theorem idx0 : ∀ t : Fin cfg0.N, win0_0.index t = ![p0 t, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![p0 t, 0] := (by decide +kernel : ∀ t : Fin grid0.N, _)

theorem final2 (c : Dev nD) : (dats m 0 c).arrAt 2 cfg0.N
    = fun y => norm (m ((c : Thread nD τ).loc main_arg0)) (m ((c : Thread nD τ).loc main_arg1)) (y 0) (y 1) := by
  refine (dats m 0 c).arrAt_eq_of_covers 2 _ (by decide +kernel) fun t hf y => ?_
  have h0 := p0_lt t
  obtain ⟨i, j, rfl⟩ := Scale.exists_ix2 (p := 256) (q := 4096) y
  blk_simp
  rw [after0_2]
  unfold out0_2 norm
  rw [View.canon_unit_zero (by decide), View.ld_unit_zero (by decide), View.ld_unit_zero (by decide), pay1_apply]
  have ej : ((win0_2.blk t).view.emb (ix2 i j) 1 : Fin 4096) = j := by
    apply Fin.ext
    blk_simp [idx2 t]
  have ea : ∀ k : Fin 4096, iblk m c 0 t (ix2 i k) = m ((c : Thread nD τ).loc main_arg0) (ix2 ((win0_2.blk t).view.emb (ix2 i j) 0) k) := by
    intro k
    blk_simp [iblk, V_main_arg0]
    congr 1
    blk_ext [idx0 t, idx2 t]
  have eg : iblk m c 1 t (ix2 0 j) = m ((c : Thread nD τ).loc main_arg1) (ix1 j) := by
    rw [← gains m c j]
    blk_simp [iblk]
    congr 1
    blk_ext [idx1 t]
  simp only [ea, eg]
  rw [ej]

open Cert.FinalNormReferenceIdeal.Read in
theorem reference (h : Vec Ideal S16384x4096 .f32) (g : Vec Ideal S4096 .f32) (i : Fin 16384) (j : Fin 4096) :
    val_main_v12 (F := Ideal) h g (ix2 i j) = norm h g i j := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_cst_apply, val_main_cst_0_apply,
    val_main_cst_1_apply]
  simp only [val_main_v0_apply]
  have el : ∀ k, idx_main_v1 (idx_main_v2 (idx_main_v8 (ix2 i j))) k = ix2 i k := fun k => by funext a; fin_cases a <;> rfl
  have eg : idx_main_v10 (idx_main_v11 (ix2 i j)) = ix1 j := by funext a; fin_cases a; rfl
  simp only [el, eg]
  unfold norm
  rw [← zero_add (∑ k : Fin 4096, (h (ix2 i k) : EReal) * h (ix2 i k)), ← Scale.ofBits_zero]
  rfl

/-- The reference runs, keeps its arguments and ends with every counter at zero: it has none. -/
theorem reference_frame : Cert.quiescent_FinalNormReferenceIdeal := by
  intro m g _
  exact (θ_run _ _ _).mono (fun r h => ⟨fun c => (h c).2, sem_eq_zero_of_no_sems (by decide) r.2⟩)
    (Cert.FinalNormReferenceIdeal.Value.run m g)

set_option maxRecDepth 65536 in
theorem algebraic : Cert.algebraic_FinalNormIdeal_FinalNormReferenceIdeal := by
  pair_intro
  · run_from Cert.FinalNormIdeal.Value.run_blocks m g
  · run_from Cert.FinalNormReferenceIdeal.Value.run m' g'
    refine (Cert.FinalNormReferenceIdeal.Read.val_main_v12_eq (F := Ideal) _ _).trans ((funext fun y => ?_).trans (final2 m c).symm)
    obtain ⟨i, j, rfl⟩ := Scale.exists_ix2 (p := 16384) (q := 4096) y
    exact reference _ _ i j

end Cert.FinalNormValue

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Claims
public import proofs.«01_k».proof.Proof.Gen.MlpUp
public import proofs.«01_k».proof.Proof.Gen.MlpUp.Frame
public import proofs.«01_k».proof.Proof.MlpUp
public import proofs.«01_k».proof.Proof.Gen.MlpDown
public import proofs.«01_k».proof.Proof.Gen.MlpDown.Frame
public import proofs.«01_k».proof.Proof.MlpDown
public import proofs.«01_k».proof.Proof.Gen.InProj
public import proofs.«01_k».proof.Proof.Gen.InProj.Frame
public import proofs.«01_k».proof.Proof.InProj
public import proofs.«01_k».proof.Proof.Gen.OutProj
public import proofs.«01_k».proof.Proof.Gen.OutProj.Frame
public import proofs.«01_k».proof.Proof.OutProj
public import proofs.«01_k».proof.Proof.Gen.PleGate
public import proofs.«01_k».proof.Proof.Gen.PleGate.Frame
public import proofs.«01_k».proof.Proof.PleGate
public import proofs.«01_k».proof.Proof.Gen.FinalNorm
public import proofs.«01_k».proof.Proof.Gen.FinalNorm.Frame
public import proofs.«01_k».proof.Proof.FinalNorm
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.MlpUp.Gen.facts, Cert.MlpUpIdeal.Gen.facts, Cert.MlpUpReferenceIdeal.Gen.facts,
    Cert.MlpDown.Gen.facts, Cert.MlpDownIdeal.Gen.facts, Cert.MlpDownReferenceIdeal.Gen.facts,
    Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.PleGate.Gen.facts, Cert.PleGateIdeal.Gen.facts, Cert.PleGateReferenceIdeal.Gen.facts,
    Cert.FinalNorm.Gen.facts, Cert.FinalNormIdeal.Gen.facts, Cert.FinalNormReferenceIdeal.Gen.facts,
    Cert.Attn.preFacts, Cert.MlpUpValue.preFacts, Cert.InProjValue.preFacts, Cert.PleGateValue.preFacts,
    fun m g _ => Cert.Kernel.Gen.frame m g, fun m g _ => Cert.KernelIdeal.Gen.frame m g,
    fun m g _ => Cert.KernelIdeal.Gen.frame m g, Cert.Attn.reference_frame,
    fun m g _ => Cert.Attn.reference_frame m g trivial,
    fun m g _ => Cert.MlpUp.Gen.frame m g, fun m g _ => Cert.MlpUpIdeal.Gen.frame m g,
    fun m g _ => Cert.MlpUpIdeal.Gen.frame m g, Cert.MlpUpValue.reference_frame, fun m g _ => Cert.MlpUpValue.reference_frame m g trivial,
    fun m g _ => Cert.MlpDown.Gen.frame m g, fun m g _ => Cert.MlpDownIdeal.Gen.frame m g,
    Cert.MlpDownValue.reference_frame,
    fun m g _ => Cert.InProj.Gen.frame m g, fun m g _ => Cert.InProjIdeal.Gen.frame m g,
    fun m g _ => Cert.InProjIdeal.Gen.frame m g, Cert.InProjValue.reference_frame, fun m g _ => Cert.InProjValue.reference_frame m g trivial,
    fun m g _ => Cert.OutProj.Gen.frame m g, fun m g _ => Cert.OutProjIdeal.Gen.frame m g,
    Cert.OutProjValue.reference_frame,
    fun m g _ => Cert.PleGate.Gen.frame m g, fun m g _ => Cert.PleGateIdeal.Gen.frame m g,
    fun m g _ => Cert.PleGateIdeal.Gen.frame m g, Cert.PleGateValue.reference_frame, fun m g _ => Cert.PleGateValue.reference_frame m g trivial,
    fun m g _ => Cert.FinalNorm.Gen.frame m g, fun m g _ => Cert.FinalNormIdeal.Gen.frame m g,
    Cert.FinalNormValue.reference_frame,
    trivial, Cert.Attn.algebraic,
    trivial, Cert.MlpUpValue.algebraic, trivial, Cert.MlpDownValue.algebraic, trivial, Cert.InProjValue.algebraic,
    trivial, Cert.OutProjValue.algebraic, trivial, Cert.PleGateValue.algebraic, trivial, Cert.FinalNormValue.algebraic⟩

end Cert.Proof

end
